-- ==== Defs.lean ====
def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatIdeal_finite [hPre_finite : Cert.Pre_finite.Facts] (m : (ℓ : Loc Cert.LatIdeal.nD Cert.LatIdeal.τ Cert.LatIdeal.sig) → Buf (Elt Ideal) ℓ) : Prop :=
  ∀ c : Dev Cert.LatIdeal.nD,
    (Cert.Pre_finite.fn (F := Ideal) (m ((c.tc : Thread Cert.LatIdeal.nD Cert.LatIdeal.τ).loc Cert.LatIdeal.main_arg0)) (m ((c.tc : Thread Cert.LatIdeal.nD Cert.LatIdeal.τ).loc Cert.LatIdeal.main_arg1)) (m ((c.tc : Thread Cert.LatIdeal.nD Cert.LatIdeal.τ).loc Cert.LatIdeal.main_arg2)) (m ((c.tc : Thread Cert.LatIdeal.nD Cert.LatIdeal.τ).loc Cert.LatIdeal.main_arg3)) (m ((c.tc : Thread Cert.LatIdeal.nD Cert.LatIdeal.τ).loc Cert.LatIdeal.main_arg4))) = (fun _ => 1#1)

def Pre_LatRefIdeal (m : (ℓ : Loc Cert.LatRefIdeal.nD Cert.LatRefIdeal.τ Cert.LatRefIdeal.sig) → Buf (Elt Ideal) ℓ) : Prop :=
  True

def Pre_LatRefIdeal_finite [hPre_finite : Cert.Pre_finite.Facts] (m : (ℓ : Loc Cert.LatRefIdeal.nD Cert.LatRefIdeal.τ Cert.LatRefIdeal.sig) → Buf (Elt Ideal) ℓ) : Prop :=
  ∀ c : Dev Cert.LatRefIdeal.nD,
    (Cert.Pre_finite.fn (F := Ideal) (m ((c.tc : Thread Cert.LatRefIdeal.nD Cert.LatRefIdeal.τ).loc Cert.LatRefIdeal.main_arg0)) (m ((c.tc : Thread Cert.LatRefIdeal.nD Cert.LatRefIdeal.τ).loc Cert.LatRefIdeal.main_arg1)) (m ((c.tc : Thread Cert.LatRefIdeal.nD Cert.LatRefIdeal.τ).loc Cert.LatRefIdeal.main_arg2)) (m ((c.tc : Thread Cert.LatRefIdeal.nD Cert.LatRefIdeal.τ).loc Cert.LatRefIdeal.main_arg3)) (m ((c.tc : Thread Cert.LatRefIdeal.nD Cert.LatRefIdeal.τ).loc Cert.LatRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ r.2.sem = fun _ => 0)

def quiescent_LatIdeal_pre_finite [hLatIdeal : Cert.LatIdeal.Facts] [hPre_finite : Cert.Pre_finite.Facts] : Prop :=
  ∀ (m : (ℓ : Loc Cert.LatIdeal.nD Cert.LatIdeal.τ Cert.LatIdeal.sig) → Buf (Elt Ideal) ℓ) (g : Dev Cert.LatIdeal.nD → PrngReg), Pre_LatIdeal_finite m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4))
      ∧ r.2.sem = fun _ => 0)

def quiescent_LatRefIdeal_pre_finite [hLatRefIdeal : Cert.LatRefIdeal.Facts] [hPre_finite : Cert.Pre_finite.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal_finite m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3)
      ∧ r.2.mem ((c.tc : Thread Cert.Rope.nD Cert.Rope.τ).loc Cert.Rope.main_arg4) = m ((c.tc : Thread Cert.Rope.nD Cert.Rope.τ).loc Cert.Rope.main_arg4)
      ∧ r.2.mem ((c.tc : Thread Cert.Rope.nD Cert.Rope.τ).loc Cert.Rope.main_arg5) = m ((c.tc : Thread Cert.Rope.nD Cert.Rope.τ).loc Cert.Rope.main_arg5))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
      ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4)
      ∧ r.2.mem ((c.tc : Thread Cert.RopeIdeal.nD Cert.RopeIdeal.τ).loc Cert.RopeIdeal.main_arg5) = m ((c.tc : Thread Cert.RopeIdeal.nD Cert.RopeIdeal.τ).loc Cert.RopeIdeal.main_arg5))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m ((c.tc : Thread Cert.RopeRefIdeal.nD Cert.RopeRefIdeal.τ).loc Cert.RopeRefIdeal.main_arg3)
      ∧ r.2.mem ((c.tc : Thread Cert.RopeRefIdeal.nD Cert.RopeRefIdeal.τ).loc Cert.RopeRefIdeal.main_arg4) = m ((c.tc : Thread Cert.RopeRefIdeal.nD Cert.RopeRefIdeal.τ).loc Cert.RopeRefIdeal.main_arg4)
      ∧ r.2.mem ((c.tc : Thread Cert.RopeRefIdeal.nD Cert.RopeRefIdeal.τ).loc Cert.RopeRefIdeal.main_arg5) = m ((c.tc : Thread Cert.RopeRefIdeal.nD Cert.RopeRefIdeal.τ).loc Cert.RopeRefIdeal.main_arg5))
      ∧ r.2.sem = fun _ => 0)

def preserves_Lat_LatIdeal : Prop :=
  True

def algebraic_LatIdeal_LatRefIdeal_pre_finite [hLatIdeal : Cert.LatIdeal.Facts] [hLatRefIdeal : Cert.LatRefIdeal.Facts] [hPre_finite : Cert.Pre_finite.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal_finite m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)
      ∧ m' ((c.tc : Thread Cert.LatRefIdeal.nD Cert.LatRefIdeal.τ).loc Cert.LatRefIdeal.main_arg3) = m ((c.tc : Thread Cert.LatIdeal.nD Cert.LatIdeal.τ).loc Cert.LatIdeal.main_arg3)
      ∧ m' ((c.tc : Thread Cert.LatRefIdeal.nD Cert.LatRefIdeal.τ).loc Cert.LatRefIdeal.main_arg4) = m ((c.tc : Thread Cert.LatIdeal.nD Cert.LatIdeal.τ).loc Cert.LatIdeal.main_arg4)) →
    ∃ (v0 : (c : Dev Cert.LatIdeal.nD) → Buf (Elt Ideal) ((c.tc : Thread Cert.LatIdeal.nD Cert.LatIdeal.τ).loc Cert.LatIdeal.main_v15)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v15) = v0 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v26) = v0 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v23) = v0 c
          ∧ r.2.mem ((c.tc : Thread Cert.FfnRefIdeal.nD Cert.FfnRefIdeal.τ).loc Cert.FfnRefIdeal.main_v47) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v9_0)) (v1 : (c : Dev Cert.QkvIdeal.nD) → Buf (Elt Ideal) ((c.tc : Thread Cert.QkvIdeal.nD Cert.QkvIdeal.τ).loc Cert.QkvIdeal.main_v9_1)) (v2 : (c : Dev Cert.QkvIdeal.nD) → Buf (Elt Ideal) ((c.tc : Thread Cert.QkvIdeal.nD Cert.QkvIdeal.τ).loc Cert.QkvIdeal.main_v9_2)) (v3 : (c : Dev Cert.QkvIdeal.nD) → Buf (Elt Ideal) ((c.tc : Thread Cert.QkvIdeal.nD Cert.QkvIdeal.τ).loc Cert.QkvIdeal.main_v10)) (v4 : (c : Dev Cert.QkvIdeal.nD) → Buf (Elt Ideal) ((c.tc : Thread Cert.QkvIdeal.nD Cert.QkvIdeal.τ).loc Cert.QkvIdeal.main_v11)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v9_0) = v0 c
          ∧ r.2.mem ((c.tc : Thread Cert.QkvIdeal.nD Cert.QkvIdeal.τ).loc Cert.QkvIdeal.main_v9_1) = v1 c
          ∧ r.2.mem ((c.tc : Thread Cert.QkvIdeal.nD Cert.QkvIdeal.τ).loc Cert.QkvIdeal.main_v9_2) = v2 c
          ∧ r.2.mem ((c.tc : Thread Cert.QkvIdeal.nD Cert.QkvIdeal.τ).loc Cert.QkvIdeal.main_v10) = v3 c
          ∧ r.2.mem ((c.tc : Thread Cert.QkvIdeal.nD Cert.QkvIdeal.τ).loc Cert.QkvIdeal.main_v11) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v64) = v0 c
          ∧ r.2.mem ((c.tc : Thread Cert.QkvRefIdeal.nD Cert.QkvRefIdeal.τ).loc Cert.QkvRefIdeal.main_v66) = v1 c
          ∧ r.2.mem ((c.tc : Thread Cert.QkvRefIdeal.nD Cert.QkvRefIdeal.τ).loc Cert.QkvRefIdeal.main_v68) = v2 c
          ∧ r.2.mem ((c.tc : Thread Cert.QkvRefIdeal.nD Cert.QkvRefIdeal.τ).loc Cert.QkvRefIdeal.main_v69) = v3 c
          ∧ r.2.mem ((c.tc : Thread Cert.QkvRefIdeal.nD Cert.QkvRefIdeal.τ).loc Cert.QkvRefIdeal.main_v70) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)
      ∧ m' ((c.tc : Thread Cert.RopeRefIdeal.nD Cert.RopeRefIdeal.τ).loc Cert.RopeRefIdeal.main_arg3) = m ((c.tc : Thread Cert.RopeIdeal.nD Cert.RopeIdeal.τ).loc Cert.RopeIdeal.main_arg3)
      ∧ m' ((c.tc : Thread Cert.RopeRefIdeal.nD Cert.RopeRefIdeal.τ).loc Cert.RopeRefIdeal.main_arg4) = m ((c.tc : Thread Cert.RopeIdeal.nD Cert.RopeIdeal.τ).loc Cert.RopeIdeal.main_arg4)
      ∧ m' ((c.tc : Thread Cert.RopeRefIdeal.nD Cert.RopeRefIdeal.τ).loc Cert.RopeRefIdeal.main_arg5) = m ((c.tc : Thread Cert.RopeIdeal.nD Cert.RopeIdeal.τ).loc Cert.RopeIdeal.main_arg5)) →
    ∃ (v0 : (c : Dev Cert.RopeIdeal.nD) → Buf (Elt Ideal) ((c.tc : Thread Cert.RopeIdeal.nD Cert.RopeIdeal.τ).loc Cert.RopeIdeal.main_v44_0)) (v1 : (c : Dev Cert.RopeIdeal.nD) → Buf (Elt Ideal) ((c.tc : Thread Cert.RopeIdeal.nD Cert.RopeIdeal.τ).loc Cert.RopeIdeal.main_v44_1)) (v2 : (c : Dev Cert.RopeIdeal.nD) → Buf (Elt Ideal) ((c.tc : Thread Cert.RopeIdeal.nD Cert.RopeIdeal.τ).loc Cert.RopeIdeal.main_v44_2)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v44_0) = v0 c
          ∧ r.2.mem ((c.tc : Thread Cert.RopeIdeal.nD Cert.RopeIdeal.τ).loc Cert.RopeIdeal.main_v44_1) = v1 c
          ∧ r.2.mem ((c.tc : Thread Cert.RopeIdeal.nD Cert.RopeIdeal.τ).loc Cert.RopeIdeal.main_v44_2) = v2 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
          ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4)
          ∧ r.2.mem ((c.tc : Thread Cert.RopeIdeal.nD Cert.RopeIdeal.τ).loc Cert.RopeIdeal.main_arg5) = m ((c.tc : Thread Cert.RopeIdeal.nD Cert.RopeIdeal.τ).loc Cert.RopeIdeal.main_arg5))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v215) = v0 c
          ∧ r.2.mem ((c.tc : Thread Cert.RopeRefIdeal.nD Cert.RopeRefIdeal.τ).loc Cert.RopeRefIdeal.main_v217) = v1 c
          ∧ r.2.mem ((c.tc : Thread Cert.RopeRefIdeal.nD Cert.RopeRefIdeal.τ).loc Cert.RopeRefIdeal.main_v219) = v2 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2)
          ∧ r.2.mem ((c.tc : Thread Cert.RopeRefIdeal.nD Cert.RopeRefIdeal.τ).loc Cert.RopeRefIdeal.main_arg3) = m' ((c.tc : Thread Cert.RopeRefIdeal.nD Cert.RopeRefIdeal.τ).loc Cert.RopeRefIdeal.main_arg3)
          ∧ r.2.mem ((c.tc : Thread Cert.RopeRefIdeal.nD Cert.RopeRefIdeal.τ).loc Cert.RopeRefIdeal.main_arg4) = m' ((c.tc : Thread Cert.RopeRefIdeal.nD Cert.RopeRefIdeal.τ).loc Cert.RopeRefIdeal.main_arg4)
          ∧ r.2.mem ((c.tc : Thread Cert.RopeRefIdeal.nD Cert.RopeRefIdeal.τ).loc Cert.RopeRefIdeal.main_arg5) = m' ((c.tc : Thread Cert.RopeRefIdeal.nD Cert.RopeRefIdeal.τ).loc Cert.RopeRefIdeal.main_arg5))

def Claim : Prop :=
  ∃ (hLat : Cert.Lat.Facts) (hLatIdeal : Cert.LatIdeal.Facts) (hLatRefIdeal : Cert.LatRefIdeal.Facts) (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hRope : Cert.Rope.Facts) (hRopeIdeal : Cert.RopeIdeal.Facts) (hRopeRefIdeal : Cert.RopeRefIdeal.Facts) (hPre_finite : Cert.Pre_finite.Facts),
    quiescent_Lat (hLat := hLat)
    ∧ quiescent_LatIdeal (hLatIdeal := hLatIdeal)
    ∧ quiescent_LatIdeal_pre_finite (hLatIdeal := hLatIdeal) (hPre_finite := hPre_finite)
    ∧ quiescent_LatRefIdeal (hLatRefIdeal := hLatRefIdeal)
    ∧ quiescent_LatRefIdeal_pre_finite (hLatRefIdeal := hLatRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Rope (hRope := hRope)
    ∧ quiescent_RopeIdeal (hRopeIdeal := hRopeIdeal)
    ∧ quiescent_RopeRefIdeal (hRopeRefIdeal := hRopeRefIdeal)
    ∧ preserves_Lat_LatIdeal
    ∧ algebraic_LatIdeal_LatRefIdeal_pre_finite (hLatIdeal := hLatIdeal) (hLatRefIdeal := hLatRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_Rope_RopeIdeal
    ∧ algebraic_RopeIdeal_RopeRefIdeal (hRopeIdeal := hRopeIdeal) (hRopeRefIdeal := hRopeRefIdeal)
-- ==== Pre_finite.lean ====
abbrev S8192x1024 : Shape := ⟨2, ![8192, 1024]⟩
abbrev S8192x256 : Shape := ⟨2, ![8192, 256]⟩
abbrev S2x1x256x2x128 : Shape := ⟨5, ![2, 1, 256, 2, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S2x1x256x2x128 : S_.BroadcastsInDim S2x1x256x2x128 (![] : Fin 0 → Fin S2x1x256x2x128.rank)
  reducesTo_S2x1x256x2x128_S_d0_1_2_3_4 : S2x1x256x2x128.ReducesTo [0, 1, 2, 3, 4] S_

variable [Facts]

def fn {F : FTy → Type} [FloatOps F] (main_arg0 : FVec F S8192x1024 .f32) (main_arg1 : FVec F S8192x256 .f32) (main_arg2 : FVec F S8192x256 .f32) (main_arg3 : FVec F S2x1x256x2x128 .f32) (main_arg4 : FVec F S2x1x256x2x128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S2x1x256x2x128 .f32 := Host.absf main_arg3
  let main_cst_2 : FVec F S_ .f32 := constant S_ .f32 0x7F800000#32
  let main_v10 : FVec F S2x1x256x2x128 .f32 := broadcastInDim S2x1x256x2x128 ![] bcast_S_S2x1x256x2x128 main_cst_2
  let main_v11 : IVec S2x1x256x2x128 1 := cmpf .olt main_v9 main_v10
  let main_c_3 : IVec S_ 1 := constantI S_ 1 1#1
  let main_v12 : IVec S_ 1 := (fun x v => Host.reduce IntOp.andi x v reducesTo_S2x1x256x2x128_S_d0_1_2_3_4 h_S_) main_v11 main_c_3
  let main_v13 : IVec S_ 1 := andi main_v8 main_v12
  main_v13
-- ==== Lat.lean ====
abbrev S8192x1024 : Shape := ⟨2, ![8192, 1024]⟩
abbrev S8192x256 : Shape := ⟨2, ![8192, 256]⟩
abbrev S2x1x256x2x128 : Shape := ⟨5, ![2, 1, 256, 2, 128]⟩
abbrev S_ : Shape := ⟨0, ![]⟩
abbrev S2x256x2x128 : Shape := ⟨4, ![2, 256, 2, 128]⟩
abbrev S2x256x256 : Shape := ⟨3, ![2, 256, 256]⟩
abbrev S1024x512 : Shape := ⟨2, ![1024, 512]⟩
abbrev S4096x128 : Shape := ⟨2, ![4096, 128]⟩
abbrev S1x256x128 : Shape := ⟨3, ![1, 256, 128]⟩
abbrev S256x128 : Shape := ⟨2, ![256, 128]⟩
abbrev S256x256 : Shape := ⟨2, ![256, 256]⟩
abbrev S1024x128 : Shape := ⟨2, ![1024, 128]⟩
abbrev S4096x256 : Shape := ⟨2, ![4096, 256]⟩
abbrev S4096 : Shape := ⟨1, ![4096]⟩
abbrev S4096x1 : Shape := ⟨2, ![4096, 1]⟩

abbrev nBuf : Space → Nat
  | .hbm => 24
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S2x1x256x2x128, .f32⟩
  | .hbm, ⟨4, _⟩ => ⟨S2x1x256x2x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .bf16⟩
  | .hbm, ⟨15, _⟩ => ⟨S2x256x2x128, .f32⟩
  | .hbm, ⟨16, _⟩ => ⟨S2x256x256, .f32⟩
  | .hbm, ⟨17, _⟩ => ⟨S2x256x256, .bf16⟩
  | .hbm, ⟨18, _⟩ => ⟨S2x256x2x128, .f32⟩
  | .hbm, ⟨19, _⟩ => ⟨S2x256x256, .f32⟩
  | .hbm, ⟨20, _⟩ => ⟨S2x256x256, .bf16⟩
  | .hbm, ⟨21, _⟩ => ⟨S8192x256, .bf16⟩
  | .hbm, ⟨22, _⟩ => ⟨S8192x256, .bf16⟩
  | .hbm, ⟨23, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1024x512, .bf16⟩
  | .local _ .vmem, ⟨11, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== LatRefIdeal.lean ====
abbrev S8192x1024 : Shape := ⟨2, ![8192, 1024]⟩
abbrev S8192x256 : Shape := ⟨2, ![8192, 256]⟩
abbrev S2x1x256x2x128 : Shape := ⟨5, ![2, 1, 256, 2, 128]⟩
abbrev S2x4096x2x4x128 : Shape := ⟨5, ![2, 4096, 2, 4, 128]⟩
abbrev S2x4096x2x128 : Shape := ⟨4, ![2, 4096, 2, 128]⟩
abbrev S2x256x2x128 : Shape := ⟨4, ![2, 256, 2, 128]⟩
abbrev S2x4352x2x128 : Shape := ⟨4, ![2, 4352, 2, 128]⟩
abbrev S2x2x4352x4096x4 : Shape := ⟨5, ![2, 2, 4352, 4096, 4]⟩
abbrev S2x2x4x4096x4352 : Shape := ⟨5, ![2, 2, 4, 4096, 4352]⟩
abbrev S_ : Shape := ⟨0, ![]⟩
abbrev S2x2x4x4096 : Shape := ⟨4, ![2, 2, 4, 4096]⟩
abbrev S2x2x4x4096x1 : Shape := ⟨5, ![2, 2, 4, 4096, 1]⟩
abbrev S2x2x128x4x4096 : Shape := ⟨5, ![2, 2, 128, 4, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S2x1x256x2x128, .f32⟩
  | .hbm, ⟨4, _⟩ => ⟨S2x1x256x2x128, .f32⟩
  | .hbm, ⟨5, _⟩ => ⟨S2x4096x2x4x128, .f32⟩
  | .hbm, ⟨6, _⟩ => ⟨S2x4096x2x128, .f32⟩
  | .hbm, ⟨7, _⟩ => ⟨S2x256x2x128, .f32⟩
  | .hbm, ⟨8, _⟩ => ⟨S2x4352x2x128, .f32⟩
  | .hbm, ⟨9, _⟩ => ⟨S2x4096x2x128, .f32⟩
  | .hbm, ⟨10, _⟩ => ⟨S2x256x2x128, .f32⟩
  | .hbm, ⟨11, _⟩ => ⟨S2x4352x2x128, .f32⟩
  | .hbm, ⟨12, _⟩ => ⟨S2x2x4352x4096x4, .f32⟩
  | .hbm, ⟨13, _⟩ => ⟨S2x2x4x4096x4352, .f32⟩
  | .hbm, ⟨14, _⟩ => ⟨S_, .f32⟩
  | .hbm, ⟨15, _⟩ => ⟨S_, .f32⟩
  | .hbm, ⟨16, _⟩ => ⟨S2x2x4x4096x4352, .f32⟩
  | .hbm, ⟨17, _⟩ => ⟨S2x2x4x4096x4352, .f32⟩
  | .hbm, ⟨18, _⟩ => ⟨S_, .f32⟩
  | .hbm, ⟨19, _⟩ => ⟨S2x2x4x4096, .f32⟩
  | .hbm, ⟨20, _⟩ => ⟨S_, .f32⟩
  | .hbm, ⟨21, _⟩ => ⟨S2x2x4x4096, .f32⟩
  | .hbm, ⟨22, _⟩ => ⟨S2x2x4x4096, .f32⟩
  | .hbm, ⟨23, _⟩ => ⟨S2x2x4x4096x1, .f32⟩
  | .hbm, ⟨24, _⟩ => ⟨S2x2x4x4096x4352, .f32⟩
  | .hbm, ⟨25, _⟩ => ⟨S2x2x4x4096x4352, .f32⟩
  | .hbm, ⟨26, _⟩ => ⟨S2x2x4x4096x4352, .f32⟩
  | .hbm, ⟨27, _⟩ => ⟨S_, .f32⟩
  | .hbm, ⟨28, _⟩ => ⟨S2x2x4x4096, .f32⟩
  | .hbm, ⟨29, _⟩ => ⟨S2x2x4x4096x1, .f32⟩
  | .hbm, ⟨30, _⟩ => ⟨S2x2x4x4096x4352, .f32⟩
  | .hbm, ⟨31, _⟩ => ⟨S2x2x4x4096x4352, .f32⟩
  | .hbm, ⟨32, _⟩ => ⟨S2x2x128x4x4096, .f32⟩
  | .hbm, ⟨33, _⟩ => ⟨S2x4096x2x4x128, .f32⟩
  | .hbm, ⟨34, _⟩ => ⟨S8192x1024, .f32⟩
  | .hbm, ⟨35, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Ffn.lean ====
abbrev S32768x128 : Shape := ⟨2, ![32768, 128]⟩
abbrev S64x128 : Shape := ⟨2, ![64, 128]⟩
abbrev S65536x128 : Shape := ⟨2, ![65536, 128]⟩
abbrev S128x128 : Shape := ⟨2, ![128, 128]⟩
abbrev S2x16x1024x1024 : Shape := ⟨4, ![2, 16, 1024, 1024]⟩
abbrev S16x4096x128 : Shape := ⟨3, ![16, 4096, 128]⟩
abbrev S16x8192x128 : Shape := ⟨3, ![16, 8192, 128]⟩
abbrev S2048x128 : Shape := ⟨2, ![2048, 128]⟩
abbrev S4096x128 : Shape := ⟨2, ![4096, 128]⟩
abbrev S1x1x1024x1024 : Shape := ⟨4, ![1, 1, 1024, 1024]⟩
abbrev S1x4096x128 : Shape := ⟨3, ![1, 4096, 128]⟩
abbrev S1x8192x128 : Shape := ⟨3, ![1, 8192, 128]⟩
abbrev S512x128 : Shape := ⟨2, ![512, 128]⟩
abbrev S512x1024 : Shape := ⟨2, ![512, 1024]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩
abbrev S1x128 : Shape := ⟨2, ![1, 128]⟩
abbrev S128 : Shape := ⟨1, ![128]⟩
abbrev S128x1 : Shape := ⟨2, ![128, 1]⟩
abbrev S128x1024 : Shape := ⟨2, ![128, 1024]⟩
abbrev S1x128x128 : Shape := ⟨3, ![1, 128, 128]⟩
abbrev S1024x128 : Shape := ⟨2, ![1024, 128]⟩
abbrev S1024x1024 : Shape := ⟨2, ![1024, 1024]⟩

abbrev nBuf : Space → Nat
  | .hbm => 9
  | .vmem => 16
  | .smem => 0
  | _ => 0

abbrev bufTy : (tb : Table) → Fin (tcTables nBuf tb) → BufTy
  | .hbm, ⟨0, _⟩ => ⟨S32768x128, .i32⟩
  | .hbm, ⟨1, _⟩ => ⟨S64x128, .f32⟩
  | .hbm, ⟨2, _⟩ => ⟨S65536x128, .i32⟩
  | .hbm, ⟨3, _⟩ => ⟨S128x128, .f32⟩
  | .hbm, ⟨4, _⟩ => ⟨S2x16x1024x1024, .f32⟩
  | .hbm, ⟨5, _⟩ => ⟨S2x16x1024x1024, .f32⟩
  | .hbm, ⟨6, _⟩ => ⟨S2x16x1024x1024, .f32⟩
  | .hbm, ⟨7, _⟩ => ⟨S16x4096x128, .f32⟩
  | .hbm, ⟨8, _⟩ => ⟨S16x8192x128, .f32⟩
  | .local _ .vmem, ⟨0, _⟩ => ⟨S2048x128, .i32⟩
  | .local _ .vmem, ⟨1, _⟩ => ⟨S2048x128, .i32⟩
  | .local _ .vmem, ⟨2, _⟩ => ⟨S64x128, .f32⟩
  | .local _ .vmem, ⟨3, _⟩ => ⟨S4096x128, .i32⟩
  | .local _ .vmem, ⟨4, _⟩ => ⟨S4096x128, .i32⟩
  | .local _ .vmem, ⟨5, _⟩ => ⟨S128x128, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x1x1024x1024, .f32⟩
  | .local _ .vmem, ⟨11, _⟩ => ⟨S1x1x1024x1024, .f32⟩
  | .local _ .vmem, ⟨12, _⟩ => ⟨S1x4096x128, .f32⟩
  | .local _ .vmem, ⟨13, _⟩ => ⟨S1x4096x128, .f32⟩
  | .local _ .vmem, ⟨14, _⟩ => ⟨S1x8192x128, .f32⟩
  | .local _ .vmem, ⟨15, _⟩ => ⟨S1x8192x128, .f32⟩
  | _, _ => ⟨S32768x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def k0_off1 (i : grid0.Coords) (c0_i32 : BitVec 32) : Fin 2 → Nat :=
  let arg0 : BitVec 32 := BitVec.ofNat 32 (i 0).val
  let c4_i32 : BitVec 32 := 4#32
  let v107 : BitVec 32 := Scalar.muli arg0 c4_i32
  let v108 : BitVec 32 := Scalar.addi v107 c0_i32
  let v109 : Index := Scalar.indexCast v108
  let c0_68 : Index := 0#32
  ![v109.toNat, 0]
def k0_off2 (i : grid0.Coords) (c0_i32_227 : BitVec 32) : Fin 2 → Nat :=
  let arg0 : BitVec 32 := BitVec.ofNat 32 (i 0).val
  let c8_i32 : BitVec 32 := 8#32
  let v391 : BitVec 32 := Scalar.muli arg0 c8_i32
  let v392 : BitVec 32 := Scalar.addi v391 c0_i32_227
  let v393 : Index := Scalar.indexCast v392
  let c0_228 : Index := 0#32
  ![v393.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRefIdeal.lean ====
abbrev S32768x128 : Shape := ⟨2, ![32768, 128]⟩
abbrev S64x128 : Shape := ⟨2, ![64, 128]⟩
abbrev S65536x128 : Shape := ⟨2, ![65536, 128]⟩
abbrev S128x128 : Shape := ⟨2, ![128, 128]⟩
abbrev S2x16x1024x1024 : Shape := ⟨4, ![2, 16, 1024, 1024]⟩
abbrev S16x512x512 : Shape := ⟨3, ![16, 512, 512]⟩
abbrev S_ : Shape := ⟨0, ![]⟩
abbrev S16x512x1024 : Shape := ⟨3, ![16, 512, 1024]⟩
abbrev S16x512 : Shape := ⟨2, ![16, 512]⟩
abbrev S1x16x1024x1024 : Shape := ⟨4, ![1, 16, 1024, 1024]⟩
abbrev S16x1024x1024 : Shape := ⟨3, ![16, 1024, 1024]⟩
abbrev S16x512x1 : Shape := ⟨3, ![16, 512, 1]⟩
abbrev S16x4096x128 : Shape := ⟨3, ![16, 4096, 128]⟩
abbrev S16x1024x512 : Shape := ⟨3, ![16, 1024, 512]⟩
abbrev S16x1024 : Shape := ⟨2, ![16, 1024]⟩
abbrev S16x1024x1 : Shape := ⟨3, ![16, 1024, 1]⟩
abbrev S16x8192x128 : Shape := ⟨3, ![16, 8192, 128]⟩

abbrev nBuf : Space → Nat
  | .hbm => 75
  | .vmem => 0
  | .smem => 0
  | _ => 0

abbrev bufTy : (tb : Table) → Fin (tcTables nBuf tb) → BufTy
  | .hbm, ⟨0, _⟩ => ⟨S32768x128, .i32⟩
  | .hbm, ⟨1, _⟩ => ⟨S64x128, .f32⟩
  | .hbm, ⟨2, _⟩ => ⟨S65536x128, .i32⟩
  | .hbm, ⟨3, _⟩ => ⟨S128x128, .f32⟩
  | .hbm, ⟨4, _⟩ => ⟨S2x16x1024x1024, .f32⟩
  | .hbm, ⟨5, _⟩ => ⟨S2x16x1024x1024, .f32⟩
  | .hbm, ⟨6, _⟩ => ⟨S2x16x1024x1024, .f32⟩
  | .hbm, ⟨7, _⟩ => ⟨S16x512x512, .i32⟩
  | .hbm, ⟨8, _⟩ => ⟨S_, .i32⟩
  | .hbm, ⟨9, _⟩ => ⟨S16x512x512, .i32⟩
  | .hbm, ⟨10, _⟩ => ⟨S16x512x512, .i32⟩
  | .hbm, ⟨11, _⟩ => ⟨S16x512x512, .f32⟩
  | .hbm, ⟨12, _⟩ => ⟨S_, .i32⟩
  | .hbm, ⟨13, _⟩ => ⟨S16x512x512, .i32⟩
  | .hbm, ⟨14, _⟩ => ⟨S16x512x512, .i32⟩
  | .hbm, ⟨15, _⟩ => ⟨S16x512x512, .f32⟩
  | .hbm, ⟨16, _⟩ => ⟨S16x512x1024, .f32⟩
  | .hbm, ⟨17, _⟩ => ⟨S16x512, .f32⟩
  | .hbm, ⟨18, _⟩ => ⟨S1x16x1024x1024, .f32⟩
  | .hbm, ⟨19, _⟩ => ⟨S16x1024x1024, .f32⟩
  | .hbm, ⟨20, _⟩ => ⟨S16x512x1024, .f32⟩
  | .hbm, ⟨21, _⟩ => ⟨S1x16x1024x1024, .f32⟩
  | .hbm, ⟨22, _⟩ => ⟨S16x1024x1024, .f32⟩
  | .hbm, ⟨23, _⟩ => ⟨S16x512x1024, .f32⟩
  | .hbm, ⟨24, _⟩ => ⟨S16x512x1024, .f32⟩
  | .hbm, ⟨25, _⟩ => ⟨S16x512x1024, .f32⟩
  | .hbm, ⟨26, _⟩ => ⟨S_, .f32⟩
  | .hbm, ⟨27, _⟩ => ⟨S16x512x1024, .f32⟩
  | .hbm, ⟨28, _⟩ => ⟨S16x512x1024, .f32⟩
  | .hbm, ⟨29, _⟩ => ⟨S_, .f32⟩
  | .hbm, ⟨30, _⟩ => ⟨S16x512x1024, .f32⟩
  | .hbm, ⟨31, _⟩ => ⟨S16x512x1024, .f32⟩
  | .hbm, ⟨32, _⟩ => ⟨S16x512x1024, .f32⟩
  | .hbm, ⟨33, _⟩ => ⟨S16x512x1024, .f32⟩
  | .hbm, ⟨34, _⟩ => ⟨S1x16x1024x1024, .f32⟩
  | .hbm, ⟨35, _⟩ => ⟨S16x1024x1024, .f32⟩
  | .hbm, ⟨36, _⟩ => ⟨S16x512x1024, .f32⟩
  | .hbm, ⟨37, _⟩ => ⟨S16x512x1, .f32⟩
  | .hbm, ⟨38, _⟩ => ⟨S16x512x1024, .f32⟩
  | .hbm, ⟨39, _⟩ => ⟨S16x512x1024, .f32⟩
  | .hbm, ⟨40, _⟩ => ⟨S16x4096x128, .f32⟩
  | .hbm, ⟨41, _⟩ => ⟨S16x1024x512, .i32⟩
  | .hbm, ⟨42, _⟩ => ⟨S_, .i32⟩
  | .hbm, ⟨43, _⟩ => ⟨S16x1024x512, .i32⟩
  | .hbm, ⟨44, _⟩ => ⟨S16x1024x512, .i32⟩
  | .hbm, ⟨45, _⟩ => ⟨S16x1024x512, .f32⟩
  | .hbm, ⟨46, _⟩ => ⟨S_, .i32⟩
  | .hbm, ⟨47, _⟩ => ⟨S16x1024x512, .i32⟩
  | .hbm, ⟨48, _⟩ => ⟨S16x1024x512, .i32⟩
  | .hbm, ⟨49, _⟩ => ⟨S16x1024x512, .f32⟩
  | .hbm, ⟨50, _⟩ => ⟨S16x1024x1024, .f32⟩
  | .hbm, ⟨51, _⟩ => ⟨S16x1024, .f32⟩
  | .hbm, ⟨52, _⟩ => ⟨S1x16x1024x1024, .f32⟩
  | .hbm, ⟨53, _⟩ => ⟨S16x1024x1024, .f32⟩
  | .hbm, ⟨54, _⟩ => ⟨S16x1024x1024, .f32⟩
  | .hbm, ⟨55, _⟩ => ⟨S1x16x1024x1024, .f32⟩
  | .hbm, ⟨56, _⟩ => ⟨S16x1024x1024, .f32⟩
  | .hbm, ⟨57, _⟩ => ⟨S16x1024x1024, .f32⟩
  | .hbm, ⟨58, _⟩ => ⟨S16x1024x1024, .f32⟩
  | .hbm, ⟨59, _⟩ => ⟨S16x1024x1024, .f32⟩
  | .hbm, ⟨60, _⟩ => ⟨S_, .f32⟩
  | .hbm, ⟨61, _⟩ => ⟨S16x1024x1024, .f32⟩
  | .hbm, ⟨62, _⟩ => ⟨S16x1024x1024, .f32⟩
  | .hbm, ⟨63, _⟩ => ⟨S_, .f32⟩
  | .hbm, ⟨64, _⟩ => ⟨S16x1024x1024, .f32⟩
  | .hbm, ⟨65, _⟩ => ⟨S16x1024x1024, .f32⟩
  | .hbm, ⟨66, _⟩ => ⟨S16x1024x1024, .f32⟩
  | .hbm, ⟨67, _⟩ => ⟨S16x1024x1024, .f32⟩
  | .hbm, ⟨68, _⟩ => ⟨S1x16x1024x1024, .f32⟩
  | .hbm, ⟨69, _⟩ => ⟨S16x1024x1024, .f32⟩
  | .hbm, ⟨70, _⟩ => ⟨S16x1024x1024, .f32⟩
  | .hbm, ⟨71, _⟩ => ⟨S16x1024x1, .f32⟩
  | .hbm, ⟨72, _⟩ => ⟨S16x1024x1024, .f32⟩
  | .hbm, ⟨73, _⟩ => ⟨S16x1024x1024, .f32⟩
  | .hbm, ⟨74, _⟩ => ⟨S16x8192x128, .f32⟩
  | _, _ => ⟨S32768x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩

abbrev nD : Nat := 1
abbrev τ : Topo := Topo.v7x

variable {F : FTy → Type} [FloatOps F]
-- ==== Qkv.lean ====
abbrev S16x256x1024 : Shape := ⟨3, ![16, 256, 1024]⟩
abbrev S2x8x6x1024 : Shape := ⟨4, ![2, 8, 6, 1024]⟩
abbrev S2x1024 : Shape := ⟨2, ![2, 1024]⟩
abbrev S1x1024x1536 : Shape := ⟨3, ![1, 1024, 1536]⟩
abbrev S1x128 : Shape := ⟨2, ![1, 128]⟩
abbrev S4096x1024 : Shape := ⟨2, ![4096, 1024]⟩
abbrev S1x1024 : Shape := ⟨2, ![1, 1024]⟩
abbrev S1024 : Shape := ⟨1, ![1024]⟩
abbrev S1024x1536 : Shape := ⟨2, ![1024, 1536]⟩
abbrev S128 : Shape := ⟨1, ![128]⟩
abbrev S4096x256 : Shape := ⟨2, ![4096, 256]⟩
abbrev S4096x2x128 : Shape := ⟨3, ![4096, 2, 128]⟩
abbrev S1024x1024 : Shape := ⟨2, ![1024, 1024]⟩
abbrev S1x1x6x1024 : Shape := ⟨4, ![1, 1, 6, 1024]⟩
abbrev S1024x256 : Shape := ⟨2, ![1024, 256]⟩
abbrev S1024x2x128 : Shape := ⟨3, ![1024, 2, 128]⟩
abbrev S6x1024 : Shape := ⟨2, ![6, 1024]⟩
abbrev S1024x1 : Shape := ⟨2, ![1024, 1]⟩
abbrev S1024x128 : Shape := ⟨2, ![1024, 128]⟩
abbrev S1024x1x128 : Shape := ⟨3, ![1024, 1, 128]⟩
abbrev S16x1x256x2x128 : Shape := ⟨5, ![16, 1, 256, 2, 128]⟩

abbrev nBuf : Space → Nat
  | .hbm => 22
  | .vmem => 18
  | .smem => 0
  | _ => 0

abbrev bufTy : (tb : Table) → Fin (tcTables nBuf tb) → BufTy
  | .hbm, ⟨0, _⟩ => ⟨S16x256x1024, .f32⟩
  | .hbm, ⟨1, _⟩ => ⟨S2x8x6x1024, .f32⟩
  | .hbm, ⟨2, _⟩ => ⟨S2x1024, .f32⟩
  | .hbm, ⟨3, _⟩ => ⟨S1x1024x1536, .f32⟩
  | .hbm, ⟨4, _⟩ => ⟨S1x128, .f32⟩
  | .hbm, ⟨5, _⟩ => ⟨S1x128, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024x1536, .f32⟩
  | .hbm, ⟨11, _⟩ => ⟨S128, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S4096x1024, .bf16⟩
  | .hbm, ⟨16, _⟩ => ⟨S4096x256, .bf16⟩
  | .hbm, ⟨17, _⟩ => ⟨S4096x256, .bf16⟩
  | .hbm, ⟨18, _⟩ => ⟨S4096x2x128, .f32⟩
  | .hbm, ⟨19, _⟩ => ⟨S4096x2x128, .f32⟩
  | .hbm, ⟨20, _⟩ => ⟨S16x1x256x2x128, .f32⟩
  | .hbm, ⟨21, _⟩ => ⟨S16x1x256x2x128, .f32⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x1024, .f32⟩
  | .local _ .vmem, ⟨4, _⟩ => ⟨S1024x1536, .f32⟩
  | .local _ .vmem, ⟨5, _⟩ => ⟨S1x128, .f32⟩
  | .local _ .vmem, ⟨6, _⟩ => ⟨S1x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x2x128, .f32⟩
  | .local _ .vmem, ⟨14, _⟩ => ⟨S1024x2x128, .f32⟩
  | .local _ .vmem, ⟨15, _⟩ => ⟨S1024x2x128, .f32⟩
  | .local _ .vmem, ⟨16, _⟩ => ⟨S1024x2x128, .f32⟩
  | .local _ .vmem, ⟨17, _⟩ => ⟨S1024x1536, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x2x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QkvRefIdeal.lean ====
abbrev S16x256x1024 : Shape := ⟨3, ![16, 256, 1024]⟩
abbrev S2x8x6x1024 : Shape := ⟨4, ![2, 8, 6, 1024]⟩
abbrev S2x1024 : Shape := ⟨2, ![2, 1024]⟩
abbrev S1x1024x1536 : Shape := ⟨3, ![1, 1024, 1536]⟩
abbrev S1x128 : Shape := ⟨2, ![1, 128]⟩
abbrev S1x1x1x1024 : Shape := ⟨4, ![1, 1, 1, 1024]⟩
abbrev S1024 : Shape := ⟨1, ![1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1024x1536 : Shape := ⟨2, ![1024, 1536]⟩
abbrev S16x256x1536 : Shape := ⟨3, ![16, 256, 1536]⟩
abbrev S16x256x256 : Shape := ⟨3, ![16, 256, 256]⟩
abbrev S16x256x8x128 : Shape := ⟨4, ![16, 256, 8, 128]⟩
abbrev S128 : Shape := ⟨1, ![128]⟩
abbrev S16x256x8 : Shape := ⟨3, ![16, 256, 8]⟩
abbrev S16x256x8x1 : Shape := ⟨4, ![16, 256, 8, 1]⟩
abbrev S1x1x1x128 : Shape := ⟨4, ![1, 1, 1, 128]⟩
abbrev S16x256x2x128 : Shape := ⟨4, ![16, 256, 2, 128]⟩
abbrev S16x256x2 : Shape := ⟨3, ![16, 256, 2]⟩
abbrev S16x256x2x1 : Shape := ⟨4, ![16, 256, 2, 1]⟩
abbrev S4096x1024 : Shape := ⟨2, ![4096, 1024]⟩
abbrev S4096x256 : Shape := ⟨2, ![4096, 256]⟩
abbrev S16x1x256x2x128 : Shape := ⟨5, ![16, 1, 256, 2, 128]⟩

abbrev nBuf : Space → Nat
  | .hbm => 87
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S2x8x6x1024, .f32⟩
  | .hbm, ⟨2, _⟩ => ⟨S2x1024, .f32⟩
  | .hbm, ⟨3, _⟩ => ⟨S1x1024x1536, .f32⟩
  | .hbm, ⟨4, _⟩ => ⟨S1x128, .f32⟩
  | .hbm, ⟨5, _⟩ => ⟨S1x128, .f32⟩
  | .hbm, ⟨6, _⟩ => ⟨S1x1x1x1024, .f32⟩
  | .hbm, ⟨7, _⟩ => ⟨S1024, .f32⟩
  | .hbm, ⟨8, _⟩ => ⟨S1x1x1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S16x256x1024, .f32⟩
  | .hbm, ⟨13, _⟩ => ⟨S_, .f32⟩
  | .hbm, ⟨14, _⟩ => ⟨S16x256, .f32⟩
  | .hbm, ⟨15, _⟩ => ⟨S16x256x1, .f32⟩
  | .hbm, ⟨16, _⟩ => ⟨S_, .f32⟩
  | .hbm, ⟨17, _⟩ => ⟨S16x256x1, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x1, .f32⟩
  | .hbm, ⟨23, _⟩ => ⟨S16x256x1024, .f32⟩
  | .hbm, ⟨24, _⟩ => ⟨S16x256x1024, .f32⟩
  | .hbm, ⟨25, _⟩ => ⟨S1x1x1024, .f32⟩
  | .hbm, ⟨26, _⟩ => ⟨S16x256x1024, .f32⟩
  | .hbm, ⟨27, _⟩ => ⟨S16x256x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S1x1x1024, .f32⟩
  | .hbm, ⟨35, _⟩ => ⟨S16x256x1024, .f32⟩
  | .hbm, ⟨36, _⟩ => ⟨S16x256x1024, .f32⟩
  | .hbm, ⟨37, _⟩ => ⟨S1024x1536, .f32⟩
  | .hbm, ⟨38, _⟩ => ⟨S16x256x1536, .f32⟩
  | .hbm, ⟨39, _⟩ => ⟨S16x256x1024, .f32⟩
  | .hbm, ⟨40, _⟩ => ⟨S16x256x256, .f32⟩
  | .hbm, ⟨41, _⟩ => ⟨S16x256x256, .f32⟩
  | .hbm, ⟨42, _⟩ => ⟨S16x256x8x128, .f32⟩
  | .hbm, ⟨43, _⟩ => ⟨S128, .f32⟩
  | .hbm, ⟨44, _⟩ => ⟨S16x256x8x128, .f32⟩
  | .hbm, ⟨45, _⟩ => ⟨S_, .f32⟩
  | .hbm, ⟨46, _⟩ => ⟨S16x256x8, .f32⟩
  | .hbm, ⟨47, _⟩ => ⟨S16x256x8x1, .f32⟩
  | .hbm, ⟨48, _⟩ => ⟨S_, .f32⟩
  | .hbm, ⟨49, _⟩ => ⟨S16x256x8x1, .f32⟩
  | .hbm, ⟨50, _⟩ => ⟨S16x256x8x1, .f32⟩
  | .hbm, ⟨51, _⟩ => ⟨S_, .f32⟩
  | .hbm, ⟨52, _⟩ => ⟨S16x256x8x1, .f32⟩
  | .hbm, ⟨53, _⟩ => ⟨S16x256x8x1, .f32⟩
  | .hbm, ⟨54, _⟩ => ⟨S16x256x8x1, .f32⟩
  | .hbm, ⟨55, _⟩ => ⟨S16x256x8x128, .f32⟩
  | .hbm, ⟨56, _⟩ => ⟨S16x256x8x128, .f32⟩
  | .hbm, ⟨57, _⟩ => ⟨S1x1x1x128, .f32⟩
  | .hbm, ⟨58, _⟩ => ⟨S16x256x8x128, .f32⟩
  | .hbm, ⟨59, _⟩ => ⟨S16x256x8x128, .f32⟩
  | .hbm, ⟨60, _⟩ => ⟨S16x256x2x128, .f32⟩
  | .hbm, ⟨61, _⟩ => ⟨S128, .f32⟩
  | .hbm, ⟨62, _⟩ => ⟨S16x256x2x128, .f32⟩
  | .hbm, ⟨63, _⟩ => ⟨S_, .f32⟩
  | .hbm, ⟨64, _⟩ => ⟨S16x256x2, .f32⟩
  | .hbm, ⟨65, _⟩ => ⟨S16x256x2x1, .f32⟩
  | .hbm, ⟨66, _⟩ => ⟨S_, .f32⟩
  | .hbm, ⟨67, _⟩ => ⟨S16x256x2x1, .f32⟩
  | .hbm, ⟨68, _⟩ => ⟨S16x256x2x1, .f32⟩
  | .hbm, ⟨69, _⟩ => ⟨S_, .f32⟩
  | .hbm, ⟨70, _⟩ => ⟨S16x256x2x1, .f32⟩
  | .hbm, ⟨71, _⟩ => ⟨S16x256x2x1, .f32⟩
  | .hbm, ⟨72, _⟩ => ⟨S16x256x2x1, .f32⟩
  | .hbm, ⟨73, _⟩ => ⟨S16x256x2x128, .f32⟩
  | .hbm, ⟨74, _⟩ => ⟨S16x256x2x128, .f32⟩
  | .hbm, ⟨75, _⟩ => ⟨S1x1x1x128, .f32⟩
  | .hbm, ⟨76, _⟩ => ⟨S16x256x2x128, .f32⟩
  | .hbm, ⟨77, _⟩ => ⟨S16x256x2x128, .f32⟩
  | .hbm, ⟨78, _⟩ => ⟨S16x256x2x128, .f32⟩
  | .hbm, ⟨79, _⟩ => ⟨S4096x1024, .f32⟩
  | .hbm, ⟨80, _⟩ => ⟨S4096x1024, .bf16⟩
  | .hbm, ⟨81, _⟩ => ⟨S4096x256, .f32⟩
  | .hbm, ⟨82, _⟩ => ⟨S4096x256, .bf16⟩
  | .hbm, ⟨83, _⟩ => ⟨S4096x256, .f32⟩
  | .hbm, ⟨84, _⟩ => ⟨S4096x256, .bf16⟩
  | .hbm, ⟨85, _⟩ => ⟨S16x1x256x2x128, .f32⟩
  | .hbm, ⟨86, _⟩ => ⟨S16x1x256x2x128, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩

abbrev nD : Nat := 1
abbrev τ : Topo := Topo.v7x

variable {F : FTy → Type} [FloatOps F]
-- ==== Rope.lean ====
abbrev S2x4096x1024 : Shape := ⟨3, ![2, 4096, 1024]⟩
abbrev S2x8x6x1024 : Shape := ⟨4, ![2, 8, 6, 1024]⟩
abbrev S2x1024 : Shape := ⟨2, ![2, 1024]⟩
abbrev S1x1024x1536 : Shape := ⟨3, ![1, 1024, 1536]⟩
abbrev S1x128 : Shape := ⟨2, ![1, 128]⟩
abbrev S8192x1024 : Shape := ⟨2, ![8192, 1024]⟩
abbrev S1x1024 : Shape := ⟨2, ![1, 1024]⟩
abbrev S1024 : Shape := ⟨1, ![1024]⟩
abbrev S1024x1536 : Shape := ⟨2, ![1024, 1536]⟩
abbrev S128 : Shape := ⟨1, ![128]⟩
abbrev S32 : Shape := ⟨1, ![32]⟩
abbrev S_ : Shape := ⟨0, ![]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S8192x256 : Shape := ⟨2, ![8192, 256]⟩
abbrev S1024x1024 : Shape := ⟨2, ![1024, 1024]⟩
abbrev S1x1x6x1024 : Shape := ⟨4, ![1, 1, 6, 1024]⟩
abbrev S1024x128 : Shape := ⟨2, ![1024, 128]⟩
abbrev S1024x256 : Shape := ⟨2, ![1024, 256]⟩
abbrev S1024x2816 : Shape := ⟨2, ![1024, 2816]⟩
abbrev S1024x1280 : Shape := ⟨2, ![1024, 1280]⟩
abbrev S6x1024 : Shape := ⟨2, ![6, 1024]⟩
abbrev S1024x1 : Shape := ⟨2, ![1024, 1]⟩

abbrev nBuf : Space → Nat
  | .hbm => 55
  | .vmem => 19
  | .smem => 0
  | _ => 0

abbrev bufTy : (tb : Table) → Fin (tcTables nBuf tb) → BufTy
  | .hbm, ⟨0, _⟩ => ⟨S2x4096x1024, .f32⟩
  | .hbm, ⟨1, _⟩ => ⟨S2x8x6x1024, .f32⟩
  | .hbm, ⟨2, _⟩ => ⟨S2x1024, .f32⟩
  | .hbm, ⟨3, _⟩ => ⟨S1x1024x1536, .f32⟩
  | .hbm, ⟨4, _⟩ => ⟨S1x128, .f32⟩
  | .hbm, ⟨5, _⟩ => ⟨S1x128, .f32⟩
  | .hbm, ⟨6, _⟩ => ⟨S8192x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024x1536, .f32⟩
  | .hbm, ⟨11, _⟩ => ⟨S128, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S64, .i32⟩
  | .hbm, ⟨24, _⟩ => ⟨S64x64, .i32⟩
  | .hbm, ⟨25, _⟩ => ⟨S4096, .i32⟩
  | .hbm, ⟨26, _⟩ => ⟨S4096, .f32⟩
  | .hbm, ⟨27, _⟩ => ⟨S64, .i32⟩
  | .hbm, ⟨28, _⟩ => ⟨S1x64, .i32⟩
  | .hbm, ⟨29, _⟩ => ⟨S64x64, .i32⟩
  | .hbm, ⟨30, _⟩ => ⟨S4096, .i32⟩
  | .hbm, ⟨31, _⟩ => ⟨S4096, .f32⟩
  | .hbm, ⟨32, _⟩ => ⟨S4096x1, .f32⟩
  | .hbm, ⟨33, _⟩ => ⟨S1x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x1, .f32⟩
  | .hbm, ⟨38, _⟩ => ⟨S1x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S4096x128, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x128, .f32⟩
  | .hbm, ⟨52, _⟩ => ⟨S8192x1024, .bf16⟩
  | .hbm, ⟨53, _⟩ => ⟨S8192x256, .bf16⟩
  | .hbm, ⟨54, _⟩ => ⟨S8192x256, .bf16⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x1536, .f32⟩
  | .local _ .vmem, ⟨6, _⟩ => ⟨S1x128, .f32⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x1024, .bf16⟩
  | .local _ .vmem, ⟨13, _⟩ => ⟨S1024x1024, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x2816, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44_0 : Ref sig .tc := ⟨.hbm, 52, rfl⟩
abbrev main_v44_1 : Ref sig .tc := ⟨.hbm, 53, rfl⟩
abbrev main_v44_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RopeRefIdeal.lean ====
abbrev S2x4096x1024 : Shape := ⟨3, ![2, 4096, 1024]⟩
abbrev S2x8x6x1024 : Shape := ⟨4, ![2, 8, 6, 1024]⟩
abbrev S2x1024 : Shape := ⟨2, ![2, 1024]⟩
abbrev S1x1024x1536 : Shape := ⟨3, ![1, 1024, 1536]⟩
abbrev S1x128 : Shape := ⟨2, ![1, 128]⟩
abbrev S1x2x1x1024 : Shape := ⟨4, ![1, 2, 1, 1024]⟩
abbrev S2x1x1024 : Shape := ⟨3, ![2, 1, 1024]⟩
abbrev S1x1024 : Shape := ⟨2, ![1, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x1536 : Shape := ⟨2, ![1024, 1536]⟩
abbrev S2x4096x1536 : Shape := ⟨3, ![2, 4096, 1536]⟩
abbrev S2x4096x256 : Shape := ⟨3, ![2, 4096, 256]⟩
abbrev S2x4096x8x128 : Shape := ⟨4, ![2, 4096, 8, 128]⟩
abbrev S128 : Shape := ⟨1, ![128]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S2x4096x8x64 : Shape := ⟨4, ![2, 4096, 8, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x8x32 : Shape := ⟨4, ![2, 4096, 8, 32]⟩
abbrev S1x4096x1x32 : Shape := ⟨4, ![1, 4096, 1, 32]⟩
abbrev S2x4096x2x128 : Shape := ⟨4, ![2, 4096, 2, 128]⟩
abbrev S2x4096x2 : Shape := ⟨3, ![2, 4096, 2]⟩
abbrev S2x4096x2x1 : Shape := ⟨4, ![2, 4096, 2, 1]⟩
abbrev S2x4096x2x64 : Shape := ⟨4, ![2, 4096, 2, 64]⟩
abbrev S2x4096x2x32 : Shape := ⟨4, ![2, 4096, 2, 32]⟩
abbrev S8192x1024 : Shape := ⟨2, ![8192, 1024]⟩
abbrev S8192x256 : Shape := ⟨2, ![8192, 256]⟩

abbrev nBuf : Space → Nat
  | .hbm => 244
  | .vmem => 0
  | .smem => 0
  | _ => 0

abbrev hbmTy0_0 (i : Nat) : BufTy := match i % 128 with
  | 0 => ⟨S2x4096x1024, .f32⟩
  | 1 => ⟨S2x8x6x1024, .f32⟩
  | 2 => ⟨S2x1024, .f32⟩
  | 3 => ⟨S1x1024x1536, .f32⟩
  | 4 => ⟨S1x128, .f32⟩
  | 5 => ⟨S1x128, .f32⟩
  | 6 => ⟨S1x2x1x1024, .f32⟩
  | 7 => ⟨S2x1024, .f32⟩
  | 8 => ⟨S2x1x1024, .f32⟩
  | 9 => ⟨S1x2x1x1024, .f32⟩
  | 10 => ⟨S2x1024, .f32⟩
  | 11 => ⟨S2x1x1024, .f32⟩
  | 12 => ⟨S1x1024, .f32⟩
  | 13 => ⟨S1024, .f32⟩
  | 14 => ⟨S2x4096x1024, .f32⟩
  | 15 => ⟨S_, .f32⟩
  | 16 => ⟨S2x4096, .f32⟩
  | 17 => ⟨S2x4096x1, .f32⟩
  | 18 => ⟨S_, .f32⟩
  | 19 => ⟨S2x4096x1, .f32⟩
  | 20 => ⟨S2x4096x1, .f32⟩
  | 21 => ⟨S_, .f32⟩
  | 22 => ⟨S2x4096x1, .f32⟩
  | 23 => ⟨S2x4096x1, .f32⟩
  | 24 => ⟨S2x4096x1, .f32⟩
  | 25 => ⟨S2x4096x1024, .f32⟩
  | 26 => ⟨S2x4096x1024, .f32⟩
  | 27 => ⟨S1x1x1024, .f32⟩
  | 28 => ⟨S2x4096x1024, .f32⟩
  | 29 => ⟨S2x4096x1024, .f32⟩
  | 30 => ⟨S_, .f32⟩
  | 31 => ⟨S2x1x1024, .f32⟩
  | 32 => ⟨S2x1x1024, .f32⟩
  | 33 => ⟨S2x4096x1024, .f32⟩
  | 34 => ⟨S2x4096x1024, .f32⟩
  | 35 => ⟨S2x4096x1024, .f32⟩
  | 36 => ⟨S2x4096x1024, .f32⟩
  | 37 => ⟨S1024x1536, .f32⟩
  | 38 => ⟨S2x4096x1536, .f32⟩
  | 39 => ⟨S2x4096x1024, .f32⟩
  | 40 => ⟨S2x4096x256, .f32⟩
  | 41 => ⟨S2x4096x256, .f32⟩
  | 42 => ⟨S2x4096x8x128, .f32⟩
  | 43 => ⟨S128, .f32⟩
  | 44 => ⟨S2x4096x8x128, .f32⟩
  | 45 => ⟨S_, .f32⟩
  | 46 => ⟨S2x4096x8, .f32⟩
  | 47 => ⟨S2x4096x8x1, .f32⟩
  | 48 => ⟨S_, .f32⟩
  | 49 => ⟨S2x4096x8x1, .f32⟩
  | 50 => ⟨S2x4096x8x1, .f32⟩
  | 51 => ⟨S_, .f32⟩
  | 52 => ⟨S2x4096x8x1, .f32⟩
  | 53 => ⟨S2x4096x8x1, .f32⟩
  | 54 => ⟨S2x4096x8x1, .f32⟩
  | 55 => ⟨S2x4096x8x128, .f32⟩
  | 56 => ⟨S2x4096x8x128, .f32⟩
  | 57 => ⟨S1x1x1x128, .f32⟩
  | 58 => ⟨S2x4096x8x128, .f32⟩
  | 59 => ⟨S2x4096x8x128, .f32⟩
  | 60 => ⟨S64, .i32⟩
  | 61 => ⟨S64x64, .i32⟩
  | 62 => ⟨S4096, .i32⟩
  | 63 => ⟨S64, .i32⟩
  | 64 => ⟨S1x64, .i32⟩
  | 65 => ⟨S64x64, .i32⟩
  | 66 => ⟨S4096, .i32⟩
  | 67 => ⟨S2x4096x8x64, .f32⟩
  | 68 => ⟨S32, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S4096, .f32⟩
  | 77 => ⟨S4096x1, .f32⟩
  | 78 => ⟨S1x32, .f32⟩
  | 79 => ⟨S4096x32, .f32⟩
  | 80 => ⟨S4096x32, .f32⟩
  | 81 => ⟨S4096x32, .f32⟩
  | 82 => ⟨S4096x32, .f32⟩
  | 83 => ⟨S4096x1x32, .f32⟩
  | 84 => ⟨S4096x32, .f32⟩
  | 85 => ⟨S4096x1x32, .f32⟩
  | 86 => ⟨S2x4096x8x32, .f32⟩
  | 87 => ⟨S2x4096x8x32, .f32⟩
  | 88 => ⟨S1x4096x1x32, .f32⟩
  | 89 => ⟨S2x4096x8x32, .f32⟩
  | 90 => ⟨S2x4096x8x32, .f32⟩
  | 91 => ⟨S1x4096x1x32, .f32⟩
  | 92 => ⟨S2x4096x8x32, .f32⟩
  | 93 => ⟨S2x4096x8x32, .f32⟩
  | 94 => ⟨S2x4096x8x32, .f32⟩
  | 95 => ⟨S1x4096x1x32, .f32⟩
  | 96 => ⟨S2x4096x8x32, .f32⟩
  | 97 => ⟨S2x4096x8x32, .f32⟩
  | 98 => ⟨S1x4096x1x32, .f32⟩
  | 99 => ⟨S2x4096x8x32, .f32⟩
  | 100 => ⟨S2x4096x8x32, .f32⟩
  | 101 => ⟨S2x4096x8x32, .f32⟩
  | 102 => ⟨S2x4096x8x64, .f32⟩
  | 103 => ⟨S2x4096x8x64, .f32⟩
  | 104 => ⟨S32, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S4096, .f32⟩
  | 113 => ⟨S4096x1, .f32⟩
  | 114 => ⟨S1x32, .f32⟩
  | 115 => ⟨S4096x32, .f32⟩
  | 116 => ⟨S4096x32, .f32⟩
  | 117 => ⟨S4096x32, .f32⟩
  | 118 => ⟨S4096x32, .f32⟩
  | 119 => ⟨S4096x1x32, .f32⟩
  | 120 => ⟨S4096x32, .f32⟩
  | 121 => ⟨S4096x1x32, .f32⟩
  | 122 => ⟨S2x4096x8x32, .f32⟩
  | 123 => ⟨S2x4096x8x32, .f32⟩
  | 124 => ⟨S1x4096x1x32, .f32⟩
  | 125 => ⟨S2x4096x8x32, .f32⟩
  | 126 => ⟨S2x4096x8x32, .f32⟩
  | 127 => ⟨S1x4096x1x32, .f32⟩
  | _ => ⟨S2x4096x1024, .f32⟩

abbrev hbmTy0_1 (i : Nat) : BufTy := match i % 128 with
  | 0 => ⟨S2x4096x8x32, .f32⟩
  | 1 => ⟨S2x4096x8x32, .f32⟩
  | 2 => ⟨S2x4096x8x32, .f32⟩
  | 3 => ⟨S1x4096x1x32, .f32⟩
  | 4 => ⟨S2x4096x8x32, .f32⟩
  | 5 => ⟨S2x4096x8x32, .f32⟩
  | 6 => ⟨S1x4096x1x32, .f32⟩
  | 7 => ⟨S2x4096x8x32, .f32⟩
  | 8 => ⟨S2x4096x8x32, .f32⟩
  | 9 => ⟨S2x4096x8x32, .f32⟩
  | 10 => ⟨S2x4096x8x64, .f32⟩
  | 11 => ⟨S2x4096x8x128, .f32⟩
  | 12 => ⟨S2x4096x2x128, .f32⟩
  | 13 => ⟨S128, .f32⟩
  | 14 => ⟨S2x4096x2x128, .f32⟩
  | 15 => ⟨S_, .f32⟩
  | 16 => ⟨S2x4096x2, .f32⟩
  | 17 => ⟨S2x4096x2x1, .f32⟩
  | 18 => ⟨S_, .f32⟩
  | 19 => ⟨S2x4096x2x1, .f32⟩
  | 20 => ⟨S2x4096x2x1, .f32⟩
  | 21 => ⟨S_, .f32⟩
  | 22 => ⟨S2x4096x2x1, .f32⟩
  | 23 => ⟨S2x4096x2x1, .f32⟩
  | 24 => ⟨S2x4096x2x1, .f32⟩
  | 25 => ⟨S2x4096x2x128, .f32⟩
  | 26 => ⟨S2x4096x2x128, .f32⟩
  | 27 => ⟨S1x1x1x128, .f32⟩
  | 28 => ⟨S2x4096x2x128, .f32⟩
  | 29 => ⟨S2x4096x2x128, .f32⟩
  | 30 => ⟨S64, .i32⟩
  | 31 => ⟨S64x64, .i32⟩
  | 32 => ⟨S4096, .i32⟩
  | 33 => ⟨S64, .i32⟩
  | 34 => ⟨S1x64, .i32⟩
  | 35 => ⟨S64x64, .i32⟩
  | 36 => ⟨S4096, .i32⟩
  | 37 => ⟨S2x4096x2x64, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S4096, .f32⟩
  | 47 => ⟨S4096x1, .f32⟩
  | 48 => ⟨S1x32, .f32⟩
  | 49 => ⟨S4096x32, .f32⟩
  | 50 => ⟨S4096x32, .f32⟩
  | 51 => ⟨S4096x32, .f32⟩
  | 52 => ⟨S4096x32, .f32⟩
  | 53 => ⟨S4096x1x32, .f32⟩
  | 54 => ⟨S4096x32, .f32⟩
  | 55 => ⟨S4096x1x32, .f32⟩
  | 56 => ⟨S2x4096x2x32, .f32⟩
  | 57 => ⟨S2x4096x2x32, .f32⟩
  | 58 => ⟨S1x4096x1x32, .f32⟩
  | 59 => ⟨S2x4096x2x32, .f32⟩
  | 60 => ⟨S2x4096x2x32, .f32⟩
  | 61 => ⟨S1x4096x1x32, .f32⟩
  | 62 => ⟨S2x4096x2x32, .f32⟩
  | 63 => ⟨S2x4096x2x32, .f32⟩
  | 64 => ⟨S2x4096x2x32, .f32⟩
  | 65 => ⟨S1x4096x1x32, .f32⟩
  | 66 => ⟨S2x4096x2x32, .f32⟩
  | 67 => ⟨S2x4096x2x32, .f32⟩
  | 68 => ⟨S1x4096x1x32, .f32⟩
  | 69 => ⟨S2x4096x2x32, .f32⟩
  | 70 => ⟨S2x4096x2x32, .f32⟩
  | 71 => ⟨S2x4096x2x32, .f32⟩
  | 72 => ⟨S2x4096x2x64, .f32⟩
  | 73 => ⟨S2x4096x2x64, .f32⟩
  | 74 => ⟨S32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S4096, .f32⟩
  | 83 => ⟨S4096x1, .f32⟩
  | 84 => ⟨S1x32, .f32⟩
  | 85 => ⟨S4096x32, .f32⟩
  | 86 => ⟨S4096x32, .f32⟩
  | 87 => ⟨S4096x32, .f32⟩
  | 88 => ⟨S4096x32, .f32⟩
  | 89 => ⟨S4096x1x32, .f32⟩
  | 90 => ⟨S4096x32, .f32⟩
  | 91 => ⟨S4096x1x32, .f32⟩
  | 92 => ⟨S2x4096x2x32, .f32⟩
  | 93 => ⟨S2x4096x2x32, .f32⟩
  | 94 => ⟨S1x4096x1x32, .f32⟩
  | 95 => ⟨S2x4096x2x32, .f32⟩
  | 96 => ⟨S2x4096x2x32, .f32⟩
  | 97 => ⟨S1x4096x1x32, .f32⟩
  | 98 => ⟨S2x4096x2x32, .f32⟩
  | 99 => ⟨S2x4096x2x32, .f32⟩
  | 100 => ⟨S2x4096x2x32, .f32⟩
  | 101 => ⟨S1x4096x1x32, .f32⟩
  | 102 => ⟨S2x4096x2x32, .f32⟩
  | 103 => ⟨S2x4096x2x32, .f32⟩
  | 104 => ⟨S1x4096x1x32, .f32⟩
  | 105 => ⟨S2x4096x2x32, .f32⟩
  | 106 => ⟨S2x4096x2x32, .f32⟩
  | 107 => ⟨S2x4096x2x32, .f32⟩
  | 108 => ⟨S2x4096x2x64, .f32⟩
  | 109 => ⟨S2x4096x2x128, .f32⟩
  | 110 => ⟨S8192x1024, .f32⟩
  | 111 => ⟨S8192x1024, .bf16⟩
  | 112 => ⟨S8192x256, .f32⟩
  | 113 => ⟨S8192x256, .bf16⟩
  | 114 => ⟨S8192x256, .f32⟩
  | 115 => ⟨S8192x256, .bf16⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_6 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_cst_8 : Ref sig .tc := ⟨.hbm, 106, rfl⟩
abbrev main_v91 : Ref sig .tc := ⟨.hbm, 107, rfl⟩
abbrev main_v92 : Ref sig .tc := ⟨.hbm, 108, rfl⟩
abbrev main_cst_9 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_cst_10 : Ref sig .tc := ⟨.hbm, 143, rfl⟩
abbrev main_v126 : Ref sig .tc := ⟨.hbm, 144, rfl⟩
abbrev main_v127 : Ref sig .tc := ⟨.hbm, 145, rfl⟩
abbrev main_cst_11 : Ref sig .tc := ⟨.hbm, 146, rfl⟩
abbrev main_v128 : Ref sig .tc := ⟨.hbm, 147, rfl⟩
abbrev main_v129 : Ref sig .tc := ⟨.hbm, 148, rfl⟩
abbrev main_cst_12 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_cst_13 : Ref sig .tc := ⟨.hbm, 168, rfl⟩
abbrev main_v148 : Ref sig .tc := ⟨.hbm, 169, rfl⟩
abbrev main_v149 : Ref sig .tc := ⟨.hbm, 170, rfl⟩
abbrev main_cst_14 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_cst_15 : Ref sig .tc := ⟨.hbm, 204, rfl⟩
abbrev main_v182 : Ref sig .tc := ⟨.hbm, 205, rfl⟩
abbrev main_v183 : Ref sig .tc := ⟨.hbm, 206, rfl⟩
abbrev main_cst_16 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩

abbrev nD : Nat := 1
abbrev τ : Topo := Topo.v7x

variable {F : FTy → Type} [FloatOps F]
-- ==== Proof.LatFold.lean ====
/-  The attention block's stored value as a fold over the seventeen key segments: the running maximum and the
    running accumulator as two recursions, and the generated stored value equal to their end. -/
module

public import proofs.«01_k».proof.Proof.Gen.LatIdeal.Frame

@[expose] public section

set_option maxRecDepth 65536

noncomputable section

namespace Cert.LatIdeal.Fold

open Idealize.ShloMosaic Idealize.ShloMosaic.TcCoe Idealize.SL.Sem
open Cert.LatIdeal Cert.LatIdeal.Gen

variable {F : FTy → Type} [FloatOps F]

/-- Key segment `n`: 256 rows of the block's keys, the last segment the cached ones. -/
def kseg (x1 : Vec F S4096x128 .bf16) (x3 : Vec F S1x256x128 .bf16) : ℕ → FVec F S256x128 .bf16
  | 0 => k0_pay2 (View.ld x1 r0_0)
  | 1 => k0_pay4 (View.ld x1 r0_1)
  | 2 => k0_pay6 (View.ld x1 r0_2)
  | 3 => k0_pay8 (View.ld x1 r0_3)
  | 4 => k0_pay10 (View.ld x1 r0_4)
  | 5 => k0_pay12 (View.ld x1 r0_5)
  | 6 => k0_pay14 (View.ld x1 r0_6)
  | 7 => k0_pay16 (View.ld x1 r0_7)
  | 8 => k0_pay18 (View.ld x1 r0_8)
  | 9 => k0_pay20 (View.ld x1 r0_9)
  | 10 => k0_pay22 (View.ld x1 r0_10)
  | 11 => k0_pay24 (View.ld x1 r0_11)
  | 12 => k0_pay26 (View.ld x1 r0_12)
  | 13 => k0_pay28 (View.ld x1 r0_13)
  | 14 => k0_pay30 (View.ld x1 r0_14)
  | 15 => k0_pay32 (View.ld x1 r0_15)
  | _ => k0_pay34 (View.ld x3 r0_16)

/-- Value segment `n`, with 128 columns of ones beside it. -/
def vseg (x2 : Vec F S4096x128 .bf16) (x4 : Vec F S1x256x128 .bf16) : ℕ → FVec F S256x256 .bf16
  | 0 => k0_pay3 (View.ld x2 r0_0)
  | 1 => k0_pay5 (View.ld x2 r0_1)
  | 2 => k0_pay7 (View.ld x2 r0_2)
  | 3 => k0_pay9 (View.ld x2 r0_3)
  | 4 => k0_pay11 (View.ld x2 r0_4)
  | 5 => k0_pay13 (View.ld x2 r0_5)
  | 6 => k0_pay15 (View.ld x2 r0_6)
  | 7 => k0_pay17 (View.ld x2 r0_7)
  | 8 => k0_pay19 (View.ld x2 r0_8)
  | 9 => k0_pay21 (View.ld x2 r0_9)
  | 10 => k0_pay23 (View.ld x2 r0_10)
  | 11 => k0_pay25 (View.ld x2 r0_11)
  | 12 => k0_pay27 (View.ld x2 r0_12)
  | 13 => k0_pay29 (View.ld x2 r0_13)
  | 14 => k0_pay31 (View.ld x2 r0_14)
  | 15 => k0_pay33 (View.ld x2 r0_15)
  | _ => k0_pay35 (View.ld x4 r0_16)

/-- The scores of the stacked queries against one segment. -/
def score (q : FVec F S4096x128 .bf16) (k : FVec F S256x128 .bf16) : FVec F S4096x256 .f32 :=
  matmul dot_S4096x128_S256x128_S4096x256_1_1_0_0_n_n none q k (constant S4096x256 .f32 0x00000000#32)

/-- The row maxima of a segment's scores. -/
def top (s : FVec F S4096x256 .f32) : FVec F S4096x1 .f32 :=
  shapeCast S4096x1 (multiReduction .maximumf [1] S4096 s 0xFF800000#32 reduces_S4096x256_S4096 (.inl rfl) rfl)
    shapeCasts_S4096_S4096x1

/-- The running row maximum after segment `n`. -/
def mx (q : FVec F S4096x128 .bf16) (K : ℕ → FVec F S256x128 .bf16) : ℕ → FVec F S4096x1 .f32
  | 0 => top (score q (K 0))
  | n + 1 => maximumf (mx q K n) (top (score q (K (n + 1))))

/-- The weights of a segment against a running maximum, contracted with the segment's values. -/
def part (s : FVec F S4096x256 .f32) (m : FVec F S4096x1 .f32) (v : FVec F S256x256 .bf16) : FVec F S4096x256 .f32 :=
  matmul dot_S4096x256_S256x256_S4096x256_1_0_0_1_n_n none
    (truncf .bf16 (exp2 (subf s (broadcastTo S4096x256 m broadcasts_S4096x1_S4096x256))) bitsLt_bf16_f32) v
    (constant S4096x256 .f32 0x00000000#32)

/-- The running accumulator after segment `n`: weighted values, and the weights' sum in the right half. -/
def ac (q : FVec F S4096x128 .bf16) (K : ℕ → FVec F S256x128 .bf16) (V : ℕ → FVec F S256x256 .bf16) :
    ℕ → FVec F S4096x256 .f32
  | 0 => part (score q (K 0)) (mx q K 0) (V 0)
  | n + 1 => addf (mulf (ac q K V n) (broadcastTo S4096x256 (exp2 (subf (mx q K n) (mx q K (n + 1))))
      broadcasts_S4096x1_S4096x256)) (part (score q (K (n + 1))) (mx q K (n + 1)) (V (n + 1)))

/-- The quotient of the accumulator's two halves. -/
def quot (a : FVec F S4096x256 .f32) : FVec F S4096x128 .bf16 :=
  truncf .bf16 (divf (extractStridedSlice S4096x128 ![0, 0] a slices_S4096x256_o0_0_S4096x128)
    (extractStridedSlice S4096x128 ![0, 128] a slices_S4096x256_o0_128_S4096x128)) bitsLt_bf16_f32

/-- The four heads' rows laid beside one another. -/
def beside (d : FVec F S4096x128 .bf16) : FVec F S1024x512 .bf16 :=
  concatenate S1024x512 1
    [⟨S1024x128, extractStridedSlice S1024x128 ![0, 0] d slices_S4096x128_o0_0_S1024x128⟩,
     ⟨S1024x128, extractStridedSlice S1024x128 ![1024, 0] d slices_S4096x128_o1024_0_S1024x128⟩,
     ⟨S1024x128, extractStridedSlice S1024x128 ![2048, 0] d slices_S4096x128_o2048_0_S1024x128⟩,
     ⟨S1024x128, extractStridedSlice S1024x128 ![3072, 0] d slices_S4096x128_o3072_0_S1024x128⟩]
    concatenates_S1024x128_S1024x128_S1024x128_S1024x128_S1024x512_d1

/-- The generated stored value is the fold's end. -/
theorem out_eq (x0 : Vec F S1024x512 .bf16) (x1 x2 : Vec F S4096x128 .bf16) (x3 x4 : Vec F S1x256x128 .bf16) :
    out0_5 x0 x1 x2 x3 x4
      = View.canon [⟨r0_17, beside (quot (ac (k0_pay36 (View.ld x0 r0_17)) (kseg x1 x3) (vseg x2 x4) 16))⟩] := by
  unfold_out out0_5
  rfl

end Cert.LatIdeal.Fold
-- ==== Proof.SoftSum.lean ====
/- Real and extended-real facts behind a softmax taken in segments: sums of real numbers read in the extended reals,
   the running accumulator's closed form, and the quotient of its two sums as a softmax-weighted sum. -/
module

public import Idealize.ShloMosaic.Lib.Pointwise

@[expose] public section

noncomputable section

namespace Cert.SoftSum

open Idealize.ShloMosaic

/-- A nonnegative real factor on the right passes through a finite sum of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top _), ih]

/-- A finite sum of real numbers is the same taken in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern of the negative infinity is the least extended real. -/
theorem ofBits_neg_inf : Ideal.ofBits .f32 0xFF800000#32 = (⊥ : EReal) := by
  simp [Ideal.ofBits, Ideal.ieee]

/-- The pattern of the positive infinity is the greatest extended real. -/
theorem ofBits_pos_inf : Ideal.ofBits .f32 0x7F800000#32 = (⊤ : EReal) := by
  simp [Ideal.ofBits, Ideal.ieee]

/-- The maximum of a nonempty family of real numbers, taken from negative infinity, is a real number. -/
theorem fold_max_real {n : ℕ} (f : Fin (n + 1) → EReal) (hf : ∀ i, ∃ r : ℝ, f i = r) :
    ∃ r : ℝ, Finset.univ.fold max (⊥ : EReal) f = r := by
  have h : ∀ s : Finset (Fin (n + 1)), s.Nonempty → ∃ r : ℝ, s.fold max (⊥ : EReal) f = r := by
    classical
    intro s
    induction s using Finset.induction_on with
    | empty => intro h; exact absurd h (by simp)
    | insert a s ha ih =>
      intro _
      rw [Finset.fold_insert ha]
      obtain ⟨r, hr⟩ := hf a
      rcases s.eq_empty_or_nonempty with rfl | hs
      · exact ⟨r, by simp [hr]⟩
      · obtain ⟨t, ht⟩ := ih hs
        exact ⟨max r t, by rw [hr, ht]; exact (EReal.coe_strictMono.monotone.map_max).symm⟩
  exact h _ ⟨0, Finset.mem_univ _⟩

/-- The running accumulator's closed form: rescaled at every step by the change of the running maximum, it is the sum
    over all segments so far of the weights against the present maximum. -/
theorem run_sum {n : ℕ} (s : ℕ → Fin n → ℝ) (μ : ℕ → ℝ) (V : ℕ → Fin n → EReal) (a : ℕ → EReal)
    (h0 : a 0 = ∑ j, Ideal.exp2 ((s 0 j : EReal) - (μ 0 : EReal)) * V 0 j)
    (hs : ∀ c, a (c + 1) = a c * Ideal.exp2 ((μ c : EReal) - (μ (c + 1) : EReal))
      + ∑ j, Ideal.exp2 ((s (c + 1) j : EReal) - (μ (c + 1) : EReal)) * V (c + 1) j) (N : ℕ) :
    a N = ∑ c ∈ Finset.range (N + 1), ∑ j, (((2 : ℝ) ^ (s c j - μ N) : ℝ) : EReal) * V c j := by
  induction N with
  | zero => rw [h0]; simp [← EReal.coe_sub]
  | succ N ih =>
    rw [hs, ih, Finset.sum_range_succ _ (N + 1), ← EReal.coe_sub, Ideal.exp2_coe]
    congr 1
    have hp : (0 : ℝ) ≤ Real.rpow 2 (μ N - μ (N + 1)) := Real.rpow_nonneg (by norm_num) _
    rw [sum_mul_coe _ _ hp]
    refine Finset.sum_congr rfl fun c _ => ?_
    rw [sum_mul_coe _ _ hp]
    refine Finset.sum_congr rfl fun j _ => ?_
    rw [mul_right_comm, ← EReal.coe_mul]
    congr 3
    rw [show s c j - μ (N + 1) = (s c j - μ N) + (μ N - μ (N + 1)) by ring, Real.rpow_add (by norm_num)]
    rfl

/-- Division by a positive real number is multiplication by its inverse. -/
theorem div_real (x : EReal) {l : ℝ} (hl : 0 < l) : Ideal.div x (l : EReal) = x * ((l⁻¹ : ℝ) : EReal) := by
  have : (l : EReal) ≠ 0 := by exact_mod_cast hl.ne'
  rw [Ideal.div, if_neg this, EReal.coe_inv]

/-- **The quotient of the two running sums is the softmax-weighted sum**: powers of two of the scaled scores against any
    real reference point, divided once at the end, against exponentials of the scores divided one by one. -/
theorem quotient {N n : ℕ} (x : Fin (N * n) → ℝ) (V : Fin (N * n) → EReal) (s : ℕ → Fin n → ℝ) (W : ℕ → Fin n → EReal)
    (hs : ∀ (c : Fin N) (j : Fin n) (h), s c j = x ⟨c * n + j, h⟩ * (1 / Real.log 2))
    (hW : ∀ (c : Fin N) (j : Fin n) (h), W c j = V ⟨c * n + j, h⟩) (hpos : 0 < N * n) (μ M : ℝ) :
    Ideal.div (∑ c ∈ Finset.range N, ∑ j, (((2 : ℝ) ^ (s c j - μ) : ℝ) : EReal) * W c j)
        (∑ c ∈ Finset.range N, ∑ j, (((2 : ℝ) ^ (s c j - μ) : ℝ) : EReal) * 1)
      = ∑ t, Ideal.div (Ideal.exp ((x t : EReal) - (M : EReal)))
          (∑ t', Ideal.exp ((x t' : EReal) - (M : EReal))) * V t := by
  have hpt : ∀ (c : Fin N) (j : Fin n) (h), (2 : ℝ) ^ (s c j - μ) = Real.exp (x ⟨c * n + j, h⟩ - M)
      * Real.exp (M - μ * Real.log 2) := by
    intro c j h
    have hl : Real.log 2 ≠ 0 := (Real.log_pos (by norm_num)).ne'
    rw [Real.rpow_def_of_pos (by norm_num), ← Real.exp_add, hs c j h]
    congr 1
    field_simp
    ring
  have hC : 0 < Real.exp (M - μ * Real.log 2) := Real.exp_pos _
  generalize Real.exp (M - μ * Real.log 2) = C at hpt hC
  have hE : ∀ t, Ideal.exp ((x t : EReal) - (M : EReal)) = ((Real.exp (x t - M) : ℝ) : EReal) := by
    intro t; rw [← EReal.coe_sub, Ideal.exp_coe]
  have hL : 0 < ∑ t, Real.exp (x t - M) :=
    Finset.sum_pos (fun t _ => Real.exp_pos _) ⟨⟨0, hpos⟩, Finset.mem_univ _⟩
  have e1 : (∑ c ∈ Finset.range N, ∑ j, (((2 : ℝ) ^ (s c j - μ) : ℝ) : EReal) * W c j)
      = ∑ t, ((Real.exp (x t - M) * C : ℝ) : EReal) * V t := by
    rw [Fin.sum_univ_tiles N n rfl, Finset.sum_range]
    refine Finset.sum_congr rfl fun c _ => Finset.sum_congr rfl fun j _ => ?_
    rw [hpt c j, hW c j]
  have e2 : (∑ c ∈ Finset.range N, ∑ j, (((2 : ℝ) ^ (s c j - μ) : ℝ) : EReal) * 1)
      = (((∑ t, Real.exp (x t - M)) * C : ℝ) : EReal) := by
    rw [Finset.sum_mul, coe_sum, Fin.sum_univ_tiles N n rfl, Finset.sum_range]
    refine Finset.sum_congr rfl fun c _ => Finset.sum_congr rfl fun j _ => ?_
    rw [hpt c j, mul_one]
  rw [e1, e2, div_real _ (mul_pos hL hC), sum_mul_coe _ _ (inv_nonneg.mpr (mul_pos hL hC).le)]
  refine Finset.sum_congr rfl fun t _ => ?_
  have e3 : (∑ t', Ideal.exp ((x t' : EReal) - (M : EReal))) = ((∑ t, Real.exp (x t - M) : ℝ) : EReal) := by
    rw [coe_sum]; exact Finset.sum_congr rfl fun t _ => hE t
  rw [e3, hE, div_real _ hL, mul_right_comm, ← EReal.coe_mul, ← EReal.coe_mul]
  congr 2
  field_simp

end Cert.SoftSum

end
-- ==== Proof.LatRow.lean ====
/- The attention block's fold read at one row: the scores, the running maximum, the accumulator, and the block's
   stored value as a softmax-weighted sum of the values. -/
module

public import proofs.«01_k».proof.Proof.LatFold
public import proofs.«01_k».proof.Proof.SoftSum

@[expose] public section

set_option maxRecDepth 65536

noncomputable section

namespace Cert.LatIdeal.Fold

open Idealize.ShloMosaic Idealize.ShloMosaic.TcCoe Idealize.SL.Sem
open Cert.LatIdeal Cert.LatIdeal.Gen Cert.SoftSum

/-- A score is the inner product of a query row and a key row. -/
theorem score_at (q : FVec Ideal S4096x128 .bf16) (k : FVec Ideal S256x128 .bf16) (r : Fin 4096) (j : Fin 256) :
    score q k (ix2 r j) = ∑ d : Fin 128, q (ix2 r d) * k (ix2 j d) := by
  pointwise [score]

/-- A row maximum is the maximum of the row's entries, from negative infinity. -/
theorem top_at (s : FVec Ideal S4096x256 .f32) (r : Fin 4096) :
    top s (ix2 r 0) = Finset.univ.fold max (⊥ : EReal) fun j : Fin 256 => s (ix2 r j) := by
  rw [← ofBits_neg_inf]
  pointwise [top]

/-- A segment's contribution: its weights against the running maximum, times its values. -/
theorem part_at (s : FVec Ideal S4096x256 .f32) (m : FVec Ideal S4096x1 .f32) (v : FVec Ideal S256x256 .bf16)
    (r : Fin 4096) (e : Fin 256) :
    part s m v (ix2 r e) = ∑ j : Fin 256, Ideal.exp2 (s (ix2 r j) - m (ix2 r 0)) * v (ix2 j e) := by
  pointwise [part]
  rfl

/-- The running maximum's step. -/
theorem mx_succ_at (q : FVec Ideal S4096x128 .bf16) (K : ℕ → FVec Ideal S256x128 .bf16) (n : ℕ) (r : Fin 4096) :
    mx q K (n + 1) (ix2 r 0) = max (mx q K n (ix2 r 0)) (top (score q (K (n + 1))) (ix2 r 0)) := by
  rw [mx]
  generalize mx q K n = a
  generalize top (score q (K (n + 1))) = b
  pointwise

/-- The accumulator's step. -/
theorem ac_succ_at (q : FVec Ideal S4096x128 .bf16) (K : ℕ → FVec Ideal S256x128 .bf16)
    (V : ℕ → FVec Ideal S256x256 .bf16) (n : ℕ) (r : Fin 4096) (e : Fin 256) :
    ac q K V (n + 1) (ix2 r e) = ac q K V n (ix2 r e) * Ideal.exp2 (mx q K n (ix2 r 0) - mx q K (n + 1) (ix2 r 0))
      + part (score q (K (n + 1))) (mx q K (n + 1)) (V (n + 1)) (ix2 r e) := by
  rw [ac]
  pointwise
  rfl

/-- With real scores in a row its running maximum is real. -/
theorem mx_real (q : FVec Ideal S4096x128 .bf16) (K : ℕ → FVec Ideal S256x128 .bf16) (r : Fin 4096)
    (s : ℕ → Fin 256 → ℝ) (hs : ∀ n j, score q (K n) (ix2 r j) = (s n j : EReal)) (n : ℕ) :
    ∃ μ : ℝ, mx q K n (ix2 r 0) = (μ : EReal) := by
  have ht : ∀ n, ∃ μ : ℝ, top (score q (K n)) (ix2 r 0) = (μ : EReal) := fun n => by
    rw [top_at]; exact fold_max_real _ fun j => ⟨s n j, hs n j⟩
  induction n with
  | zero => exact ht 0
  | succ n ih =>
    obtain ⟨a, ha⟩ := ih
    obtain ⟨b, hb⟩ := ht (n + 1)
    exact ⟨max a b, by rw [mx_succ_at, ha, hb]; exact (EReal.coe_strictMono.monotone.map_max).symm⟩

/-- The accumulator after segment `N`, in closed form: for one real reference point, the same for all columns. -/
theorem ac_at (q : FVec Ideal S4096x128 .bf16) (K : ℕ → FVec Ideal S256x128 .bf16)
    (V : ℕ → FVec Ideal S256x256 .bf16) (r : Fin 4096) (s : ℕ → Fin 256 → ℝ)
    (hs : ∀ n j, score q (K n) (ix2 r j) = (s n j : EReal)) (N : ℕ) :
    ∃ μ : ℝ, ∀ e : Fin 256, ac q K V N (ix2 r e)
      = ∑ c ∈ Finset.range (N + 1), ∑ j, (((2 : ℝ) ^ (s c j - μ) : ℝ) : EReal) * V c (ix2 j e) := by
  choose μ hμ using mx_real q K r s hs
  refine ⟨μ N, fun e => run_sum s μ (fun c j => V c (ix2 j e)) (fun n => ac q K V n (ix2 r e)) ?_ (fun c => ?_) N⟩
  · show part _ _ _ _ = _
    rw [part_at, hμ]
    exact Finset.sum_congr rfl fun j _ => by rw [hs]
  · show ac q K V (c + 1) (ix2 r e) = _
    rw [ac_succ_at, part_at, hμ, hμ]
    congr 1
    exact Finset.sum_congr rfl fun j _ => by rw [hs]

end Cert.LatIdeal.Fold
end
-- ==== Proof.LatLayout.lean ====
/- The attention block's fold: layout read at an index: the stacked queries, the key and value segments, the heads laid
   beside one another. -/
module

public import proofs.«01_k».proof.Proof.LatFold
public import proofs.«01_k».proof.Proof.SoftSum

@[expose] public section

set_option maxRecDepth 65536

noncomputable section

namespace Cert.LatIdeal.Fold

open Idealize.ShloMosaic Idealize.ShloMosaic.TcCoe Idealize.SL.Sem
open Cert.LatIdeal Cert.LatIdeal.Gen Cert.SoftSum

/-- The four head blocks of the query block, one under another. -/
theorem stack_at (x : FVec Ideal S1024x512 .bf16) (h : Fin 4) (p : Fin 1024) (d : Fin 128) :
    k0_pay36 x (ix2 (⟨1024 * h + p, by omega⟩ : Fin 4096) d)
      = x (ix2 p (⟨128 * h + d, by omega⟩ : Fin 512)) := by
  generalize hr : (⟨1024 * h + p, by omega⟩ : Fin 4096) = r
  have hr' : 1024 * h.val + p.val = r.val := congrArg Fin.val hr
  pointwise [k0_pay36]
  split_ifs
  all_goals exact congrArg₂ (fun u v => x (ix2 u v)) (Fin.ext (by dsimp only; omega)) (Fin.ext (by dsimp only; omega))

/-- The quotient at an entry. -/
theorem quot_at (a : FVec Ideal S4096x256 .f32) (r : Fin 4096) (d : Fin 128) :
    quot a (ix2 r d) = Ideal.div (a (ix2 r (⟨d, by omega⟩ : Fin 256))) (a (ix2 r (⟨128 + d, by omega⟩ : Fin 256))) := by
  pointwise [quot]

/-- The block's value at head `h`, row `p`, column `d` is stacked row `1024 h + p`'s. -/
theorem beside_at (a : FVec Ideal S4096x128 .bf16) (h : Fin 4) (p : Fin 1024) (d : Fin 128) :
    beside a (ix2 p (⟨128 * h + d, by omega⟩ : Fin 512)) = a (ix2 (⟨1024 * h + p, by omega⟩ : Fin 4096) d) := by
  pointwise [beside]
  split_ifs
  all_goals exact congrArg₂ (fun u v => a (ix2 u v)) (Fin.ext (by dsimp only; omega)) (Fin.ext (by dsimp only; omega))

theorem ld_q (x : Vec Ideal S1024x512 .bf16) : (View.ld x r0_17 : Vec Ideal S1024x512 .bf16) = x := by
  funext i
  idx_vars i
  pointwise

end Cert.LatIdeal.Fold
end
-- ==== Proof.LatSeg.lean ====
/- The key and value segments of the attention block read at an index. -/
module

public import proofs.«01_k».proof.Proof.LatFold
public import proofs.«01_k».proof.Proof.SoftSum

@[expose] public section

set_option maxRecDepth 65536

noncomputable section

namespace Cert.LatIdeal.Fold

open Idealize.ShloMosaic Idealize.ShloMosaic.TcCoe Idealize.SL.Sem
open Cert.LatIdeal Cert.LatIdeal.Gen Cert.SoftSum

set_option maxHeartbeats 1600000 in
/-- A key segment below the last holds 256 rows of the keys. -/
theorem kseg_lt (x1 : FVec Ideal S4096x128 .bf16) (x3 : FVec Ideal S1x256x128 .bf16) (n : ℕ) (hn : n < 16)
    (j : Fin 256) (d : Fin 128) : kseg (F := Ideal) x1 x3 n (ix2 j d) = x1 (ix2 (⟨n * 256 + j, by omega⟩ : Fin 4096) d) := by
  interval_cases n
  all_goals
    pointwise [kseg, k0_pay2, k0_pay4, k0_pay6, k0_pay8, k0_pay10, k0_pay12, k0_pay14, k0_pay16, k0_pay18, k0_pay20, k0_pay22, k0_pay24, k0_pay26, k0_pay28, k0_pay30, k0_pay32]
    first | done | exact congrArg (fun u => x1 (ix2 u d)) (Fin.ext (by dsimp only; omega))

/-- The last key segment holds the cached keys. -/
theorem kseg_last (x1 : FVec Ideal S4096x128 .bf16) (x3 : FVec Ideal S1x256x128 .bf16)
    (j : Fin 256) (d : Fin 128) : kseg (F := Ideal) x1 x3 16 (ix2 j d) = x3 (ix3 0 j d) := by
  pointwise [kseg, k0_pay34]

set_option maxHeartbeats 1600000 in
/-- A value segment below the last holds 256 rows of the values in its left half, -/
theorem vseg_lt (x2 : FVec Ideal S4096x128 .bf16) (x4 : FVec Ideal S1x256x128 .bf16) (n : ℕ) (hn : n < 16)
    (j : Fin 256) (d : Fin 128) :
    vseg (F := Ideal) x2 x4 n (ix2 j (⟨d, by omega⟩ : Fin 256)) = x2 (ix2 (⟨n * 256 + j, by omega⟩ : Fin 4096) d) := by
  interval_cases n
  all_goals
    pointwise [vseg, k0_pay3, k0_pay5, k0_pay7, k0_pay9, k0_pay11, k0_pay13, k0_pay15, k0_pay17, k0_pay19, k0_pay21, k0_pay23, k0_pay25, k0_pay27, k0_pay29, k0_pay31, k0_pay33]
    first | done | exact congrArg (fun u => x2 (ix2 u d)) (Fin.ext (by dsimp only; omega))

/-- the last the cached values, -/
theorem vseg_last (x2 : FVec Ideal S4096x128 .bf16) (x4 : FVec Ideal S1x256x128 .bf16)
    (j : Fin 256) (d : Fin 128) : vseg (F := Ideal) x2 x4 16 (ix2 j (⟨d, by omega⟩ : Fin 256)) = x4 (ix3 0 j d) := by
  pointwise [vseg, k0_pay35]

set_option maxHeartbeats 1600000 in
/-- and every one of them ones in its right half. -/
theorem vseg_one (x2 : FVec Ideal S4096x128 .bf16) (x4 : FVec Ideal S1x256x128 .bf16) (n : ℕ) (hn : n < 17)
    (j : Fin 256) (d : Fin 128) : vseg (F := Ideal) x2 x4 n (ix2 j (⟨128 + d, by omega⟩ : Fin 256)) = 1 := by
  interval_cases n
  all_goals
    pointwise [vseg, k0_pay3, k0_pay5, k0_pay7, k0_pay9, k0_pay11, k0_pay13, k0_pay15, k0_pay17, k0_pay19, k0_pay21, k0_pay23, k0_pay25, k0_pay27, k0_pay29, k0_pay31, k0_pay33, k0_pay35]

end Cert.LatIdeal.Fold
end
-- ==== Proof.LatBlock.lean ====
/- The attention block's stored value at one entry: a softmax-weighted sum of the block's values. -/
module

public import proofs.«01_k».proof.Proof.LatRow
public import proofs.«01_k».proof.Proof.LatLayout
public import proofs.«01_k».proof.Proof.LatSeg

@[expose] public section

set_option maxRecDepth 65536

noncomputable section

namespace Cert.LatIdeal.Fold

open Idealize.ShloMosaic Idealize.ShloMosaic.TcCoe Idealize.SL.Sem
open Cert.LatIdeal Cert.LatIdeal.Gen Cert.SoftSum

/-- The rows of an array followed by the rows of the cache's block. -/
def rows (x : FVec Ideal S4096x128 .bf16) (y : FVec Ideal S1x256x128 .bf16) (t : Fin 4352) (d : Fin 128) : EReal :=
  if h : t.val < 4096 then x (ix2 ⟨t, h⟩ d) else y (ix3 0 ⟨t - 4096, by omega⟩ d)

/-- The key segments are the key rows, 256 at a time. -/
theorem kseg_rows (x1 : FVec Ideal S4096x128 .bf16) (x3 : FVec Ideal S1x256x128 .bf16) (c : Fin 17) (j : Fin 256)
    (h : c.val * 256 + j.val < 4352) (d : Fin 128) :
    kseg (F := Ideal) x1 x3 c (ix2 j d) = rows x1 x3 ⟨c * 256 + j, h⟩ d := by
  unfold rows
  by_cases hc : c.val < 16
  · rw [dif_pos (show c.val * 256 + j.val < 4096 by omega)]
    exact kseg_lt x1 x3 c hc j d
  · have e : c.val = 16 := by omega
    rw [dif_neg (show ¬ c.val * 256 + j.val < 4096 by omega), show kseg (F := Ideal) x1 x3 c = kseg (F := Ideal) x1 x3 16 from congrArg _ e, kseg_last]
    exact congrArg (fun u => x3 (ix3 0 u d)) (Fin.ext (by dsimp only; omega))

/-- The value segments' left halves are the value rows, 256 at a time. -/
theorem vseg_rows (x2 : FVec Ideal S4096x128 .bf16) (x4 : FVec Ideal S1x256x128 .bf16) (c : Fin 17) (j : Fin 256)
    (h : c.val * 256 + j.val < 4352) (d : Fin 128) :
    vseg (F := Ideal) x2 x4 c (ix2 j (⟨d, by omega⟩ : Fin 256)) = rows x2 x4 ⟨c * 256 + j, h⟩ d := by
  unfold rows
  by_cases hc : c.val < 16
  · rw [dif_pos (show c.val * 256 + j.val < 4096 by omega)]
    exact vseg_lt x2 x4 c hc j d
  · have e : c.val = 16 := by omega
    rw [dif_neg (show ¬ c.val * 256 + j.val < 4096 by omega), show vseg (F := Ideal) x2 x4 c = vseg (F := Ideal) x2 x4 16 from congrArg _ e, vseg_last]
    exact congrArg (fun u => x4 (ix3 0 u d)) (Fin.ext (by dsimp only; omega))

/-- **The block's stored value at head `h`, row `p`, column `d`**: where the products of the query row with the key rows
    are the real numbers `x t / log 2`, it is the values' sum weighted by the softmax of `x`, taken against any real `M`. -/
theorem block_at (x0 : FVec Ideal S1024x512 .bf16) (x1 x2 : FVec Ideal S4096x128 .bf16) (x3 x4 : FVec Ideal S1x256x128 .bf16)
    (h : Fin 4) (p : Fin 1024) (d : Fin 128) (x : Fin 4352 → ℝ) (M : ℝ)
    (hx : ∀ t, ∑ e : Fin 128, x0 (ix2 p (⟨128 * h + e, by omega⟩ : Fin 512)) * rows x1 x3 t e
      = ((x t * (1 / Real.log 2) : ℝ) : EReal)) :
    beside (quot (ac (k0_pay36 x0) (kseg (F := Ideal) x1 x3) (vseg (F := Ideal) x2 x4) 16))
        (ix2 p (⟨128 * h + d, by omega⟩ : Fin 512))
      = ∑ t, Ideal.div (Ideal.exp ((x t : EReal) - (M : EReal)))
          (∑ t', Ideal.exp ((x t' : EReal) - (M : EReal))) * rows x2 x4 t d := by
  have hseg : ∀ n, 17 ≤ n → kseg (F := Ideal) x1 x3 n = kseg (F := Ideal) x1 x3 16 := by
    intro n hn
    obtain ⟨k, rfl⟩ := Nat.exists_eq_add_of_le' hn
    rfl
  obtain ⟨s, hsd⟩ : ∃ s : ℕ → Fin 256 → ℝ, ∀ n j, s n j = x (⟨(min n 16) * 256 + j, by omega⟩) * (1 / Real.log 2) :=
    ⟨_, fun _ _ => rfl⟩
  have hs : ∀ n j, score (k0_pay36 x0) (kseg (F := Ideal) x1 x3 n) (ix2 (⟨1024 * h + p, by omega⟩ : Fin 4096) j)
      = (s n j : EReal) := by
    intro n j
    rw [score_at, hsd, ← hx]
    refine Finset.sum_congr rfl fun e _ => ?_
    rw [stack_at]
    congr 1
    have hn : kseg (F := Ideal) x1 x3 n = kseg (F := Ideal) x1 x3 (min n 16) := by
      by_cases h' : n < 17
      · rw [min_eq_left (by omega)]
      · rw [min_eq_right (by omega), hseg n (by omega)]
    rw [hn]
    exact kseg_rows x1 x3 ⟨min n 16, by omega⟩ j (by dsimp only; omega) e
  obtain ⟨μ, hμ⟩ := ac_at (k0_pay36 x0) (kseg (F := Ideal) x1 x3) (vseg (F := Ideal) x2 x4) _ s hs 16
  rw [beside_at, quot_at, hμ, hμ]
  refine Eq.trans ?_ (quotient (N := 17) (n := 256) x (fun t => rows x2 x4 t d) s
    (fun c j => vseg (F := Ideal) x2 x4 c (ix2 j (⟨d, by omega⟩ : Fin 256))) (fun c j hcj => ?_)
    (fun c j hcj => vseg_rows x2 x4 c j hcj d) (by norm_num) μ M)
  · refine congrArg (Ideal.div _) (Finset.sum_congr rfl fun c hc => Finset.sum_congr rfl fun j _ => ?_)
    rw [vseg_one x2 x4 c (Finset.mem_range.mp hc)]
  · have e : min c.val 16 = c.val := min_eq_left (by omega)
    rw [hsd]
    simp only [e]

end Cert.LatIdeal.Fold
end
-- ==== Proof.LatRef.lean ====
/- The attention reference's result in named stages, each read at an index. -/
module

public import proofs.«01_k».proof.Proof.Gen.LatRefIdeal.Run
public import proofs.«01_k».proof.Proof.SoftSum

@[expose] public section

set_option maxRecDepth 65536

noncomputable section

namespace Cert.LatRefIdeal.Stage

open Idealize.ShloMosaic Idealize.ShloMosaic.TcCoe Idealize.SL.Sem
open Cert.LatRefIdeal Cert.LatRefIdeal.Gen Cert.LatRefIdeal.Value Cert.SoftSum

/-- The rows of the present sequence followed by the cached rows, by batch and head group. -/
def cat (k : FVec Ideal S8192x256 .f32) (ck : FVec Ideal S2x1x256x2x128 .f32) : FVec Ideal S2x4352x2x128 .f32 :=
  concatenate S2x4352x2x128 1 [⟨S2x4096x2x128, (shapeCast _ k shapeCasts_S8192x256_S2x4096x2x128)⟩,
    ⟨S2x256x2x128, (shapeCast _ ck shapeCasts_S2x1x256x2x128_S2x256x2x128)⟩]
    concatenates_S2x4096x2x128_S2x256x2x128_S2x4352x2x128_d1

/-- The scaled scores. -/
def logits (q : FVec Ideal S8192x1024 .f32) (ks : FVec Ideal S2x4352x2x128 .f32) : FVec Ideal S2x2x4x4096x4352 .f32 :=
  Host.divf (transpose S2x2x4x4096x4352 [0, 1, 4, 3, 2]
      (Host.dotGeneral dot_S2x4352x2x128_S2x4096x2x4x128_S2x2x4352x4096x4_3_4_1_13_02_02 none ks
        (shapeCast _ q shapeCasts_S8192x1024_S2x4096x2x4x128)) transposes_S2x2x4352x4096x4_S2x2x4x4096x4352_0_1_4_3_2)
    (broadcastInDim S2x2x4x4096x4352 ![] bcast_S_S2x2x4x4096x4352 (Host.sqrt (constant S_ .f32 0x43000000#32)))

/-- The row maxima of the scores. -/
def tops (l : FVec Ideal S2x2x4x4096x4352 .f32) : FVec Ideal S2x2x4x4096 .f32 :=
  maximumf (broadcastInDim S2x2x4x4096 ![] bcast_S_S2x2x4x4096 (constant S_ .f32 0xFF800000#32))
    (Host.reduce FloatOps.maximumf l (constant S_ .f32 0xFF800000#32) reducesTo_S2x2x4x4096x4352_S2x2x4x4096_d4 h_S_)

/-- The exponentials of the scores less their maxima. -/
def exps (l : FVec Ideal S2x2x4x4096x4352 .f32) (x : FVec Ideal S2x2x4x4096 .f32) : FVec Ideal S2x2x4x4096x4352 .f32 :=
  Host.exp (subf l (broadcastInDim S2x2x4x4096x4352 ![0, 1, 2, 3, 4] bcast_S2x2x4x4096x1_S2x2x4x4096x4352_0_1_2_3_4
    (broadcastInDim S2x2x4x4096x1 ![0, 1, 2, 3] bcast_S2x2x4x4096_S2x2x4x4096x1_0_1_2_3 x)))

/-- The exponentials divided by their row sums. -/
def weights (e : FVec Ideal S2x2x4x4096x4352 .f32) : FVec Ideal S2x2x4x4096x4352 .f32 :=
  Host.divf e (broadcastInDim S2x2x4x4096x4352 ![0, 1, 2, 3, 4] bcast_S2x2x4x4096x1_S2x2x4x4096x4352_0_1_2_3_4
    (broadcastInDim S2x2x4x4096x1 ![0, 1, 2, 3] bcast_S2x2x4x4096_S2x2x4x4096x1_0_1_2_3
      (Host.reduceAdd e (constant S_ .f32 0x00000000#32) reducesTo_S2x2x4x4096x4352_S2x2x4x4096_d4 h_S_)))

/-- The weighted values, as rows of the result. -/
def mix (vs : FVec Ideal S2x4352x2x128 .f32) (w : FVec Ideal S2x2x4x4096x4352 .f32) : FVec Ideal S8192x1024 .bf16 :=
  truncf .bf16 (shapeCast _ (transpose S2x4096x2x4x128 [0, 4, 1, 3, 2]
    (Host.dotGeneral dot_S2x4352x2x128_S2x2x4x4096x4352_S2x2x128x4x4096_1_4_3_23_02_01 none vs w)
    transposes_S2x2x128x4x4096_S2x4096x2x4x128_0_4_1_3_2) shapeCasts_S2x4096x2x4x128_S8192x1024) bitsLt_bf16_f32

/-- The reference's result is its stages composed. -/
theorem res_eq (m : (ℓ : Loc nD τ sig) → Buf (Elt Ideal) ℓ) (c : Dev nD) :
    res_main_v26 m c = mix (cat (m ((c.tc : Thread nD τ).loc main_arg2)) (m ((c.tc : Thread nD τ).loc main_arg4)))
      (weights (exps (logits (m ((c.tc : Thread nD τ).loc main_arg0))
          (cat (m ((c.tc : Thread nD τ).loc main_arg1)) (m ((c.tc : Thread nD τ).loc main_arg3))))
        (tops (logits (m ((c.tc : Thread nD τ).loc main_arg0))
          (cat (m ((c.tc : Thread nD τ).loc main_arg1)) (m ((c.tc : Thread nD τ).loc main_arg3))))))) := rfl

theorem cat_at (k : FVec Ideal S8192x256 .f32) (ck : FVec Ideal S2x1x256x2x128 .f32) (b : Fin 2) (t : Fin 4352) (g : Fin 2)
    (d : Fin 128) : cat k ck (ix4 b t g d) = if h : t.val < 4096
      then k (ix2 (⟨b * 4096 + t, by omega⟩ : Fin 8192) (⟨g * 128 + d, by omega⟩ : Fin 256))
      else ck (ix5 b 0 ⟨t - 4096, by omega⟩ g d) := by
  pointwise [cat]

theorem logits_at (q : FVec Ideal S8192x1024 .f32) (ks : FVec Ideal S2x4352x2x128 .f32)
    (b g : Fin 2) (h : Fin 4) (n : Fin 4096) (t : Fin 4352) :
    logits q ks (ix5 b g h n t) = Ideal.div (∑ e : Fin 128, ks (ix4 b t g e)
      * q (ix2 (⟨b * 4096 + n, by omega⟩ : Fin 8192) (⟨g * 512 + h * 128 + e, by omega⟩ : Fin 1024)))
      (Ideal.sqrt (Ideal.ofBits .f32 0x43000000#32)) := by
  pointwise [logits]

/-- A maximum over an axis of real numbers, from negative infinity, is real. -/
theorem reduce_max_real {s t u : Shape} {a : Fin s.rank} (N : ℕ) (hN : s.size a = N + 1) (x : FVec Ideal s .f32)
    (hx : ∀ i, ∃ r : ℝ, x i = (r : EReal)) (h' : s.ReducesTo [a] t) (h : s.Reduces [a] t) (hu : 0 < u.numel) (j : t.Idx) :
    ∃ M : ℝ, Host.reduce FloatOps.maximumf x (constant u .f32 0xFF800000#32) h' hu j = (M : EReal) := by
  rw [Host.reduce_eq_fold_single FloatOps.maximumf x _ h' h hu]
  have e : ∀ (n : ℕ) (_ : n = N + 1) (f : Fin n → EReal) (_ : ∀ i, ∃ r : ℝ, f i = (r : EReal)),
      ∃ M : ℝ, (Finset.univ : Finset (Fin n)).fold (FloatOps.maximumf : Ideal .f32 → Ideal .f32 → Ideal .f32)
        (Ideal.ofBits .f32 0xFF800000#32) f = (M : EReal) := by
    rintro n rfl f hf
    rw [ofBits_neg_inf]
    exact fold_max_real f hf
  exact e _ hN _ fun k => hx _

theorem reduces_last : S2x2x4x4096x4352.Reduces [4] S2x2x4x4096 := by decide

/-- The row maxima of real scores are real. -/
theorem tops_real (l : FVec Ideal S2x2x4x4096x4352 .f32) (hl : ∀ i, ∃ r : ℝ, l i = (r : EReal)) (j : S2x2x4x4096.Idx) :
    ∃ M : ℝ, tops l j = (M : EReal) := by
  obtain ⟨M, hM⟩ := reduce_max_real 4351 rfl l hl reducesTo_S2x2x4x4096x4352_S2x2x4x4096_d4 reduces_last h_S_ j
  refine ⟨M, ?_⟩
  rw [tops, maximumf_apply, hM]
  show max (Ideal.ofBits .f32 0xFF800000#32) (M : EReal) = M
  rw [ofBits_neg_inf]
  exact max_bot_left _

theorem exps_at (l : FVec Ideal S2x2x4x4096x4352 .f32) (x : FVec Ideal S2x2x4x4096 .f32)
    (b g : Fin 2) (h : Fin 4) (n : Fin 4096) (t : Fin 4352) :
    exps l x (ix5 b g h n t) = Ideal.exp (l (ix5 b g h n t) - x (ix4 b g h n)) := by
  pointwise [exps]

theorem weights_at (e : FVec Ideal S2x2x4x4096x4352 .f32)
    (b g : Fin 2) (h : Fin 4) (n : Fin 4096) (t : Fin 4352) :
    weights e (ix5 b g h n t) = Ideal.div (e (ix5 b g h n t)) (∑ t' : Fin 4352, e (ix5 b g h n t')) := by
  pointwise [weights]

theorem mix_at (vs : FVec Ideal S2x4352x2x128 .f32) (w : FVec Ideal S2x2x4x4096x4352 .f32)
    (b g : Fin 2) (h : Fin 4) (n : Fin 4096) (d : Fin 128) :
    mix vs w (ix2 (⟨b * 4096 + n, by omega⟩ : Fin 8192) (⟨g * 512 + h * 128 + d, by omega⟩ : Fin 1024))
      = ∑ t : Fin 4352, w (ix5 b g h n t) * vs (ix4 b t g d) := by
  pointwise [mix]
  exact Finset.sum_congr rfl fun t _ => mul_comm _ _

/-- The pattern of 128. -/
theorem ofBits_128 : Ideal.ofBits .f32 0x43000000#32 = ((128 : ℝ) : EReal) := by
  simp [Ideal.ofBits, Ideal.ieee, -EReal.coe_mul]; norm_num

/-- Dividing by the square root of 128. -/
theorem div_sqrt (y : ℝ) : Ideal.div (y : EReal) (Ideal.sqrt (Ideal.ofBits .f32 0x43000000#32))
    = ((y * (Real.sqrt 128)⁻¹ : ℝ) : EReal) := by
  rw [ofBits_128, Ideal.sqrt_coe, if_neg (by norm_num), div_real _ (Real.sqrt_pos.mpr (by norm_num)), ← EReal.coe_mul]

/-- **The reference at one entry**, for real queries and keys: the values' sum weighted by the softmax of the scaled real
    products, taken against some real number. -/
theorem ref_at (q : FVec Ideal S8192x1024 .f32) (ks vs : FVec Ideal S2x4352x2x128 .f32)
    (hq : ∀ i, ∃ r : ℝ, q i = (r : EReal)) (hk : ∀ i, ∃ r : ℝ, ks i = (r : EReal))
    (b g : Fin 2) (h : Fin 4) (n : Fin 4096) :
    ∃ (y : Fin 4352 → ℝ) (M : ℝ),
      (∀ t, ∃ z : Fin 128 → ℝ, (∀ e, ks (ix4 b t g e)
        * q (ix2 (⟨b * 4096 + n, by omega⟩ : Fin 8192) (⟨g * 512 + h * 128 + e, by omega⟩ : Fin 1024)) = (z e : EReal))
        ∧ y t = ∑ e, z e) ∧
      ∀ d : Fin 128, mix vs (weights (exps (logits q ks) (tops (logits q ks))))
          (ix2 (⟨b * 4096 + n, by omega⟩ : Fin 8192) (⟨g * 512 + h * 128 + d, by omega⟩ : Fin 1024))
        = ∑ t, Ideal.div (Ideal.exp (((y t * (Real.sqrt 128)⁻¹ : ℝ) : EReal) - (M : EReal)))
            (∑ t', Ideal.exp (((y t' * (Real.sqrt 128)⁻¹ : ℝ) : EReal) - (M : EReal))) * vs (ix4 b t g d) := by
  choose q' hq' using hq
  choose k' hk' using hk
  have hl : ∀ (b g : Fin 2) (h : Fin 4) (n : Fin 4096) (t : Fin 4352), logits q ks (ix5 b g h n t)
      = (((∑ e : Fin 128, k' (ix4 b t g e) * q' (ix2 (⟨b * 4096 + n, by omega⟩ : Fin 8192)
        (⟨g * 512 + h * 128 + e, by omega⟩ : Fin 1024))) * (Real.sqrt 128)⁻¹ : ℝ) : EReal) := by
    intro b g h n t
    rw [logits_at, ← div_sqrt, coe_sum]
    refine congrArg (Ideal.div · _) (Finset.sum_congr rfl fun e _ => ?_)
    rw [hk', hq', EReal.coe_mul]
  have hr : ∀ i, ∃ r : ℝ, logits q ks i = (r : EReal) := by
    intro i
    idx_vars i
    exact ⟨_, hl _ _ _ _ _⟩
  obtain ⟨M, hM⟩ := tops_real _ hr (ix4 b g h n)
  refine ⟨fun t => ∑ e : Fin 128, k' (ix4 b t g e) * q' (ix2 (⟨b * 4096 + n, by omega⟩ : Fin 8192)
        (⟨g * 512 + h * 128 + e, by omega⟩ : Fin 1024)), M, fun t => ⟨_, fun e => ?_, rfl⟩, fun d => ?_⟩
  · rw [hk', hq', ← EReal.coe_mul]
  · rw [mix_at]
    refine Finset.sum_congr rfl fun t _ => ?_
    rw [weights_at, exps_at, hM, hl]
    refine congrArg (fun u => Ideal.div _ u * _) (Finset.sum_congr rfl fun t' _ => ?_)
    rw [exps_at, hM, hl]

end Cert.LatRefIdeal.Stage
end
-- ==== Proof.LatArray.lean ====
/- The attention kernel's result array: its blocks read off the arguments, and every entry the reference's. -/
module

public import proofs.«01_k».proof.Proof.LatBlock
public import proofs.«01_k».proof.Proof.LatRef
public import Idealize.ShloMosaic.Lib.Claim
public import Idealize.ShloMosaic.Lib.Pipeline.ValueKit

@[expose] public section

set_option maxRecDepth 65536

noncomputable section

namespace Cert.LatIdeal.Fold

open Idealize.ShloMosaic Idealize.ShloMosaic.TcCoe Idealize.SL.Sem
open Cert.LatIdeal Cert.LatIdeal.Gen Cert.SoftSum

variable (m : (ℓ : Loc nD τ sig) → Buf (Elt Ideal) ℓ)

/-- The windows' blocks by the grid's three coordinates: batch, head group, query tile. -/
theorem idx : ∀ t : Fin cfg0.N,
    win0_0.index t = ![(grid0.coords t 0).val * 4 + (grid0.coords t 2).val, (grid0.coords t 1).val]
    ∧ win0_1.index t = ![(grid0.coords t 0).val, (grid0.coords t 1).val]
    ∧ win0_2.index t = ![(grid0.coords t 0).val, (grid0.coords t 1).val]
    ∧ win0_3.index t = ![(grid0.coords t 0).val, 0, (grid0.coords t 1).val]
    ∧ win0_4.index t = ![(grid0.coords t 0).val, 0, (grid0.coords t 1).val]
    ∧ win0_5.index t = ![(grid0.coords t 0).val * 4 + (grid0.coords t 2).val, (grid0.coords t 1).val] :=
  (by decide +kernel : ∀ t : Fin grid0.N, _)

/-- The pattern of two. -/
theorem ofBits_two : Ideal.ofBits .f32 0x40000000#32 = ((2 : ℝ) : EReal) := by
  simp [Ideal.ofBits, Ideal.ieee, -EReal.coe_mul]; norm_num

/-- The scale the host multiplies the queries by. -/
theorem scale_eq : Ideal.div 1 (Ideal.sqrt (Ideal.ofBits .f32 0x43000000#32) * Ideal.log (Ideal.ofBits .f32 0x40000000#32))
    = (((Real.sqrt 128)⁻¹ * (1 / Real.log 2) : ℝ) : EReal) := by
  have hl : 0 < Real.log 2 := Real.log_pos (by norm_num)
  have hs : 0 < Real.sqrt 128 := Real.sqrt_pos.mpr (by norm_num)
  rw [Cert.LatRefIdeal.Stage.ofBits_128, ofBits_two, Ideal.sqrt_coe, if_neg (by norm_num), Ideal.log_coe,
    if_neg (by norm_num), ← EReal.coe_mul, div_real _ (mul_pos hs hl), one_mul, mul_inv, one_div]

/-- Device `c`'s five argument arrays. -/
abbrev argQ (c : Dev nD) : FVec Ideal S8192x1024 .f32 := m ((c : Thread nD τ).loc main_arg0)
abbrev argK (c : Dev nD) : FVec Ideal S8192x256 .f32 := m ((c : Thread nD τ).loc main_arg1)
abbrev argV (c : Dev nD) : FVec Ideal S8192x256 .f32 := m ((c : Thread nD τ).loc main_arg2)
abbrev argCK (c : Dev nD) : FVec Ideal S2x1x256x2x128 .f32 := m ((c : Thread nD τ).loc main_arg3)
abbrev argCV (c : Dev nD) : FVec Ideal S2x1x256x2x128 .f32 := m ((c : Thread nD τ).loc main_arg4)

/-- The staged queries are the argument's, scaled. -/
theorem V_q (c : Dev nD) (i : S8192x1024.Idx) : (V m c main_v6 : FVec Ideal S8192x1024 .bf16) i
    = argQ m c i
      * (((Real.sqrt 128)⁻¹ * (1 / Real.log 2) : ℝ) : EReal) := by
  rw [← scale_eq]
  entry_read
  idx_vars i
  pointwise

/-- The staged keys are the argument's. -/
theorem V_k (c : Dev nD) : (V m c main_v13 : FVec Ideal S8192x256 .bf16)
    = argK m c := by
  entry_read
  rfl

/-- The staged values are the argument's. -/
theorem V_v (c : Dev nD) : (V m c main_v14 : FVec Ideal S8192x256 .bf16)
    = argV m c := by
  entry_read
  rfl

/-- The staged cached keys are the argument's, heads beside one another. -/
theorem V_ck (c : Dev nD) (b g : Fin 2) (t : Fin 256) (d : Fin 128) :
    (V m c main_v9 : FVec Ideal S2x256x256 .bf16) (ix3 b t (⟨g * 128 + d, by omega⟩ : Fin 256))
    = argCK m c (ix5 b 0 t g d) := by
  entry_read
  pointwise

/-- The staged cached values are the argument's, heads beside one another. -/
theorem V_cv (c : Dev nD) (b g : Fin 2) (t : Fin 256) (d : Fin 128) :
    (V m c main_v12 : FVec Ideal S2x256x256 .bf16) (ix3 b t (⟨g * 128 + d, by omega⟩ : Fin 256))
    = argCV m c (ix5 b 0 t g d) := by
  entry_read
  pointwise

/-- The queries' block at a point. -/
theorem blk_q (c : Dev nD) (t : Fin cfg0.N) (p : Fin 1024) (e : Fin 512) (b g : Fin 2) (i : Fin 4)
    (hb : b = grid0.coords t 0) (hg : g = grid0.coords t 1) (hi : i = grid0.coords t 2) :
    (iblk m c 0 t : FVec Ideal S1024x512 .bf16) (ix2 p e) = argQ m c (ix2 (⟨b * 4096 + (i * 1024 + p), by omega⟩ : Fin 8192)
      (⟨g * 512 + e, by omega⟩ : Fin 1024)) * (((Real.sqrt 128)⁻¹ * (1 / Real.log 2) : ℝ) : EReal) := by
  rw [← V_q]
  subst hb hg hi
  blk_ext [iblk, idx t]

/-- The keys' block at a point. -/
theorem blk_k (c : Dev nD) (t : Fin cfg0.N) (p : Fin 4096) (e : Fin 128) (b g : Fin 2)
    (hb : b = grid0.coords t 0) (hg : g = grid0.coords t 1) :
    (iblk m c 1 t : FVec Ideal S4096x128 .bf16) (ix2 p e) = argK m c (ix2 (⟨b * 4096 + p, by omega⟩ : Fin 8192)
      (⟨g * 128 + e, by omega⟩ : Fin 256)) := by
  rw [← V_k]
  subst hb hg
  blk_ext [iblk, idx t]

/-- The values' block at a point. -/
theorem blk_v (c : Dev nD) (t : Fin cfg0.N) (p : Fin 4096) (e : Fin 128) (b g : Fin 2)
    (hb : b = grid0.coords t 0) (hg : g = grid0.coords t 1) :
    (iblk m c 2 t : FVec Ideal S4096x128 .bf16) (ix2 p e) = argV m c (ix2 (⟨b * 4096 + p, by omega⟩ : Fin 8192)
      (⟨g * 128 + e, by omega⟩ : Fin 256)) := by
  rw [← V_v]
  subst hb hg
  blk_ext [iblk, idx t]

/-- The cached keys' block at a point. -/
theorem blk_ck (c : Dev nD) (t : Fin cfg0.N) (p : Fin 256) (e : Fin 128) (b g : Fin 2)
    (hb : b = grid0.coords t 0) (hg : g = grid0.coords t 1) :
    (iblk m c 3 t : FVec Ideal S1x256x128 .bf16) (ix3 0 p e) = argCK m c (ix5 b 0 p g e) := by
  rw [← V_ck]
  subst hb hg
  blk_ext [iblk, idx t]

/-- The cached values' block at a point. -/
theorem blk_cv (c : Dev nD) (t : Fin cfg0.N) (p : Fin 256) (e : Fin 128) (b g : Fin 2)
    (hb : b = grid0.coords t 0) (hg : g = grid0.coords t 1) :
    (iblk m c 4 t : FVec Ideal S1x256x128 .bf16) (ix3 0 p e) = argCV m c (ix5 b 0 p g e) := by
  rw [← V_cv]
  subst hb hg
  blk_ext [iblk, idx t]

end Cert.LatIdeal.Fold
end
-- ==== Proof.LatValue.lean ====
/- The attention kernel's result is the reference's, for real queries, keys and cached keys. -/
module

public import proofs.«01_k».proof.Proof.LatArray
public import proofs.«01_k».proof.Defs
public import Idealize.ShloMosaic.Lib.ReduceAll

@[expose] public section

set_option maxRecDepth 65536

noncomputable section

namespace Cert.LatIdeal.Fold

open Idealize.ShloMosaic Idealize.ShloMosaic.TcCoe Idealize.SL.Sem
open Cert.LatIdeal Cert.LatIdeal.Gen Cert.SoftSum
open Cert.LatRefIdeal.Stage (cat cat_at logits tops exps weights mix ref_at)

/-- A number whose absolute value compares below the pattern of infinity is real. -/
theorem real_of_lt (a : EReal) (h : Ideal.cmp .olt (max a (-a)) (Ideal.ofBits .f32 0x7F800000#32) = 1#1) :
    ∃ r : ℝ, a = (r : EReal) := by
  rw [ofBits_pos_inf] at h
  have h' : max a (-a) < ⊤ := by
    by_contra hn
    simp [Ideal.cmp, hn] at h
  induction a with
  | bot => simp at h'
  | top => simp at h'
  | coe r => exact ⟨r, rfl⟩

/-- The precondition's three conjuncts, entry by entry. -/
theorem finite_real (q : FVec Ideal S8192x1024 .f32) (k v : FVec Ideal S8192x256 .f32) (ck cv : FVec Ideal S2x1x256x2x128 .f32)
    [Cert.Pre_finite.Facts] (h : Cert.Pre_finite.fn (F := Ideal) q k v ck cv = fun _ => 1#1) :
    (∀ i, ∃ r : ℝ, q i = (r : EReal)) ∧ (∀ i, ∃ r : ℝ, k i = (r : EReal)) ∧ ∀ i, ∃ r : ℝ, ck i = (r : EReal) := by
  have h0 := congrFun h (fun a => nomatch a)
  obtain ⟨h1, h2⟩ := IntOp.andi_eq_one.1 h0
  obtain ⟨h3, h4⟩ := IntOp.andi_eq_one.1 h1
  exact ⟨fun i => real_of_lt _ (Host.reduce_andi_all _ _ _ _ _ h3 i), fun i => real_of_lt _ (Host.reduce_andi_all _ _ _ _ _ h4 i),
    fun i => real_of_lt _ (Host.reduce_andi_all _ _ _ _ _ h2 i)⟩

/-- Rows joined from real rows are real. -/
theorem cat_real (k : FVec Ideal S8192x256 .f32) (ck : FVec Ideal S2x1x256x2x128 .f32)
    (hk : ∀ i, ∃ r : ℝ, k i = (r : EReal)) (hck : ∀ i, ∃ r : ℝ, ck i = (r : EReal)) (i : Cert.LatRefIdeal.S2x4352x2x128.Idx) :
    ∃ r : ℝ, cat k ck i = (r : EReal) := by
  idx_vars i
  rw [cat_at]
  split_ifs
  · exact hk _
  · exact hck _

variable (m : (ℓ : Loc nD τ sig) → Buf (Elt Ideal) ℓ)

/-- The key rows a point reads are the joined rows of its batch and head group. -/
theorem rows_k (c : Dev nD) (t : Fin cfg0.N) (b g : Fin 2) (hb : b = grid0.coords t 0) (hg : g = grid0.coords t 1)
    (s : Fin 4352) (e : Fin 128) :
    rows (iblk m c 1 t) (iblk m c 3 t) s e = cat (argK m c) (argCK m c) (ix4 b s g e) := by
  unfold rows
  rw [cat_at]
  split_ifs with h
  · exact blk_k m c t ⟨s, h⟩ e b g hb hg
  · exact blk_ck m c t _ e b g hb hg

/-- The value rows a point reads are the joined rows of its batch and head group. -/
theorem rows_v (c : Dev nD) (t : Fin cfg0.N) (b g : Fin 2) (hb : b = grid0.coords t 0) (hg : g = grid0.coords t 1)
    (s : Fin 4352) (e : Fin 128) :
    rows (iblk m c 2 t) (iblk m c 4 t) s e = cat (argV m c) (argCV m c) (ix4 b s g e) := by
  unfold rows
  rw [cat_at]
  split_ifs with h
  · exact blk_v m c t ⟨s, h⟩ e b g hb hg
  · exact blk_cv m c t _ e b g hb hg

/-- The reference's term over the kernel's arguments. -/
abbrev REF (c : Dev nD) : FVec Ideal Cert.LatRefIdeal.S8192x1024 .bf16 :=
  mix (cat (argV m c) (argCV m c)) (weights (exps (logits (argQ m c) (cat (argK m c) (argCK m c)))
    (tops (logits (argQ m c) (cat (argK m c) (argCK m c))))))

/-- A scaled query entry times a key entry. -/
theorem term {a b q k : EReal} {s z : ℝ} (ha : a = q * (s : EReal)) (hb : b = k) (hz : k * q = (z : EReal)) :
    a * b = ((z * s : ℝ) : EReal) := by
  rw [ha, hb, EReal.coe_mul, ← hz, mul_right_comm, mul_comm q k]

/-- **One entry of a block** is the reference's entry at its place. -/
theorem point (c : Dev nD) (hq : ∀ i, ∃ r : ℝ, argQ m c i = (r : EReal)) (hk : ∀ i, ∃ r : ℝ, argK m c i = (r : EReal))
    (hck : ∀ i, ∃ r : ℝ, argCK m c i = (r : EReal)) (t : Fin cfg0.N) (b g : Fin 2) (i : Fin 4)
    (hb : b = grid0.coords t 0) (hg : g = grid0.coords t 1) (hi : i = grid0.coords t 2)
    (h : Fin 4) (p : Fin 1024) (d : Fin 128) :
    beside (quot (ac (k0_pay36 (iblk m c 0 t)) (kseg (F := Ideal) (iblk m c 1 t) (iblk m c 3 t))
        (vseg (F := Ideal) (iblk m c 2 t) (iblk m c 4 t)) 16)) (ix2 p (⟨128 * h + d, by omega⟩ : Fin 512))
      = REF m c (ix2 (⟨b * 4096 + (i * 1024 + p), by omega⟩ : Fin 8192) (⟨g * 512 + h * 128 + d, by omega⟩ : Fin 1024)) := by
  obtain ⟨y, M, hy, hr⟩ := ref_at (argQ m c) (cat (argK m c) (argCK m c)) (cat (argV m c) (argCV m c)) hq
    (cat_real _ _ hk hck) b g h (⟨i * 1024 + p, by omega⟩ : Fin 4096)
  rw [block_at _ _ _ _ _ h p d (fun s => y s * (Real.sqrt 128)⁻¹) M]
  · refine Eq.trans ?_ (hr d).symm
    exact Finset.sum_congr rfl fun s _ => by rw [rows_v m c t b g hb hg s d]
  · intro s
    obtain ⟨z, hz, hs⟩ := hy s
    refine (Finset.sum_congr rfl fun (e : Fin 128) _ => term (blk_q m c t p (⟨128 * h + e, by omega⟩ : Fin 512) b g i hb hg hi)
      (rows_k m c t b g hb hg s e) (Eq.trans (congrArg (cat (argK m c) (argCK m c) (ix4 b s g e) * argQ m c ·)
        (congrArg (ix2 (_ : Fin 8192)) (Fin.ext (by dsimp only; omega) : _ = (⟨g * 512 + h * 128 + e, by omega⟩ : Fin 1024)))) (hz e))).trans ?_
    rw [← coe_sum, ← Finset.sum_mul, ← hs]
    congr 1
    ring

/-- **The result array** is the reference's term. -/
theorem final (c : Dev nD) (hq : ∀ i, ∃ r : ℝ, argQ m c i = (r : EReal)) (hk : ∀ i, ∃ r : ℝ, argK m c i = (r : EReal))
    (hck : ∀ i, ∃ r : ℝ, argCK m c i = (r : EReal)) :
    (dats m 0 c).arrAt 5 (cfgs 0).N = REF m c := by
  refine (dats m 0 c).arrAt_eq_of_covers 5 _ (by decide +kernel) fun t _ y => ?_
  blk_simp
  rw [after0_5, out_eq, ld_q]
  frame_out
  idx_vars y
  have h := point m c hq hk hck t (grid0.coords t 0) (grid0.coords t 1) (grid0.coords t 2) rfl rfl rfl
    (⟨y1 / 128, by omega⟩ : Fin 4) y0 (⟨y1 % 128, by omega⟩ : Fin 128)
  rw [show (⟨128 * (⟨y1 / 128, by omega⟩ : Fin 4) + (⟨y1 % 128, by omega⟩ : Fin 128), by dsimp only; omega⟩ : Fin 512) = y1 from
    Fin.ext (by dsimp only; omega)] at h
  refine h.trans ?_
  blk_ext [idx t]

end Cert.LatIdeal.Fold
end
-- ==== Proof.LatClaims.lean ====
/- The latent attention's claims, from its runs and its value. -/
module

public import proofs.«01_k».proof.Proof.LatValue
public import proofs.«01_k».proof.Proof.Gen.Lat.Frame
public import proofs.«01_k».proof.Proof.Gen.LatIdeal.Frame
public import proofs.«01_k».proof.Proof.Gen.LatRefIdeal.Run
public import proofs.«01_k».proof.Proof.Gen.Pre_finite
public import Idealize.ShloMosaic.Adequacy

@[expose] public section

noncomputable section

namespace Cert.Proof

open Idealize.ShloMosaic Idealize.SL.Sem

/-- The reference runs and leaves its arguments alone. -/
theorem frame_latRef : Cert.quiescent_LatRefIdeal := fun m ρ _ =>
  (θ_run Cert.LatRefIdeal.defs _ _).mono (fun r h => ⟨fun c => (h c).2, sem_eq_zero_of_no_sems (by decide) r.2⟩)
    (Cert.LatRefIdeal.Value.run (F := Ideal) m ρ)

/-- On finite queries, keys and cached keys the kernel and the reference end with the same array. -/
theorem algebraic_lat : Cert.algebraic_LatIdeal_LatRefIdeal_pre_finite := by
  pair_intro
  · run_from Cert.LatIdeal.Gen.run_main m g
  · run_from Cert.LatRefIdeal.Value.run m' g'
    obtain ⟨hq, hk, hck⟩ := Cert.LatIdeal.Fold.finite_real _ _ _ _ _ (hpre c)
    obtain ⟨h0, h1, h2, h3, h4⟩ := hagree c
    refine (Cert.LatRefIdeal.Stage.res_eq m' c).trans ?_
    rw [h0, h1, h2, h3, h4]
    exact (Cert.LatIdeal.Fold.final m c hq hk hck).symm

end Cert.Proof
end
-- ==== Proof.FfnFold.lean ====
/- The feed-forward block's two stored blocks as functions of what it loads: the rows unpacked, four chunks of the hidden
   axis added, each row times its gate, laid out eight pieces of a row apart. -/
module

public import proofs.«01_k».proof.Proof.Gen.FfnIdeal.Frame
public import proofs.«01_k».proof.Proof.Gen.FfnIdeal.Skeleton
public import Idealize.ShloMosaic.Lib.Claim
public import Idealize.ShloMosaic.Lib.Pipeline.ValueKit

@[expose] public section

set_option maxRecDepth 65536

noncomputable section

namespace Cert.FfnIdeal.Fold

open Idealize.ShloMosaic Idealize.ShloMosaic.TcCoe Idealize.SL.Sem
open Cert.FfnIdeal Cert.FfnIdeal.Gen

variable {F : FTy → Type} [FloatOps F]

/-- The entries of `X` in a box of it. -/
def sub {S : Shape} {e : EltTy} (X : Vec F S e) (r : LoadRect S) : r.shape.Idx → Elt F e := fun y => X (r.idx y)

/-- Columns `256 c` to `256 c + 255` of a weight. -/
def cols (w : Vec F S1x1x1024x1024 .f32) (c : Fin 4) : Vec F S1x1x1024x256 .f32 :=
  sub w (Rect.unit (s := S1x1x1024x1024) ![0, 0, 0, 256 * c] S1x1x1024x256.size
    ((by decide : ∀ c : Fin 4, ∀ a, (![0, 0, 0, 256 * c.val] : Fin 4 → ℕ) a + S1x1x1024x256.size a ≤ S1x1x1024x1024.size a) c)).toLoadRect

/-- Rows `256 c` to `256 c + 255` of a weight. -/
def rows (w : Vec F S1x1x1024x1024 .f32) (c : Fin 4) : Vec F S1x1x256x1024 .f32 :=
  sub w (Rect.unit (s := S1x1x1024x1024) ![0, 0, 256 * c, 0] S1x1x256x1024.size
    ((by decide : ∀ c : Fin 4, ∀ a, (![0, 0, 256 * c.val, 0] : Fin 4 → ℕ) a + S1x1x256x1024.size a ≤ S1x1x1024x1024.size a) c)).toLoadRect

/-- A row of 128 gates as a column. -/
def column (g : Vec F S1x128 .f32) : FVec F S128x1 .f32 :=
  shapeCast S128x1 (multiReduction .add [1] S128 (select k0_pay5 (broadcastTo S128x128 (shapeCast S1x128 g shapeCasts_S1x128_S1x128)
    broadcasts_S1x128_S128x128) (broadcast S128x128 (Scalar.ofBits .f32 0x00000000#32))) 0x00000000#32 reduces_S128x128_S128 (.inl rfl) rfl)
    shapeCasts_S128_S128x1

/-- Every fourth row of the context words, from row `s`. -/
def wordsC (x : Vec F S2048x128 .i32) (s : Fin 4) : Vec F S512x128 .i32 :=
  sub x (⟨![s.val, 0], S512x128.size, ![4, 1],
    (by decide : ∀ s : Fin 4, ∀ a, S512x128.size a = 0 ∨ (![s.val, 0] : Fin 2 → ℕ) a + (![4, 1] : Fin 2 → ℕ) a * (S512x128.size a - 1) < S2048x128.size a) s⟩ : LoadRect S2048x128)

/-- The context rows, unpacked: the low halves of the words, then the high halves. -/
def xeC (x : Vec F S2048x128 .i32) : FVec F S512x1024 .bf16 :=
  concatenate S512x1024 1 [⟨S512x128, truncf .bf16 (unpackElementwise 0 (wordsC x 0)) bitsLt_bf16_f32⟩, ⟨S512x128, truncf .bf16 (unpackElementwise 0 (wordsC x 1)) bitsLt_bf16_f32⟩, ⟨S512x128, truncf .bf16 (unpackElementwise 0 (wordsC x 2)) bitsLt_bf16_f32⟩, ⟨S512x128, truncf .bf16 (unpackElementwise 0 (wordsC x 3)) bitsLt_bf16_f32⟩, ⟨S512x128, truncf .bf16 (unpackElementwise 1 (wordsC x 0)) bitsLt_bf16_f32⟩, ⟨S512x128, truncf .bf16 (unpackElementwise 1 (wordsC x 1)) bitsLt_bf16_f32⟩, ⟨S512x128, truncf .bf16 (unpackElementwise 1 (wordsC x 2)) bitsLt_bf16_f32⟩, ⟨S512x128, truncf .bf16 (unpackElementwise 1 (wordsC x 3)) bitsLt_bf16_f32⟩]
    concatenates_S512x128_S512x128_S512x128_S512x128_S512x128_S512x128_S512x128_S512x128_S512x1024_d1

/-- The context rows times a chunk of a weight's columns. -/
def mulC (xe : FVec F S512x1024 .bf16) (w : Vec F S1x1x1024x256 .f32) : FVec F S512x256 .f32 :=
  matmul dot_S512x1024_S1024x256_S512x256_1_0_0_1_n_n none xe
    (truncf .bf16 (shapeCast S1024x256 w shapeCasts_S1x1x1024x256_S1024x256) bitsLt_bf16_f32) (constant S512x256 .f32 0x00000000#32)

/-- A chunk of the context hidden activations. -/
def hidC (a u : FVec F S512x256 .f32) : FVec F S512x256 .bf16 :=
  truncf .bf16 (mulf (divf a (addf (broadcast S512x256 (Scalar.ofBits .f32 0x3F800000#32))
    (exp (subf (broadcast S512x256 (Scalar.ofBits .f32 0x00000000#32)) a)))) u) bitsLt_bf16_f32

/-- A chunk of the context hidden activations times the rows of the down weight it meets. -/
def partC (x : Vec F S2048x128 .i32) (wg wu wd : Vec F S1x1x1024x1024 .f32) (c : Fin 4) : FVec F S512x1024 .f32 :=
  matmul dot_S512x256_S256x1024_S512x1024_1_0_0_1_n_n none (hidC (mulC (xeC x) (cols wg c)) (mulC (xeC x) (cols wu c)))
    (truncf .bf16 (shapeCast S256x1024 (rows wd c) shapeCasts_S1x1x256x1024_S256x1024) bitsLt_bf16_f32) (constant S512x1024 .f32 0x00000000#32)

/-- The context rows' values before the gates. -/
def yC (x : Vec F S2048x128 .i32) (wg wu wd : Vec F S1x1x1024x1024 .f32) : FVec F S512x1024 .f32 :=
  addf (addf (addf (partC x wg wu wd 0) (partC x wg wu wd 1)) (partC x wg wu wd 2)) (partC x wg wu wd 3)

/-- The point's gates for rows `128 c` to `128 c + 127`. -/
def gatesC (i : grid0.Coords) (g : Vec F S64x128 .f32) (c : Fin 4) : Vec F S1x128 .f32 :=
  sub g (Rect.unit (s := S64x128) (k0_off1 i (BitVec.ofNat 32 c.val)) S1x128.size (k0_off1_inb i c)).toLoadRect

/-- Rows `128 c` to `128 c + 127` of the context values times their gates. -/
def totC (y : FVec F S512x1024 .f32) (g : Fin 4 → Vec F S1x128 .f32) (c : Fin 4) : FVec F S128x1024 .f32 :=
  mulf (extractStridedSlice S128x1024 ![128 * c.val, 0] y ((by decide : ∀ c : Fin 4, S512x1024.Slices ![128 * c.val, 0] S128x1024) c))
    (broadcastTo S128x1024 (column (g c)) broadcasts_S128x1_S128x1024)

/-- The block in which entry `(r, 128 s + l)` of the rows `T` stands at `(0, 8 r + s, l)`. -/
def layC (T : Fin 4 → FVec F S128x1024 .f32) : Vec F S1x4096x128 .f32 := fun y =>
  T ⟨(y 1).val / 1024, by have : (y 1).val < 4096 := (y 1).isLt; omega⟩
    (ix2 (⟨(y 1).val % 1024 / 8, by omega⟩ : Fin 128)
      (⟨128 * ((y 1).val % 8) + (y 2).val, by have : (y 2).val < 128 := (y 2).isLt; omega⟩ : Fin 1024))

/-- The box of the context block that piece `s` of the rows `c` is stored to. -/
def boxC (c : Fin 4) (s : Fin 8) : Rect S1x4096x128 :=
  ⟨(⟨![0, 1024 * c.val + s.val, 0], S1x128x128.size, ![1, 8, 1],
    (by decide : ∀ (c : Fin 4) (s : Fin 8), ∀ a, S1x128x128.size a = 0 ∨ (![0, 1024 * c.val + s.val, 0] : Fin 3 → ℕ) a + (![1, 8, 1] : Fin 3 → ℕ) a * (S1x128x128.size a - 1) < S1x4096x128.size a) c s⟩ : LoadRect S1x4096x128), spos_1_8_1⟩

/-- Piece `s` of the rows `c` and the box it is stored to. -/
def pieceC (T : Fin 4 → FVec F S128x1024 .f32) (c : Fin 4) (s : Fin 8) : View.Piece (Elt F) S1x4096x128 .f32 :=
  ⟨boxC c s, shapeCast S1x128x128 (extractStridedSlice S128x128 ![0, 128 * s.val] (T c)
    ((by decide : ∀ s : Fin 8, S128x1024.Slices ![0, 128 * s.val] S128x128) s)) shapeCasts_S128x128_S1x128x128⟩

/-- All the pieces, last stored first. -/
def piecesC (T : Fin 4 → FVec F S128x1024 .f32) : List (View.Piece (Elt F) S1x4096x128 .f32) :=
  ([3, 2, 1, 0] : List (Fin 4)).flatMap fun c => ([7, 6, 5, 4, 3, 2, 1, 0] : List (Fin 8)).map fun s => pieceC T c s

/-- Each piece holds the entries of the block that its box names. -/
theorem pieceC_at (T : Fin 4 → FVec F S128x1024 .f32) (c : Fin 4) (s : Fin 8) (x : (pieceC T c s).1.shape.Idx) :
    (pieceC T c s).2 x = layC T ((pieceC T c s).1.emb x) := by
  obtain ⟨x1, h1⟩ : ∃ k : Fin 128, k = x 1 := ⟨_, rfl⟩
  obtain ⟨x2, h2⟩ : ∃ k : Fin 128, k = x 2 := ⟨_, rfl⟩
  have e1 : ((pieceC T c s).1.emb x 1).val = 1024 * c.val + s.val + 8 * x1.val := by rw [h1]; rfl
  have e2 : ((pieceC T c s).1.emb x 2).val = x2.val := by
    rw [h2]; show 0 + 1 * (x 2).val = (x 2).val; omega
  have hx : x = (ix3 (0 : Fin 1) x1 x2 : S1x128x128.Idx) := by
    funext a
    match a with
    | ⟨0, _⟩ => exact Subsingleton.elim (α := Fin 1) _ _
    | ⟨1, _⟩ => exact h1.symm
    | ⟨2, _⟩ => exact h2.symm
  have hl : (pieceC T c s).2 (ix3 (0 : Fin 1) x1 x2 : S1x128x128.Idx) = T c (ix2 x1 (⟨128 * s.val + x2.val, by omega⟩ : Fin 1024)) := by
    pointwise [pieceC]
  rw [hx] at e1 e2 ⊢
  rw [hl]
  unfold layC
  congr 1
  · exact Fin.ext (by dsimp only; omega)
  · congr 1
    · exact Fin.ext (by dsimp only; omega)
    · exact Fin.ext (by dsimp only; omega)

/-- Every piece is one of them, -/
theorem of_memC (T : Fin 4 → FVec F S128x1024 .f32) (p : View.Piece (Elt F) S1x4096x128 .f32) (h : p ∈ piecesC T) :
    ∃ c s, p = pieceC T c s := by
  obtain ⟨c, -, hc⟩ := List.mem_flatMap.1 h
  obtain ⟨s, -, hs⟩ := List.mem_map.1 hc
  exact ⟨c, s, hs.symm⟩

/-- and each of them is among the pieces. -/
theorem memC (T : Fin 4 → FVec F S128x1024 .f32) (c : Fin 4) (s : Fin 8) : pieceC T c s ∈ piecesC T :=
  List.mem_flatMap.2 ⟨c, (by decide : ∀ c : Fin 4, c ∈ ([3, 2, 1, 0] : List (Fin 4))) c,
    List.mem_map.2 ⟨s, (by decide : ∀ s : Fin 8, s ∈ ([7, 6, 5, 4, 3, 2, 1, 0] : List (Fin 8))) s, rfl⟩⟩

/-- The boxes cover the context block. -/
theorem coverC (T : Fin 4 → FVec F S128x1024 .f32) (y : S1x4096x128.Idx) : ∃ p ∈ piecesC T, y ∈ p.1.set := by
  have h0 : (y 0).val < 1 := (y 0).isLt
  have h1 : (y 1).val < 4096 := (y 1).isLt
  refine ⟨_, memC T ⟨(y 1).val / 1024, by omega⟩ ⟨(y 1).val % 8, by omega⟩, ?_⟩
  show y ∈ (boxC _ _).set
  rw [LoadRect.mem_set]
  intro a
  match a with
  | ⟨0, _⟩ => exact ⟨0, Nat.one_pos, show (y 0).val = 0 + 1 * 0 by omega⟩
  | ⟨1, _⟩ => exact ⟨(y 1).val % 1024 / 8, show (y 1).val % 1024 / 8 < 128 by omega,
      show (y 1).val = 1024 * ((y 1).val / 1024) + (y 1).val % 8 + 8 * ((y 1).val % 1024 / 8) by omega⟩
  | ⟨2, _⟩ => exact ⟨(y 2).val, (y 2).isLt, show (y 2).val = 0 + 1 * (y 2).val by omega⟩

/-- What stands in the context block after the pieces are stored, whatever stood there before. -/
theorem storedC {sig : RefSig} {κ : Kind} {sp : Space} (v : View sig κ sp S1x4096x128 .f32) (f : v.ty.Contents (Elt F))
    (T : Fin 4 → FVec F S128x1024 .f32) : v.read (Elt F) (v.writes (Elt F) f (piecesC T)) = layC T := by
  rw [View.read_writes_eq_canon _ _ _ (coverC T)]
  funext y
  refine View.canon_apply_of_pieces (layC T) _ (fun p hp x => ?_) y (coverC T y)
  obtain ⟨c, s, rfl⟩ := of_memC T p hp
  exact pieceC_at T c s x

/-- The context block the body leaves at a point. -/
def outC (i : grid0.Coords) (x : Vec F S2048x128 .i32) (g : Vec F S64x128 .f32) (wg wu wd : Vec F S1x1x1024x1024 .f32) : Vec F S1x4096x128 .f32 :=
  layC (totC (yC x wg wu wd) (gatesC i g))

/-- Every fourth row of the latent words, from row `s`. -/
def wordsL (x : Vec F S4096x128 .i32) (s : Fin 4) : Vec F S1024x128 .i32 :=
  sub x (⟨![s.val, 0], S1024x128.size, ![4, 1],
    (by decide : ∀ s : Fin 4, ∀ a, S1024x128.size a = 0 ∨ (![s.val, 0] : Fin 2 → ℕ) a + (![4, 1] : Fin 2 → ℕ) a * (S1024x128.size a - 1) < S4096x128.size a) s⟩ : LoadRect S4096x128)

/-- The latent rows, unpacked: the low halves of the words, then the high halves. -/
def xeL (x : Vec F S4096x128 .i32) : FVec F S1024x1024 .bf16 :=
  concatenate S1024x1024 1 [⟨S1024x128, truncf .bf16 (unpackElementwise 0 (wordsL x 0)) bitsLt_bf16_f32⟩, ⟨S1024x128, truncf .bf16 (unpackElementwise 0 (wordsL x 1)) bitsLt_bf16_f32⟩, ⟨S1024x128, truncf .bf16 (unpackElementwise 0 (wordsL x 2)) bitsLt_bf16_f32⟩, ⟨S1024x128, truncf .bf16 (unpackElementwise 0 (wordsL x 3)) bitsLt_bf16_f32⟩, ⟨S1024x128, truncf .bf16 (unpackElementwise 1 (wordsL x 0)) bitsLt_bf16_f32⟩, ⟨S1024x128, truncf .bf16 (unpackElementwise 1 (wordsL x 1)) bitsLt_bf16_f32⟩, ⟨S1024x128, truncf .bf16 (unpackElementwise 1 (wordsL x 2)) bitsLt_bf16_f32⟩, ⟨S1024x128, truncf .bf16 (unpackElementwise 1 (wordsL x 3)) bitsLt_bf16_f32⟩]
    concatenates_S1024x128_S1024x128_S1024x128_S1024x128_S1024x128_S1024x128_S1024x128_S1024x128_S1024x1024_d1

/-- The latent rows times a chunk of a weight's columns. -/
def mulL (xe : FVec F S1024x1024 .bf16) (w : Vec F S1x1x1024x256 .f32) : FVec F S1024x256 .f32 :=
  matmul dot_S1024x1024_S1024x256_S1024x256_1_0_0_1_n_n none xe
    (truncf .bf16 (shapeCast S1024x256 w shapeCasts_S1x1x1024x256_S1024x256) bitsLt_bf16_f32) (constant S1024x256 .f32 0x00000000#32)

/-- A chunk of the latent hidden activations. -/
def hidL (a u : FVec F S1024x256 .f32) : FVec F S1024x256 .bf16 :=
  truncf .bf16 (mulf (divf a (addf (broadcast S1024x256 (Scalar.ofBits .f32 0x3F800000#32))
    (exp (subf (broadcast S1024x256 (Scalar.ofBits .f32 0x00000000#32)) a)))) u) bitsLt_bf16_f32

/-- A chunk of the latent hidden activations times the rows of the down weight it meets. -/
def partL (x : Vec F S4096x128 .i32) (wg wu wd : Vec F S1x1x1024x1024 .f32) (c : Fin 4) : FVec F S1024x1024 .f32 :=
  matmul dot_S1024x256_S256x1024_S1024x1024_1_0_0_1_n_n none (hidL (mulL (xeL x) (cols wg c)) (mulL (xeL x) (cols wu c)))
    (truncf .bf16 (shapeCast S256x1024 (rows wd c) shapeCasts_S1x1x256x1024_S256x1024) bitsLt_bf16_f32) (constant S1024x1024 .f32 0x00000000#32)

/-- The latent rows' values before the gates. -/
def yL (x : Vec F S4096x128 .i32) (wg wu wd : Vec F S1x1x1024x1024 .f32) : FVec F S1024x1024 .f32 :=
  addf (addf (addf (partL x wg wu wd 0) (partL x wg wu wd 1)) (partL x wg wu wd 2)) (partL x wg wu wd 3)

/-- The point's gates for rows `128 c` to `128 c + 127`. -/
def gatesL (i : grid0.Coords) (g : Vec F S128x128 .f32) (c : Fin 8) : Vec F S1x128 .f32 :=
  sub g (Rect.unit (s := S128x128) (k0_off2 i (BitVec.ofNat 32 c.val)) S1x128.size (k0_off2_inb i c)).toLoadRect

/-- Rows `128 c` to `128 c + 127` of the latent values times their gates. -/
def totL (y : FVec F S1024x1024 .f32) (g : Fin 8 → Vec F S1x128 .f32) (c : Fin 8) : FVec F S128x1024 .f32 :=
  mulf (extractStridedSlice S128x1024 ![128 * c.val, 0] y ((by decide : ∀ c : Fin 8, S1024x1024.Slices ![128 * c.val, 0] S128x1024) c))
    (broadcastTo S128x1024 (column (g c)) broadcasts_S128x1_S128x1024)

/-- The block in which entry `(r, 128 s + l)` of the rows `T` stands at `(0, 8 r + s, l)`. -/
def layL (T : Fin 8 → FVec F S128x1024 .f32) : Vec F S1x8192x128 .f32 := fun y =>
  T ⟨(y 1).val / 1024, by have : (y 1).val < 8192 := (y 1).isLt; omega⟩
    (ix2 (⟨(y 1).val % 1024 / 8, by omega⟩ : Fin 128)
      (⟨128 * ((y 1).val % 8) + (y 2).val, by have : (y 2).val < 128 := (y 2).isLt; omega⟩ : Fin 1024))

/-- The box of the latent block that piece `s` of the rows `c` is stored to. -/
def boxL (c : Fin 8) (s : Fin 8) : Rect S1x8192x128 :=
  ⟨(⟨![0, 1024 * c.val + s.val, 0], S1x128x128.size, ![1, 8, 1],
    (by decide : ∀ (c : Fin 8) (s : Fin 8), ∀ a, S1x128x128.size a = 0 ∨ (![0, 1024 * c.val + s.val, 0] : Fin 3 → ℕ) a + (![1, 8, 1] : Fin 3 → ℕ) a * (S1x128x128.size a - 1) < S1x8192x128.size a) c s⟩ : LoadRect S1x8192x128), spos_1_8_1⟩

/-- Piece `s` of the rows `c` and the box it is stored to. -/
def pieceL (T : Fin 8 → FVec F S128x1024 .f32) (c : Fin 8) (s : Fin 8) : View.Piece (Elt F) S1x8192x128 .f32 :=
  ⟨boxL c s, shapeCast S1x128x128 (extractStridedSlice S128x128 ![0, 128 * s.val] (T c)
    ((by decide : ∀ s : Fin 8, S128x1024.Slices ![0, 128 * s.val] S128x128) s)) shapeCasts_S128x128_S1x128x128⟩

/-- All the pieces, last stored first. -/
def piecesL (T : Fin 8 → FVec F S128x1024 .f32) : List (View.Piece (Elt F) S1x8192x128 .f32) :=
  ([7, 6, 5, 4, 3, 2, 1, 0] : List (Fin 8)).flatMap fun c => ([7, 6, 5, 4, 3, 2, 1, 0] : List (Fin 8)).map fun s => pieceL T c s

/-- Each piece holds the entries of the block that its box names. -/
theorem pieceL_at (T : Fin 8 → FVec F S128x1024 .f32) (c : Fin 8) (s : Fin 8) (x : (pieceL T c s).1.shape.Idx) :
    (pieceL T c s).2 x = layL T ((pieceL T c s).1.emb x) := by
  obtain ⟨x1, h1⟩ : ∃ k : Fin 128, k = x 1 := ⟨_, rfl⟩
  obtain ⟨x2, h2⟩ : ∃ k : Fin 128, k = x 2 := ⟨_, rfl⟩
  have e1 : ((pieceL T c s).1.emb x 1).val = 1024 * c.val + s.val + 8 * x1.val := by rw [h1]; rfl
  have e2 : ((pieceL T c s).1.emb x 2).val = x2.val := by
    rw [h2]; show 0 + 1 * (x 2).val = (x 2).val; omega
  have hx : x = (ix3 (0 : Fin 1) x1 x2 : S1x128x128.Idx) := by
    funext a
    match a with
    | ⟨0, _⟩ => exact Subsingleton.elim (α := Fin 1) _ _
    | ⟨1, _⟩ => exact h1.symm
    | ⟨2, _⟩ => exact h2.symm
  have hl : (pieceL T c s).2 (ix3 (0 : Fin 1) x1 x2 : S1x128x128.Idx) = T c (ix2 x1 (⟨128 * s.val + x2.val, by omega⟩ : Fin 1024)) := by
    pointwise [pieceL]
  rw [hx] at e1 e2 ⊢
  rw [hl]
  unfold layL
  congr 1
  · exact Fin.ext (by dsimp only; omega)
  · congr 1
    · exact Fin.ext (by dsimp only; omega)
    · exact Fin.ext (by dsimp only; omega)

/-- Every piece is one of them, -/
theorem of_memL (T : Fin 8 → FVec F S128x1024 .f32) (p : View.Piece (Elt F) S1x8192x128 .f32) (h : p ∈ piecesL T) :
    ∃ c s, p = pieceL T c s := by
  obtain ⟨c, -, hc⟩ := List.mem_flatMap.1 h
  obtain ⟨s, -, hs⟩ := List.mem_map.1 hc
  exact ⟨c, s, hs.symm⟩

/-- and each of them is among the pieces. -/
theorem memL (T : Fin 8 → FVec F S128x1024 .f32) (c : Fin 8) (s : Fin 8) : pieceL T c s ∈ piecesL T :=
  List.mem_flatMap.2 ⟨c, (by decide : ∀ c : Fin 8, c ∈ ([7, 6, 5, 4, 3, 2, 1, 0] : List (Fin 8))) c,
    List.mem_map.2 ⟨s, (by decide : ∀ s : Fin 8, s ∈ ([7, 6, 5, 4, 3, 2, 1, 0] : List (Fin 8))) s, rfl⟩⟩

/-- The boxes cover the latent block. -/
theorem coverL (T : Fin 8 → FVec F S128x1024 .f32) (y : S1x8192x128.Idx) : ∃ p ∈ piecesL T, y ∈ p.1.set := by
  have h0 : (y 0).val < 1 := (y 0).isLt
  have h1 : (y 1).val < 8192 := (y 1).isLt
  refine ⟨_, memL T ⟨(y 1).val / 1024, by omega⟩ ⟨(y 1).val % 8, by omega⟩, ?_⟩
  show y ∈ (boxL _ _).set
  rw [LoadRect.mem_set]
  intro a
  match a with
  | ⟨0, _⟩ => exact ⟨0, Nat.one_pos, show (y 0).val = 0 + 1 * 0 by omega⟩
  | ⟨1, _⟩ => exact ⟨(y 1).val % 1024 / 8, show (y 1).val % 1024 / 8 < 128 by omega,
      show (y 1).val = 1024 * ((y 1).val / 1024) + (y 1).val % 8 + 8 * ((y 1).val % 1024 / 8) by omega⟩
  | ⟨2, _⟩ => exact ⟨(y 2).val, (y 2).isLt, show (y 2).val = 0 + 1 * (y 2).val by omega⟩

/-- What stands in the latent block after the pieces are stored, whatever stood there before. -/
theorem storedL {sig : RefSig} {κ : Kind} {sp : Space} (v : View sig κ sp S1x8192x128 .f32) (f : v.ty.Contents (Elt F))
    (T : Fin 8 → FVec F S128x1024 .f32) : v.read (Elt F) (v.writes (Elt F) f (piecesL T)) = layL T := by
  rw [View.read_writes_eq_canon _ _ _ (coverL T)]
  funext y
  refine View.canon_apply_of_pieces (layL T) _ (fun p hp x => ?_) y (coverL T y)
  obtain ⟨c, s, rfl⟩ := of_memL T p hp
  exact pieceL_at T c s x

/-- The latent block the body leaves at a point. -/
def outL (i : grid0.Coords) (x : Vec F S4096x128 .i32) (g : Vec F S128x128 .f32) (wg wu wd : Vec F S1x1x1024x1024 .f32) : Vec F S1x8192x128 .f32 :=
  layL (totL (yL x wg wu wd) (gatesL i g))

end Cert.FfnIdeal.Fold
end
-- ==== Proof.FfnFrame.lean ====
/- The feed-forward block's run: the body's triple, the pipeline's proof data, the launch and the frame, at any float values. -/
module

public import proofs.«01_k».proof.Proof.FfnFold

@[expose] public section

set_option maxRecDepth 16384

noncomputable section

namespace Cert.FfnIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body, on the seven inputs' blocks and any contents of the two outputs' buffers, leaves the inputs as they were and the
    outputs' buffers at the two stored blocks. -/
theorem body_triple (c : Dev nD) (E : Set ℕ) (i : grid0.Coords) (arg1 : Memref sig .tc .vmem S2048x128 .i32) (harg1 : arg1.IsWhole) (arg2 : Memref sig .tc .vmem S64x128 .f32) (harg2 : arg2.IsWhole) (arg3 : Memref sig .tc .vmem S4096x128 .i32) (harg3 : arg3.IsWhole) (arg4 : Memref sig .tc .vmem S128x128 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S1x1x1024x1024 .f32) (harg7 : arg7.IsWhole) (arg8 : Memref sig .tc .vmem S1x4096x128 .f32) (harg8 : arg8.IsWhole) (arg9 : Memref sig .tc .vmem S1x8192x128 .f32) (harg9 : arg9.IsWhole)
    (x0 : Vec F S2048x128 .i32) (x1 : Vec F S64x128 .f32) (x2 : Vec F S4096x128 .i32) (x3 : Vec F S128x128 .f32) (x4 : Vec F S1x1x1024x1024 .f32) (x5 : Vec F S1x1x1024x1024 .f32) (x6 : Vec F S1x1x1024x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outC i x0 x1 x4 x5 x6) ∗ owns (c : Thread nD τ) arg9 fullShare (outL i x2 x3 x4 x5 x6)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9) K := by
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact storedC _ _ (totC (yC (arg1.view.read (Elt F) f0) (arg5.view.read (Elt F) f4) (arg6.view.read (Elt F) f5)
      (arg7.view.read (Elt F) f6)) (gatesC i (arg2.view.read (Elt F) f1)))
  iexists _; isplitr
  swap; · iexact H8
  ipureintro
  exact storedL _ _ (totL (yL (arg3.view.read (Elt F) f2) (arg5.view.read (Elt F) f4) (arg6.view.read (Elt F) f5)
    (arg7.view.read (Elt F) f6)) (gatesL i (arg4.view.read (Elt F) f3)))

/-- The pipeline's proof data on core `c`: each input's buffer keeps its block, each output's takes the stored block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outC (grid0.coords t) (iblk m c 0 t) (iblk m c 1 t) (iblk m c 4 t) (iblk m c 5 t) (iblk m c 6 t))
    | ⟨8, _⟩ => (outL (grid0.coords t) (iblk m c 2 t) (iblk m c 3 t) (iblk m c 4 t) (iblk m c 5 t) (iblk m c 6 t))
  Φ _ := Pipeline.ΦA spec0 c
  q _ := fullShare
  owed _ := 0

/-- The data's arrays are the contents at the region's start. -/
theorem A_eq (c : Dev nD) (w : Fin cfg0.W) : (dats m 0 c).A w = V m c (Pipeline.arrRef spec0 w) := by
  dsimp only [dats]

/-- What the body leaves in each window's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outC (grid0.coords t) (iblk m c 0 t) (iblk m c 1 t) (iblk m c 4 t) (iblk m c 5 t) (iblk m c 6 t) := by dsimp only [dats]
theorem after0_8 (c : Dev nD) (t : Fin cfg0.N) : (dats m 0 c).after 8 t = outL (grid0.coords t) (iblk m c 2 t) (iblk m c 3 t) (iblk m c 4 t) (iblk m c 5 t) (iblk m c 6 t) := by dsimp only [dats]

/-- What the body finds in each input's buffer. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body starts from at a point, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it ends at. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point's buffers is the body there. -/
theorem defs₀_row (t : Fin cfg0.N) :
    defs₀ (F := F) .tc cfg0.body (cfg0.bodyArgs t (cfg0.slots t)) = bodyAt0 t := by
  unfold defs₀; rw [Defs.onTc_tc]

/-- The pipeline's obligation on its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline ends at what the proof data gives, every other buffer as it was, and every counter at zero. -/
theorem run_counters : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_counters m ρ)

/-- The frame: every argument ends as it began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_counters m ρ))

end Cert.FfnIdeal.Fold
end
-- ==== Proof.FfnWord.lean ====
/- The two halves of a 32-bit word, each read as a 16-bit float, are the word's halves read as 32-bit floats with their low bits
   zero. -/
module

public import Idealize.ShloMosaic.PureOps.Ideal
public import Idealize.ShloMosaic.Lib.Pipeline.ValueKit
public import Mathlib.Tactic.IntervalCases

@[expose] public section

noncomputable section

namespace Cert.Word

open Idealize.ShloMosaic

/-- A 16-bit float denotes what the 32-bit float with the same upper half and a zero lower half denotes. -/
theorem wide (b : BitVec 16) (w : BitVec 32) (h : w.toNat = b.toNat * 65536) : Ideal.ieee 8 7 b = Ideal.ieee 8 23 w := by
  have hb : b.toNat < 65536 := b.isLt
  have hs : w.extractLsb' (8 + 23) 1 = b.extractLsb' (8 + 7) 1 := by
    apply BitVec.eq_of_toNat_eq
    simp only [BitVec.extractLsb'_toNat, Nat.shiftRight_eq_div_pow, h]
    omega
  have he : (w.extractLsb' 23 8).toNat = (b.extractLsb' 7 8).toNat := by
    simp only [BitVec.extractLsb'_toNat, Nat.shiftRight_eq_div_pow, h]
    omega
  have hf : (w.extractLsb' 0 23).toNat = (b.extractLsb' 0 7).toNat * 65536 := by
    simp only [BitVec.extractLsb'_toNat, Nat.shiftRight_eq_div_pow, h]
    omega
  have hz : ∀ z : ℤ, (2 : ℝ) ^ (z - 7) = 65536 * (2 : ℝ) ^ (z - 23) := fun z => by
    rw [show z - 7 = 16 + (z - 23) by ring, zpow_add₀ two_ne_zero]; norm_num
  unfold Ideal.ieee
  simp only [hs, he, hf]
  generalize (b.extractLsb' 7 8).toNat = ex
  generalize (b.extractLsb' 0 7).toNat = fr
  generalize (b.extractLsb' (8 + 7) 1 == 1#1) = neg
  simp only [mul_eq_zero, OfNat.ofNat_ne_zero, or_false]
  refine if_congr Iff.rfl rfl (if_congr Iff.rfl (congrArg Real.toEReal ?_) (congrArg Real.toEReal ?_))
  · have h0 : (2 : ℝ) ^ (-133 : ℤ) = 65536 * (2 : ℝ) ^ (-149 : ℤ) := by simpa using hz (-126)
    push_cast
    rw [h0]; ring
  · push_cast
    rw [hz]; ring

/-- The low half of a word. -/
theorem low (w : BitVec 32) : Ideal.ofBits .bf16 (w.extractLsb' 0 16) = Ideal.ofBits .f32 (w <<< 16) := by
  refine wide _ _ ?_
  simp only [BitVec.extractLsb'_toNat, BitVec.toNat_shiftLeft, Nat.shiftRight_eq_div_pow, Nat.shiftLeft_eq]
  omega

/-- The high half of a word. -/
theorem high (w : BitVec 32) : Ideal.ofBits .bf16 (w.extractLsb' 16 16) = Ideal.ofBits .f32 (w &&& 4294901760#32) := by
  have e : w &&& 4294901760#32 = (w >>> 16) <<< 16 := by
    ext i hi
    interval_cases i <;> simp
  rw [e]
  refine wide _ _ ?_
  have := w.isLt
  simp only [BitVec.extractLsb'_toNat, BitVec.toNat_shiftLeft, BitVec.toNat_ushiftRight, Nat.shiftRight_eq_div_pow, Nat.shiftLeft_eq]
  omega

end Cert.Word
end
-- ==== Proof.FfnValue.lean ====
/- The feed-forward block's stored blocks read at an index, over the extended reals. -/
module

public import proofs.«01_k».proof.Proof.FfnFrame
public import proofs.«01_k».proof.Proof.FfnWord

@[expose] public section

set_option maxRecDepth 65536

noncomputable section

namespace Cert.FfnIdeal.Fold

open Idealize.ShloMosaic Idealize.ShloMosaic.TcCoe Idealize.SL.Sem
open Cert.FfnIdeal Cert.FfnIdeal.Gen

/-- A chunk of a weight's columns at an entry. -/
theorem cols_at (w : Vec Ideal S1x1x1024x1024 .f32) (c : Fin 4) (k : Fin 1024) (j : Fin 256) :
    cols w c (ix4 0 0 k j) = w (ix4 0 0 k (⟨256 * c + j, by omega⟩ : Fin 1024)) := by
  pointwise [cols, sub]

/-- A chunk of a weight's rows at an entry. -/
theorem rows_at (w : Vec Ideal S1x1x1024x1024 .f32) (c : Fin 4) (j : Fin 256) (d : Fin 1024) :
    rows w c (ix4 0 0 j d) = w (ix4 0 0 (⟨256 * c + j, by omega⟩ : Fin 1024) d) := by
  pointwise [rows, sub]

/-- The gate column holds the gate row's entries. -/
theorem column_at (g : Vec Ideal S1x128 .f32) (r : Fin 128) : column g (ix2 r 0) = g (ix2 0 r) := by
  pointwise [column, k0_pay5]
  refine (Finset.sum_eq_single r (fun x _ hx => ?_) (fun h => absurd (Finset.mem_univ _) h)).trans ?_
  · have hn : ¬ (BitVec.ofNat 32 r.val = BitVec.ofNat 32 x.val) := fun h => hx (Fin.ext (by
      have h' := congrArg BitVec.toNat h
      simp only [BitVec.toNat_ofNat] at h'
      omega))
    have hb : (BitVec.ofNat 32 r.val == BitVec.ofNat 32 x.val) = false := by simpa using hn
    unfold Scalar.select IntOp.cmpi
    rw [hb]
    rfl
  · simp [Scalar.select, IntOp.cmpi]

/-- The logistic unit times the other factor. -/
def unit (a u : EReal) : EReal := Ideal.div a (Ideal.ofBits .f32 0x3F800000#32 + Ideal.exp (Ideal.ofBits .f32 0x00000000#32 - a)) * u

/-- The context words read with stride four. -/
theorem wordsC_at (x : Vec Ideal S2048x128 .i32) (s : Fin 4) (r : Fin 512) (l : Fin 128) :
    wordsC x s (ix2 r l) = x (ix2 (⟨4 * r + s, by omega⟩ : Fin 2048) l) := by
  pointwise [wordsC, sub]
  exact congrArg (fun a => x (ix2 a l)) (Fin.ext (by dsimp only; omega))

/-- The unpacked context rows in the low half, -/
theorem xeC_low (x : Vec Ideal S2048x128 .i32) (r : Fin 512) (s : Fin 4) (l : Fin 128) :
    xeC x (ix2 r (⟨128 * s + l, by omega⟩ : Fin 1024))
      = Ideal.ofBits .bf16 ((x (ix2 (⟨4 * r + s, by omega⟩ : Fin 2048) l)).extractLsb' 0 16) := by
  rw [← wordsC_at x s r l]
  generalize hk : (⟨128 * s + l, by omega⟩ : Fin 1024) = k
  have hk' : 128 * s.val + l.val = k.val := congrArg Fin.val hk
  pointwise [xeC]
  split_ifs <;> first
    | (exfalso; omega)
    | exact congrArg₂ (fun a b => Ideal.ofBits .bf16 ((wordsC x a (ix2 r b)).extractLsb' 0 16))
        (Fin.ext (by first | (show 0 = s.val; omega) | (show 1 = s.val; omega) | (show 2 = s.val; omega) | (show 3 = s.val; omega)))
        (Fin.ext (by dsimp only; omega))

/-- and in the high half. -/
theorem xeC_high (x : Vec Ideal S2048x128 .i32) (r : Fin 512) (s : Fin 4) (l : Fin 128) :
    xeC x (ix2 r (⟨512 + (128 * s + l), by omega⟩ : Fin 1024))
      = Ideal.ofBits .bf16 ((x (ix2 (⟨4 * r + s, by omega⟩ : Fin 2048) l)).extractLsb' 16 16) := by
  rw [← wordsC_at x s r l]
  generalize hk : (⟨512 + (128 * s + l), by omega⟩ : Fin 1024) = k
  have hk' : 512 + (128 * s.val + l.val) = k.val := congrArg Fin.val hk
  pointwise [xeC]
  split_ifs <;> first
    | (exfalso; omega)
    | exact congrArg₂ (fun a b => Ideal.ofBits .bf16 ((wordsC x a (ix2 r b)).extractLsb' 16 16))
        (Fin.ext (by first | (show 0 = s.val; omega) | (show 1 = s.val; omega) | (show 2 = s.val; omega) | (show 3 = s.val; omega)))
        (Fin.ext (by dsimp only; omega))

/-- A product with a chunk of a weight's columns at an entry. -/
theorem mulC_at (xe : FVec Ideal S512x1024 .bf16) (w : Vec Ideal S1x1x1024x1024 .f32) (c : Fin 4) (r : Fin 512) (j : Fin 256) :
    mulC xe (cols w c) (ix2 r j) = ∑ k : Fin 1024, xe (ix2 r k) * w (ix4 0 0 k (⟨256 * c + j, by omega⟩ : Fin 1024)) := by
  refine Eq.trans ?_ (Finset.sum_congr rfl fun (k : Fin 1024) _ => congrArg (fun z : EReal => xe (ix2 r k) * z) (cols_at w c k j))
  generalize cols w c = v
  pointwise [mulC]

/-- The hidden activations at an entry. -/
theorem hidC_at (a u : FVec Ideal S512x256 .f32) (r : Fin 512) (j : Fin 256) : hidC a u (ix2 r j) = unit (a (ix2 r j)) (u (ix2 r j)) := by
  pointwise [hidC, unit]

/-- The layer's hidden activation at row `r` and hidden unit `f`. -/
def midC (x : Vec Ideal S2048x128 .i32) (wg wu : Vec Ideal S1x1x1024x1024 .f32) (r : Fin 512) (f : Fin 1024) : EReal :=
  unit (∑ k : Fin 1024, xeC x (ix2 r k) * wg (ix4 0 0 k f)) (∑ k : Fin 1024, xeC x (ix2 r k) * wu (ix4 0 0 k f))

/-- One chunk's part of the sum over the hidden units. -/
theorem partC_at (x : Vec Ideal S2048x128 .i32) (wg wu wd : Vec Ideal S1x1x1024x1024 .f32) (c : Fin 4) (r : Fin 512) (d : Fin 1024) :
    partC x wg wu wd c (ix2 r d) = ∑ j : Fin 256, midC x wg wu r (⟨256 * c + j, by omega⟩ : Fin 1024)
      * wd (ix4 0 0 (⟨256 * c + j, by omega⟩ : Fin 1024) d) := by
  refine Eq.trans ?_ (Finset.sum_congr rfl fun (j : Fin 256) _ => congrArg₂ (fun y z : EReal => y * z)
    ((hidC_at _ _ r j).trans (congrArg₂ unit (mulC_at (xeC x) wg c r j) (mulC_at (xeC x) wu c r j))) (rows_at wd c j d))
  unfold partC
  generalize hidC (mulC (xeC x) (cols wg c)) (mulC (xeC x) (cols wu c)) = h
  generalize rows wd c = v
  pointwise

/-- The values before the gates at an entry. -/
theorem yC_at (x : Vec Ideal S2048x128 .i32) (wg wu wd : Vec Ideal S1x1x1024x1024 .f32) (r : Fin 512) (d : Fin 1024) :
    yC x wg wu wd (ix2 r d) = ∑ f : Fin 1024, midC x wg wu r f * wd (ix4 0 0 f d) := by
  have h := fun c => partC_at x wg wu wd c r d
  rw [Fin.sum_univ_tiles 4 256 rfl, Fin.sum_univ_four]
  refine Eq.trans (b := partC x wg wu wd 0 (ix2 r d) + partC x wg wu wd 1 (ix2 r d) + partC x wg wu wd 2 (ix2 r d)
    + partC x wg wu wd 3 (ix2 r d)) rfl ?_
  rw [h 0, h 1, h 2, h 3]
  rfl

/-- The point's gates at an entry. -/
theorem gatesC_at (i : grid0.Coords) (g : Vec Ideal S64x128 .f32) (c : Fin 4) (k : Fin 128) (e : Fin 16) (he : e = i 0) :
    gatesC i g c (ix2 0 k) = g (ix2 (⟨4 * e + c, by omega⟩ : Fin 64) k) := by
  subst he
  pointwise [gatesC, sub, k0_off1_eq]

/-- The rows times their gates at an entry. -/
theorem totC_at (y : FVec Ideal S512x1024 .f32) (g : Fin 4 → Vec Ideal S1x128 .f32) (c : Fin 4) (r : Fin 128) (d : Fin 1024) :
    totC y g c (ix2 r d) = y (ix2 (⟨128 * c + r, by omega⟩ : Fin 512) d) * g c (ix2 0 r) := by
  rw [← column_at (g c) r]
  pointwise [totC]

/-- The context block at an entry. -/
theorem outC_at (i : grid0.Coords) (x : Vec Ideal S2048x128 .i32) (g : Vec Ideal S64x128 .f32) (wg wu wd : Vec Ideal S1x1x1024x1024 .f32)
    (e : Fin 16) (he : e = i 0) (c : Fin 4) (r : Fin 128) (s : Fin 8) (l : Fin 128) :
    outC i x g wg wu wd (ix3 0 (⟨1024 * c + 8 * r + s, by omega⟩ : Fin 4096) l)
      = (∑ f : Fin 1024, midC x wg wu (⟨128 * c + r, by omega⟩ : Fin 512) f * wd (ix4 0 0 f (⟨128 * s + l, by omega⟩ : Fin 1024)))
        * g (ix2 (⟨4 * e + c, by omega⟩ : Fin 64) r) := by
  rw [← yC_at, ← gatesC_at i g c r e he, ← totC_at]
  generalize hk : (⟨1024 * c + 8 * r + s, by omega⟩ : Fin 4096) = k
  have hk' : 1024 * c.val + 8 * r.val + s.val = k.val := congrArg Fin.val hk
  show totC _ _ (⟨k.val / 1024, _⟩ : Fin 4) (ix2 (⟨k.val % 1024 / 8, _⟩ : Fin 128) (⟨128 * (k.val % 8) + l.val, _⟩ : Fin 1024)) = _
  have h1 : (⟨k.val / 1024, by omega⟩ : Fin 4) = c := Fin.ext (by dsimp only; omega)
  have h2 : (⟨k.val % 1024 / 8, by omega⟩ : Fin 128) = r := Fin.ext (by dsimp only; omega)
  have h3 : (⟨128 * (k.val % 8) + l.val, by omega⟩ : Fin 1024) = (⟨128 * s + l, by omega⟩ : Fin 1024) := Fin.ext (by dsimp only; omega)
  rw [h1, h2, h3]

/-- The latent words read with stride four. -/
theorem wordsL_at (x : Vec Ideal S4096x128 .i32) (s : Fin 4) (r : Fin 1024) (l : Fin 128) :
    wordsL x s (ix2 r l) = x (ix2 (⟨4 * r + s, by omega⟩ : Fin 4096) l) := by
  pointwise [wordsL, sub]
  exact congrArg (fun a => x (ix2 a l)) (Fin.ext (by dsimp only; omega))

/-- The unpacked latent rows in the low half, -/
theorem xeL_low (x : Vec Ideal S4096x128 .i32) (r : Fin 1024) (s : Fin 4) (l : Fin 128) :
    xeL x (ix2 r (⟨128 * s + l, by omega⟩ : Fin 1024))
      = Ideal.ofBits .bf16 ((x (ix2 (⟨4 * r + s, by omega⟩ : Fin 4096) l)).extractLsb' 0 16) := by
  rw [← wordsL_at x s r l]
  generalize hk : (⟨128 * s + l, by omega⟩ : Fin 1024) = k
  have hk' : 128 * s.val + l.val = k.val := congrArg Fin.val hk
  pointwise [xeL]
  split_ifs <;> first
    | (exfalso; omega)
    | exact congrArg₂ (fun a b => Ideal.ofBits .bf16 ((wordsL x a (ix2 r b)).extractLsb' 0 16))
        (Fin.ext (by first | (show 0 = s.val; omega) | (show 1 = s.val; omega) | (show 2 = s.val; omega) | (show 3 = s.val; omega)))
        (Fin.ext (by dsimp only; omega))

/-- and in the high half. -/
theorem xeL_high (x : Vec Ideal S4096x128 .i32) (r : Fin 1024) (s : Fin 4) (l : Fin 128) :
    xeL x (ix2 r (⟨512 + (128 * s + l), by omega⟩ : Fin 1024))
      = Ideal.ofBits .bf16 ((x (ix2 (⟨4 * r + s, by omega⟩ : Fin 4096) l)).extractLsb' 16 16) := by
  rw [← wordsL_at x s r l]
  generalize hk : (⟨512 + (128 * s + l), by omega⟩ : Fin 1024) = k
  have hk' : 512 + (128 * s.val + l.val) = k.val := congrArg Fin.val hk
  pointwise [xeL]
  split_ifs <;> first
    | (exfalso; omega)
    | exact congrArg₂ (fun a b => Ideal.ofBits .bf16 ((wordsL x a (ix2 r b)).extractLsb' 16 16))
        (Fin.ext (by first | (show 0 = s.val; omega) | (show 1 = s.val; omega) | (show 2 = s.val; omega) | (show 3 = s.val; omega)))
        (Fin.ext (by dsimp only; omega))

/-- A product with a chunk of a weight's columns at an entry. -/
theorem mulL_at (xe : FVec Ideal S1024x1024 .bf16) (w : Vec Ideal S1x1x1024x1024 .f32) (c : Fin 4) (r : Fin 1024) (j : Fin 256) :
    mulL xe (cols w c) (ix2 r j) = ∑ k : Fin 1024, xe (ix2 r k) * w (ix4 0 0 k (⟨256 * c + j, by omega⟩ : Fin 1024)) := by
  refine Eq.trans ?_ (Finset.sum_congr rfl fun (k : Fin 1024) _ => congrArg (fun z : EReal => xe (ix2 r k) * z) (cols_at w c k j))
  generalize cols w c = v
  pointwise [mulL]

/-- The hidden activations at an entry. -/
theorem hidL_at (a u : FVec Ideal S1024x256 .f32) (r : Fin 1024) (j : Fin 256) : hidL a u (ix2 r j) = unit (a (ix2 r j)) (u (ix2 r j)) := by
  pointwise [hidL, unit]

/-- The layer's hidden activation at row `r` and hidden unit `f`. -/
def midL (x : Vec Ideal S4096x128 .i32) (wg wu : Vec Ideal S1x1x1024x1024 .f32) (r : Fin 1024) (f : Fin 1024) : EReal :=
  unit (∑ k : Fin 1024, xeL x (ix2 r k) * wg (ix4 0 0 k f)) (∑ k : Fin 1024, xeL x (ix2 r k) * wu (ix4 0 0 k f))

/-- One chunk's part of the sum over the hidden units. -/
theorem partL_at (x : Vec Ideal S4096x128 .i32) (wg wu wd : Vec Ideal S1x1x1024x1024 .f32) (c : Fin 4) (r : Fin 1024) (d : Fin 1024) :
    partL x wg wu wd c (ix2 r d) = ∑ j : Fin 256, midL x wg wu r (⟨256 * c + j, by omega⟩ : Fin 1024)
      * wd (ix4 0 0 (⟨256 * c + j, by omega⟩ : Fin 1024) d) := by
  refine Eq.trans ?_ (Finset.sum_congr rfl fun (j : Fin 256) _ => congrArg₂ (fun y z : EReal => y * z)
    ((hidL_at _ _ r j).trans (congrArg₂ unit (mulL_at (xeL x) wg c r j) (mulL_at (xeL x) wu c r j))) (rows_at wd c j d))
  unfold partL
  generalize hidL (mulL (xeL x) (cols wg c)) (mulL (xeL x) (cols wu c)) = h
  generalize rows wd c = v
  pointwise

/-- The values before the gates at an entry. -/
theorem yL_at (x : Vec Ideal S4096x128 .i32) (wg wu wd : Vec Ideal S1x1x1024x1024 .f32) (r : Fin 1024) (d : Fin 1024) :
    yL x wg wu wd (ix2 r d) = ∑ f : Fin 1024, midL x wg wu r f * wd (ix4 0 0 f d) := by
  have h := fun c => partL_at x wg wu wd c r d
  rw [Fin.sum_univ_tiles 4 256 rfl, Fin.sum_univ_four]
  refine Eq.trans (b := partL x wg wu wd 0 (ix2 r d) + partL x wg wu wd 1 (ix2 r d) + partL x wg wu wd 2 (ix2 r d)
    + partL x wg wu wd 3 (ix2 r d)) rfl ?_
  rw [h 0, h 1, h 2, h 3]
  rfl

/-- The point's gates at an entry. -/
theorem gatesL_at (i : grid0.Coords) (g : Vec Ideal S128x128 .f32) (c : Fin 8) (k : Fin 128) (e : Fin 16) (he : e = i 0) :
    gatesL i g c (ix2 0 k) = g (ix2 (⟨8 * e + c, by omega⟩ : Fin 128) k) := by
  subst he
  pointwise [gatesL, sub, k0_off2_eq]

/-- The rows times their gates at an entry. -/
theorem totL_at (y : FVec Ideal S1024x1024 .f32) (g : Fin 8 → Vec Ideal S1x128 .f32) (c : Fin 8) (r : Fin 128) (d : Fin 1024) :
    totL y g c (ix2 r d) = y (ix2 (⟨128 * c + r, by omega⟩ : Fin 1024) d) * g c (ix2 0 r) := by
  rw [← column_at (g c) r]
  pointwise [totL]

/-- The latent block at an entry. -/
theorem outL_at (i : grid0.Coords) (x : Vec Ideal S4096x128 .i32) (g : Vec Ideal S128x128 .f32) (wg wu wd : Vec Ideal S1x1x1024x1024 .f32)
    (e : Fin 16) (he : e = i 0) (c : Fin 8) (r : Fin 128) (s : Fin 8) (l : Fin 128) :
    outL i x g wg wu wd (ix3 0 (⟨1024 * c + 8 * r + s, by omega⟩ : Fin 8192) l)
      = (∑ f : Fin 1024, midL x wg wu (⟨128 * c + r, by omega⟩ : Fin 1024) f * wd (ix4 0 0 f (⟨128 * s + l, by omega⟩ : Fin 1024)))
        * g (ix2 (⟨8 * e + c, by omega⟩ : Fin 128) r) := by
  rw [← yL_at, ← gatesL_at i g c r e he, ← totL_at]
  generalize hk : (⟨1024 * c + 8 * r + s, by omega⟩ : Fin 8192) = k
  have hk' : 1024 * c.val + 8 * r.val + s.val = k.val := congrArg Fin.val hk
  show totL _ _ (⟨k.val / 1024, _⟩ : Fin 8) (ix2 (⟨k.val % 1024 / 8, _⟩ : Fin 128) (⟨128 * (k.val % 8) + l.val, _⟩ : Fin 1024)) = _
  have h1 : (⟨k.val / 1024, by omega⟩ : Fin 8) = c := Fin.ext (by dsimp only; omega)
  have h2 : (⟨k.val % 1024 / 8, by omega⟩ : Fin 128) = r := Fin.ext (by dsimp only; omega)
  have h3 : (⟨128 * (k.val % 8) + l.val, by omega⟩ : Fin 1024) = (⟨128 * s + l, by omega⟩ : Fin 1024) := Fin.ext (by dsimp only; omega)
  rw [h1, h2, h3]

end Cert.FfnIdeal.Fold
end
-- ==== Proof.FfnRef.lean ====
/- The feed-forward reference's two results in named stages, each read at an index. -/
module

public import proofs.«01_k».proof.Proof.Gen.FfnRefIdeal.Run
public import proofs.«01_k».proof.Proof.FfnWord

@[expose] public section

set_option maxRecDepth 65536

noncomputable section

namespace Cert.FfnRefIdeal.Stage

open Idealize.ShloMosaic Idealize.ShloMosaic.TcCoe Idealize.SL.Sem
open Cert.FfnRefIdeal Cert.FfnRefIdeal.Gen Cert.FfnRefIdeal.Value

/-- The present layer's weights. -/
def layer (w : FVec Ideal S2x16x1024x1024 .f32) : FVec Ideal S16x1024x1024 .f32 :=
  shapeCast _ (extractStridedSlice S1x16x1024x1024 ![0, 0, 0, 0] w slices_S2x16x1024x1024_S1x16x1024x1024_0_0_0_0) shapeCasts_S1x16x1024x1024_S16x1024x1024

theorem layer_at (w : FVec Ideal S2x16x1024x1024 .f32) (e : Fin 16) (k j : Fin 1024) : layer w (ix3 e k j) = w (ix4 0 e k j) := by
  pointwise [layer]

/-- The context rows the words hold: the low halves, then the high halves. -/
def rowsC (x : IVec S32768x128 32) : FVec Ideal S16x512x1024 .f32 :=
  concatenate S16x512x1024 2 [⟨S16x512x512, bitcastToFloat .f32 (Host.shli (shapeCast _ x shapeCasts_S32768x128_S16x512x512) (broadcastInDim S16x512x512 ![] bcast_S_S16x512x512 (constantI S_ 32 16#32)))⟩,
    ⟨S16x512x512, bitcastToFloat .f32 (andi (shapeCast _ x shapeCasts_S32768x128_S16x512x512) (broadcastInDim S16x512x512 ![] bcast_S_S16x512x512 (constantI S_ 32 4294901760#32)))⟩]
    concatenates_S16x512x512_S16x512x512_S16x512x1024_d2

/-- The context rows times a weight. -/
def timesC (a : FVec Ideal S16x512x1024 .f32) (w : FVec Ideal S16x1024x1024 .f32) : FVec Ideal S16x512x1024 .f32 :=
  Host.dotGeneral dot_S16x512x1024_S16x1024x1024_S16x512x1024_2_1_1_2_0_0 none a w

/-- The context hidden activations. -/
def actC (a u : FVec Ideal S16x512x1024 .f32) : FVec Ideal S16x512x1024 .f32 :=
  mulf (mulf a (Host.divf (broadcastInDim S16x512x1024 ![] bcast_S_S16x512x1024 (constant S_ .f32 0x3F800000#32))
    (addf (broadcastInDim S16x512x1024 ![] bcast_S_S16x512x1024 (constant S_ .f32 0x3F800000#32)) (Host.exp (Host.negf a))))) u

/-- The context values times their gates, laid out in rows of 128. -/
def gateC (y : FVec Ideal S16x512x1024 .f32) (g : FVec Ideal S64x128 .f32) : FVec Ideal S16x4096x128 .f32 :=
  shapeCast _ (mulf y (broadcastInDim S16x512x1024 ![0, 1, 2] bcast_S16x512x1_S16x512x1024_0_1_2
    (broadcastInDim S16x512x1 ![0, 1] bcast_S16x512_S16x512x1_0_1 (shapeCast _ g shapeCasts_S64x128_S16x512)))) shapeCasts_S16x512x1024_S16x4096x128

/-- The context result. -/
def resC (x : IVec S32768x128 32) (g : FVec Ideal S64x128 .f32) (wg wu wd : FVec Ideal S2x16x1024x1024 .f32) : FVec Ideal S16x4096x128 .f32 :=
  gateC (timesC (actC (timesC (rowsC x) (layer wg)) (timesC (rowsC x) (layer wu))) (layer wd)) g

/-- The context rows at an entry of the low half, -/
theorem rowsC_low (x : IVec S32768x128 32) (e : Fin 16) (r : Fin 512) (s : Fin 4) (l : Fin 128) :
    rowsC x (ix3 e r (⟨128 * s + l, by omega⟩ : Fin 1024))
      = Ideal.ofBits .bf16 ((x (ix2 (⟨2048 * e + 4 * r + s, by omega⟩ : Fin 32768) l)).extractLsb' 0 16) := by
  rw [Word.low]
  generalize hk : (⟨128 * s + l, by omega⟩ : Fin 1024) = k
  have hk' : 128 * s.val + l.val = k.val := congrArg Fin.val hk
  pointwise [rowsC]
  rw [dif_pos (by omega)]
  exact congrArg₂ (fun a b => Ideal.ofBits .f32 (x (ix2 a b) <<< 16)) (Fin.ext (by dsimp only; omega)) (Fin.ext (by dsimp only; omega))

/-- and of the high half. -/
theorem rowsC_high (x : IVec S32768x128 32) (e : Fin 16) (r : Fin 512) (s : Fin 4) (l : Fin 128) :
    rowsC x (ix3 e r (⟨512 + (128 * s + l), by omega⟩ : Fin 1024))
      = Ideal.ofBits .bf16 ((x (ix2 (⟨2048 * e + 4 * r + s, by omega⟩ : Fin 32768) l)).extractLsb' 16 16) := by
  rw [Word.high]
  generalize hk : (⟨512 + (128 * s + l), by omega⟩ : Fin 1024) = k
  have hk' : 512 + (128 * s.val + l.val) = k.val := congrArg Fin.val hk
  pointwise [rowsC]
  rw [dif_neg (by omega)]
  exact congrArg₂ (fun a b => Ideal.ofBits .f32 (x (ix2 a b) &&& 4294901760#32)) (Fin.ext (by dsimp only; omega)) (Fin.ext (by dsimp only; omega))

/-- A product at an entry. -/
theorem timesC_at (a : FVec Ideal S16x512x1024 .f32) (w : FVec Ideal S16x1024x1024 .f32) (e : Fin 16) (r : Fin 512) (j : Fin 1024) :
    timesC a w (ix3 e r j) = ∑ k : Fin 1024, a (ix3 e r k) * w (ix3 e k j) := by
  pointwise [timesC]

/-- The hidden activations at an entry. -/
theorem actC_at (a u : FVec Ideal S16x512x1024 .f32) (i : S16x512x1024.Idx) :
    actC a u i = a i * Ideal.div (Ideal.ofBits .f32 0x3F800000#32) (Ideal.ofBits .f32 0x3F800000#32 + Ideal.exp (-(a i))) * u i := by
  idx_vars i
  pointwise [actC]

/-- The result's layout. -/
theorem gateC_at (y : FVec Ideal S16x512x1024 .f32) (g : FVec Ideal S64x128 .f32) (e : Fin 16) (c : Fin 4) (r : Fin 128) (s : Fin 8) (l : Fin 128) :
    gateC y g (ix3 e (⟨1024 * c + 8 * r + s, by omega⟩ : Fin 4096) l)
      = y (ix3 e (⟨128 * c + r, by omega⟩ : Fin 512) (⟨128 * s + l, by omega⟩ : Fin 1024)) * g (ix2 (⟨4 * e + c, by omega⟩ : Fin 64) r) := by
  pointwise [gateC]
  exact congrArg₂ (fun a b : EReal => a * b) (congrArg₂ (fun a b => y (ix3 e a b)) (Fin.ext (by dsimp only; omega)) (Fin.ext (by dsimp only; omega)))
    (congrArg (fun a => g (ix2 a r)) (Fin.ext (by dsimp only; omega)))

/-- The latent rows the words hold: the low halves, then the high halves. -/
def rowsL (x : IVec S65536x128 32) : FVec Ideal S16x1024x1024 .f32 :=
  concatenate S16x1024x1024 2 [⟨S16x1024x512, bitcastToFloat .f32 (Host.shli (shapeCast _ x shapeCasts_S65536x128_S16x1024x512) (broadcastInDim S16x1024x512 ![] bcast_S_S16x1024x512 (constantI S_ 32 16#32)))⟩,
    ⟨S16x1024x512, bitcastToFloat .f32 (andi (shapeCast _ x shapeCasts_S65536x128_S16x1024x512) (broadcastInDim S16x1024x512 ![] bcast_S_S16x1024x512 (constantI S_ 32 4294901760#32)))⟩]
    concatenates_S16x1024x512_S16x1024x512_S16x1024x1024_d2

/-- The latent rows times a weight. -/
def timesL (a : FVec Ideal S16x1024x1024 .f32) (w : FVec Ideal S16x1024x1024 .f32) : FVec Ideal S16x1024x1024 .f32 :=
  Host.dotGeneral dot_S16x1024x1024_S16x1024x1024_S16x1024x1024_2_1_1_2_0_0 none a w

/-- The latent hidden activations. -/
def actL (a u : FVec Ideal S16x1024x1024 .f32) : FVec Ideal S16x1024x1024 .f32 :=
  mulf (mulf a (Host.divf (broadcastInDim S16x1024x1024 ![] bcast_S_S16x1024x1024 (constant S_ .f32 0x3F800000#32))
    (addf (broadcastInDim S16x1024x1024 ![] bcast_S_S16x1024x1024 (constant S_ .f32 0x3F800000#32)) (Host.exp (Host.negf a))))) u

/-- The latent values times their gates, laid out in rows of 128. -/
def gateL (y : FVec Ideal S16x1024x1024 .f32) (g : FVec Ideal S128x128 .f32) : FVec Ideal S16x8192x128 .f32 :=
  shapeCast _ (mulf y (broadcastInDim S16x1024x1024 ![0, 1, 2] bcast_S16x1024x1_S16x1024x1024_0_1_2
    (broadcastInDim S16x1024x1 ![0, 1] bcast_S16x1024_S16x1024x1_0_1 (shapeCast _ g shapeCasts_S128x128_S16x1024)))) shapeCasts_S16x1024x1024_S16x8192x128

/-- The latent result. -/
def resL (x : IVec S65536x128 32) (g : FVec Ideal S128x128 .f32) (wg wu wd : FVec Ideal S2x16x1024x1024 .f32) : FVec Ideal S16x8192x128 .f32 :=
  gateL (timesL (actL (timesL (rowsL x) (layer wg)) (timesL (rowsL x) (layer wu))) (layer wd)) g

/-- The latent rows at an entry of the low half, -/
theorem rowsL_low (x : IVec S65536x128 32) (e : Fin 16) (r : Fin 1024) (s : Fin 4) (l : Fin 128) :
    rowsL x (ix3 e r (⟨128 * s + l, by omega⟩ : Fin 1024))
      = Ideal.ofBits .bf16 ((x (ix2 (⟨4096 * e + 4 * r + s, by omega⟩ : Fin 65536) l)).extractLsb' 0 16) := by
  rw [Word.low]
  generalize hk : (⟨128 * s + l, by omega⟩ : Fin 1024) = k
  have hk' : 128 * s.val + l.val = k.val := congrArg Fin.val hk
  pointwise [rowsL]
  rw [dif_pos (by omega)]
  exact congrArg₂ (fun a b => Ideal.ofBits .f32 (x (ix2 a b) <<< 16)) (Fin.ext (by dsimp only; omega)) (Fin.ext (by dsimp only; omega))

/-- and of the high half. -/
theorem rowsL_high (x : IVec S65536x128 32) (e : Fin 16) (r : Fin 1024) (s : Fin 4) (l : Fin 128) :
    rowsL x (ix3 e r (⟨512 + (128 * s + l), by omega⟩ : Fin 1024))
      = Ideal.ofBits .bf16 ((x (ix2 (⟨4096 * e + 4 * r + s, by omega⟩ : Fin 65536) l)).extractLsb' 16 16) := by
  rw [Word.high]
  generalize hk : (⟨512 + (128 * s + l), by omega⟩ : Fin 1024) = k
  have hk' : 512 + (128 * s.val + l.val) = k.val := congrArg Fin.val hk
  pointwise [rowsL]
  rw [dif_neg (by omega)]
  exact congrArg₂ (fun a b => Ideal.ofBits .f32 (x (ix2 a b) &&& 4294901760#32)) (Fin.ext (by dsimp only; omega)) (Fin.ext (by dsimp only; omega))

/-- A product at an entry. -/
theorem timesL_at (a : FVec Ideal S16x1024x1024 .f32) (w : FVec Ideal S16x1024x1024 .f32) (e : Fin 16) (r : Fin 1024) (j : Fin 1024) :
    timesL a w (ix3 e r j) = ∑ k : Fin 1024, a (ix3 e r k) * w (ix3 e k j) := by
  pointwise [timesL]

/-- The hidden activations at an entry. -/
theorem actL_at (a u : FVec Ideal S16x1024x1024 .f32) (i : S16x1024x1024.Idx) :
    actL a u i = a i * Ideal.div (Ideal.ofBits .f32 0x3F800000#32) (Ideal.ofBits .f32 0x3F800000#32 + Ideal.exp (-(a i))) * u i := by
  idx_vars i
  pointwise [actL]

/-- The result's layout. -/
theorem gateL_at (y : FVec Ideal S16x1024x1024 .f32) (g : FVec Ideal S128x128 .f32) (e : Fin 16) (c : Fin 8) (r : Fin 128) (s : Fin 8) (l : Fin 128) :
    gateL y g (ix3 e (⟨1024 * c + 8 * r + s, by omega⟩ : Fin 8192) l)
      = y (ix3 e (⟨128 * c + r, by omega⟩ : Fin 1024) (⟨128 * s + l, by omega⟩ : Fin 1024)) * g (ix2 (⟨8 * e + c, by omega⟩ : Fin 128) r) := by
  pointwise [gateL]
  exact congrArg₂ (fun a b : EReal => a * b) (congrArg₂ (fun a b => y (ix3 e a b)) (Fin.ext (by dsimp only; omega)) (Fin.ext (by dsimp only; omega)))
    (congrArg (fun a => g (ix2 a r)) (Fin.ext (by dsimp only; omega)))

/-- The reference's run ends with the two results at their stages composed. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = resC (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))
      ∧ r.2.mem ((c.tc : Thread nD τ).loc main_v47) = resL (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2.1.trans ?_, (h c).2.2⟩) (Value.run (F := Ideal) m ρ)
  · rfl
  · rfl

end Cert.FfnRefIdeal.Stage
end
-- ==== Proof.FfnArray.lean ====
/- The feed-forward kernel's two result arrays: their blocks read off the arguments, and every entry the reference's. -/
module

public import proofs.«01_k».proof.Proof.FfnValue
public import proofs.«01_k».proof.Proof.FfnRef

@[expose] public section

set_option maxRecDepth 65536

noncomputable section

namespace Cert.FfnIdeal.Fold

open Idealize.ShloMosaic Idealize.ShloMosaic.TcCoe Idealize.SL.Sem
open Cert.FfnIdeal Cert.FfnIdeal.Gen
open Cert.FfnRefIdeal (Stage.layer Stage.layer_at)

variable (m : (ℓ : Loc nD τ sig) → Buf (Elt Ideal) ℓ)

/-- The windows' blocks by the grid's coordinate, the expert. -/
theorem idx : ∀ t : Fin cfg0.N,
    win0_0.index t = ![(grid0.coords t 0).val, 0]
    ∧ win0_1.index t = ![0, 0]
    ∧ win0_2.index t = ![(grid0.coords t 0).val, 0]
    ∧ win0_3.index t = ![0, 0]
    ∧ win0_4.index t = ![0, (grid0.coords t 0).val, 0, 0]
    ∧ win0_5.index t = ![0, (grid0.coords t 0).val, 0, 0]
    ∧ win0_6.index t = ![0, (grid0.coords t 0).val, 0, 0]
    ∧ win0_7.index t = ![(grid0.coords t 0).val, 0, 0]
    ∧ win0_8.index t = ![(grid0.coords t 0).val, 0, 0] :=
  (by decide +kernel : ∀ t : Fin grid0.N, _)

/-- Device `c`'s seven argument arrays. -/
abbrev argXC (c : Dev nD) : IVec S32768x128 32 := m ((c : Thread nD τ).loc main_arg0)
abbrev argGC (c : Dev nD) : FVec Ideal S64x128 .f32 := m ((c : Thread nD τ).loc main_arg1)
abbrev argXL (c : Dev nD) : IVec S65536x128 32 := m ((c : Thread nD τ).loc main_arg2)
abbrev argGL (c : Dev nD) : FVec Ideal S128x128 .f32 := m ((c : Thread nD τ).loc main_arg3)
abbrev argWG (c : Dev nD) : FVec Ideal S2x16x1024x1024 .f32 := m ((c : Thread nD τ).loc main_arg4)
abbrev argWU (c : Dev nD) : FVec Ideal S2x16x1024x1024 .f32 := m ((c : Thread nD τ).loc main_arg5)
abbrev argWD (c : Dev nD) : FVec Ideal S2x16x1024x1024 .f32 := m ((c : Thread nD τ).loc main_arg6)

/-- The gate weight's block at a point. -/
theorem blk_4 (c : Dev nD) (t : Fin cfg0.N) (k j : Fin 1024) (e : Fin 16) (he : e = grid0.coords t 0) :
    (iblk m c 4 t : Vec Ideal S1x1x1024x1024 .f32) (ix4 0 0 k j) = argWG m c (ix4 0 e k j) := by
  subst he
  blk_ext [iblk, idx t]

/-- The up weight's block at a point. -/
theorem blk_5 (c : Dev nD) (t : Fin cfg0.N) (k j : Fin 1024) (e : Fin 16) (he : e = grid0.coords t 0) :
    (iblk m c 5 t : Vec Ideal S1x1x1024x1024 .f32) (ix4 0 0 k j) = argWU m c (ix4 0 e k j) := by
  subst he
  blk_ext [iblk, idx t]

/-- The down weight's block at a point. -/
theorem blk_6 (c : Dev nD) (t : Fin cfg0.N) (k j : Fin 1024) (e : Fin 16) (he : e = grid0.coords t 0) :
    (iblk m c 6 t : Vec Ideal S1x1x1024x1024 .f32) (ix4 0 0 k j) = argWD m c (ix4 0 e k j) := by
  subst he
  blk_ext [iblk, idx t]

/-- The context words' block at a point. -/
theorem blk_0 (c : Dev nD) (t : Fin cfg0.N) (p : Fin 2048) (l : Fin 128) (e : Fin 16) (he : e = grid0.coords t 0) :
    (iblk m c 0 t : Vec Ideal S2048x128 .i32) (ix2 p l) = argXC m c (ix2 (⟨2048 * e + p, by omega⟩ : Fin 32768) l) := by
  subst he
  blk_ext [iblk, idx t]

/-- The context gates' block is the whole array. -/
theorem blk_1 (c : Dev nD) (t : Fin cfg0.N) (p : Fin 64) (l : Fin 128) :
    (iblk m c 1 t : Vec Ideal S64x128 .f32) (ix2 p l) = argGC m c (ix2 p l) := by
  blk_ext [iblk, idx t]

/-- The latent words' block at a point. -/
theorem blk_2 (c : Dev nD) (t : Fin cfg0.N) (p : Fin 4096) (l : Fin 128) (e : Fin 16) (he : e = grid0.coords t 0) :
    (iblk m c 2 t : Vec Ideal S4096x128 .i32) (ix2 p l) = argXL m c (ix2 (⟨4096 * e + p, by omega⟩ : Fin 65536) l) := by
  subst he
  blk_ext [iblk, idx t]

/-- The latent gates' block is the whole array. -/
theorem blk_3 (c : Dev nD) (t : Fin cfg0.N) (p : Fin 128) (l : Fin 128) :
    (iblk m c 3 t : Vec Ideal S128x128 .f32) (ix2 p l) = argGL m c (ix2 p l) := by
  blk_ext [iblk, idx t]

/-- The logistic unit, either way written. -/
theorem unit_eq (a u : EReal) : unit a u = a * Ideal.div (Ideal.ofBits .f32 0x3F800000#32) (Ideal.ofBits .f32 0x3F800000#32 + Ideal.exp (-a)) * u := by
  have hp : (0 : EReal) ≤ Ideal.exp (-a) := by
    induction -a with
    | bot => exact le_of_eq rfl
    | top => exact le_top
    | coe r => exact EReal.coe_nonneg.2 (Real.exp_pos r).le
  have hs : (1 : EReal) + Ideal.exp (-a) ≠ 0 := (zero_lt_one.trans_le (le_add_of_nonneg_right hp)).ne'
  unfold unit
  rw [Ideal.ofBits_one_f32, Ideal.ofBits_zero_f32, zero_sub]
  unfold Ideal.div
  rw [if_neg hs, if_neg hs, one_mul]

/-- The context rows a point unpacks are the reference's rows of its expert. -/
theorem xeC_eq (c : Dev nD) (t : Fin cfg0.N) (e : Fin 16) (he : e = grid0.coords t 0) (r : Fin 512) (k : Fin 1024) :
    xeC (iblk m c 0 t) (ix2 r k) = Cert.FfnRefIdeal.Stage.rowsC (argXC m c) (ix3 e r k) := by
  have hi : ∀ s : Fin 4, (⟨2048 * e + (⟨4 * r + s, by omega⟩ : Fin 2048), by dsimp only; omega⟩ : Fin 32768) = ⟨2048 * e + 4 * r + s, by omega⟩ :=
    fun s => Fin.ext (by dsimp only; omega)
  by_cases h : k.val < 512
  · obtain ⟨s, l, hk⟩ : ∃ (s : Fin 4) (l : Fin 128), k = (⟨128 * s + l, by omega⟩ : Fin 1024) :=
      ⟨⟨k / 128, by omega⟩, ⟨k % 128, by omega⟩, Fin.ext (by dsimp only; omega)⟩
    rw [hk, xeC_low, blk_0 m c t _ l e he, Cert.FfnRefIdeal.Stage.rowsC_low, hi]
  · obtain ⟨s, l, hk⟩ : ∃ (s : Fin 4) (l : Fin 128), k = (⟨512 + (128 * s + l), by omega⟩ : Fin 1024) :=
      ⟨⟨(k - 512) / 128, by omega⟩, ⟨k % 128, by omega⟩, Fin.ext (by dsimp only; omega)⟩
    rw [hk, xeC_high, blk_0 m c t _ l e he, Cert.FfnRefIdeal.Stage.rowsC_high, hi]

/-- A hidden activation is the reference's. -/
theorem midC_eq (c : Dev nD) (t : Fin cfg0.N) (e : Fin 16) (he : e = grid0.coords t 0) (r : Fin 512) (f : Fin 1024) :
    midC (iblk m c 0 t) (iblk m c 4 t) (iblk m c 5 t) r f
      = Cert.FfnRefIdeal.Stage.actC (Cert.FfnRefIdeal.Stage.timesC (Cert.FfnRefIdeal.Stage.rowsC (argXC m c)) (Stage.layer (argWG m c)))
        (Cert.FfnRefIdeal.Stage.timesC (Cert.FfnRefIdeal.Stage.rowsC (argXC m c)) (Stage.layer (argWU m c))) (ix3 e r f) := by
  rw [Cert.FfnRefIdeal.Stage.actC_at, Cert.FfnRefIdeal.Stage.timesC_at, Cert.FfnRefIdeal.Stage.timesC_at]
  refine Eq.trans (congrArg₂ unit ?_ ?_) (unit_eq _ _)
  · exact Finset.sum_congr rfl fun (k : Fin 1024) _ => congrArg₂ (fun y z : EReal => y * z) (xeC_eq m c t e he r k)
      ((blk_4 m c t k f e he).trans (Stage.layer_at _ e k f).symm)
  · exact Finset.sum_congr rfl fun (k : Fin 1024) _ => congrArg₂ (fun y z : EReal => y * z) (xeC_eq m c t e he r k)
      ((blk_5 m c t k f e he).trans (Stage.layer_at _ e k f).symm)

/-- The reference's context term over the kernel's arguments. -/
abbrev REFC (c : Dev nD) : FVec Ideal Cert.FfnRefIdeal.S16x4096x128 .f32 :=
  Cert.FfnRefIdeal.Stage.resC (argXC m c) (argGC m c) (argWG m c) (argWU m c) (argWD m c)

/-- **One entry of a context block** is the reference's entry at its place. -/
theorem pointC (c : Dev nD) (t : Fin cfg0.N) (e : Fin 16) (he : e = grid0.coords t 0) (b : Fin 4) (r : Fin 128) (s : Fin 8) (l : Fin 128) :
    outC (grid0.coords t) (iblk m c 0 t) (iblk m c 1 t) (iblk m c 4 t) (iblk m c 5 t) (iblk m c 6 t)
        (ix3 0 (⟨1024 * b + 8 * r + s, by omega⟩ : Fin 4096) l)
      = REFC m c (ix3 e (⟨1024 * b + 8 * r + s, by omega⟩ : Fin 4096) l) := by
  rw [outC_at _ _ _ _ _ _ e he, blk_1]
  unfold REFC Cert.FfnRefIdeal.Stage.resC
  rw [Cert.FfnRefIdeal.Stage.gateC_at, Cert.FfnRefIdeal.Stage.timesC_at]
  refine congrArg (fun z : EReal => z * _) ?_
  exact Finset.sum_congr rfl fun (f : Fin 1024) _ => congrArg₂ (fun y z : EReal => y * z) (midC_eq m c t e he _ f)
    ((blk_6 m c t f _ e he).trans (Stage.layer_at _ e f _).symm)

/-- **The context result array** is the reference's term. -/
theorem finalC (c : Dev nD) : (dats m 0 c).arrAt 7 (cfgs 0).N = REFC m c := by
  refine (dats m 0 c).arrAt_eq_of_covers 7 _ (by decide +kernel) fun t _ y => ?_
  blk_simp
  rw [after0_7]
  frame_out
  idx_vars y
  have h := pointC m c t (grid0.coords t 0) rfl (⟨y1 / 1024, by omega⟩ : Fin 4) (⟨y1 % 1024 / 8, by omega⟩ : Fin 128) (⟨y1 % 8, by omega⟩ : Fin 8) y2
  rw [show (⟨1024 * (⟨y1 / 1024, by omega⟩ : Fin 4) + 8 * (⟨y1 % 1024 / 8, by omega⟩ : Fin 128) + (⟨y1 % 8, by omega⟩ : Fin 8),
    by dsimp only; omega⟩ : Fin 4096) = y1 from Fin.ext (by dsimp only; omega)] at h
  refine h.trans ?_
  blk_ext [idx t]

/-- The latent rows a point unpacks are the reference's rows of its expert. -/
theorem xeL_eq (c : Dev nD) (t : Fin cfg0.N) (e : Fin 16) (he : e = grid0.coords t 0) (r : Fin 1024) (k : Fin 1024) :
    xeL (iblk m c 2 t) (ix2 r k) = Cert.FfnRefIdeal.Stage.rowsL (argXL m c) (ix3 e r k) := by
  have hi : ∀ s : Fin 4, (⟨4096 * e + (⟨4 * r + s, by omega⟩ : Fin 4096), by dsimp only; omega⟩ : Fin 65536) = ⟨4096 * e + 4 * r + s, by omega⟩ :=
    fun s => Fin.ext (by dsimp only; omega)
  by_cases h : k.val < 512
  · obtain ⟨s, l, hk⟩ : ∃ (s : Fin 4) (l : Fin 128), k = (⟨128 * s + l, by omega⟩ : Fin 1024) :=
      ⟨⟨k / 128, by omega⟩, ⟨k % 128, by omega⟩, Fin.ext (by dsimp only; omega)⟩
    rw [hk, xeL_low, blk_2 m c t _ l e he, Cert.FfnRefIdeal.Stage.rowsL_low, hi]
  · obtain ⟨s, l, hk⟩ : ∃ (s : Fin 4) (l : Fin 128), k = (⟨512 + (128 * s + l), by omega⟩ : Fin 1024) :=
      ⟨⟨(k - 512) / 128, by omega⟩, ⟨k % 128, by omega⟩, Fin.ext (by dsimp only; omega)⟩
    rw [hk, xeL_high, blk_2 m c t _ l e he, Cert.FfnRefIdeal.Stage.rowsL_high, hi]

/-- A hidden activation is the reference's. -/
theorem midL_eq (c : Dev nD) (t : Fin cfg0.N) (e : Fin 16) (he : e = grid0.coords t 0) (r : Fin 1024) (f : Fin 1024) :
    midL (iblk m c 2 t) (iblk m c 4 t) (iblk m c 5 t) r f
      = Cert.FfnRefIdeal.Stage.actL (Cert.FfnRefIdeal.Stage.timesL (Cert.FfnRefIdeal.Stage.rowsL (argXL m c)) (Stage.layer (argWG m c)))
        (Cert.FfnRefIdeal.Stage.timesL (Cert.FfnRefIdeal.Stage.rowsL (argXL m c)) (Stage.layer (argWU m c))) (ix3 e r f) := by
  rw [Cert.FfnRefIdeal.Stage.actL_at, Cert.FfnRefIdeal.Stage.timesL_at, Cert.FfnRefIdeal.Stage.timesL_at]
  refine Eq.trans (congrArg₂ unit ?_ ?_) (unit_eq _ _)
  · exact Finset.sum_congr rfl fun (k : Fin 1024) _ => congrArg₂ (fun y z : EReal => y * z) (xeL_eq m c t e he r k)
      ((blk_4 m c t k f e he).trans (Stage.layer_at _ e k f).symm)
  · exact Finset.sum_congr rfl fun (k : Fin 1024) _ => congrArg₂ (fun y z : EReal => y * z) (xeL_eq m c t e he r k)
      ((blk_5 m c t k f e he).trans (Stage.layer_at _ e k f).symm)

/-- The reference's latent term over the kernel's arguments. -/
abbrev REFL (c : Dev nD) : FVec Ideal Cert.FfnRefIdeal.S16x8192x128 .f32 :=
  Cert.FfnRefIdeal.Stage.resL (argXL m c) (argGL m c) (argWG m c) (argWU m c) (argWD m c)

/-- **One entry of a latent block** is the reference's entry at its place. -/
theorem pointL (c : Dev nD) (t : Fin cfg0.N) (e : Fin 16) (he : e = grid0.coords t 0) (b : Fin 8) (r : Fin 128) (s : Fin 8) (l : Fin 128) :
    outL (grid0.coords t) (iblk m c 2 t) (iblk m c 3 t) (iblk m c 4 t) (iblk m c 5 t) (iblk m c 6 t)
        (ix3 0 (⟨1024 * b + 8 * r + s, by omega⟩ : Fin 8192) l)
      = REFL m c (ix3 e (⟨1024 * b + 8 * r + s, by omega⟩ : Fin 8192) l) := by
  rw [outL_at _ _ _ _ _ _ e he, blk_3]
  unfold REFL Cert.FfnRefIdeal.Stage.resL
  rw [Cert.FfnRefIdeal.Stage.gateL_at, Cert.FfnRefIdeal.Stage.timesL_at]
  refine congrArg (fun z : EReal => z * _) ?_
  exact Finset.sum_congr rfl fun (f : Fin 1024) _ => congrArg₂ (fun y z : EReal => y * z) (midL_eq m c t e he _ f)
    ((blk_6 m c t f _ e he).trans (Stage.layer_at _ e f _).symm)

/-- **The latent result array** is the reference's term. -/
theorem finalL (c : Dev nD) : (dats m 0 c).arrAt 8 (cfgs 0).N = REFL m c := by
  refine (dats m 0 c).arrAt_eq_of_covers 8 _ (by decide +kernel) fun t _ y => ?_
  blk_simp
  rw [after0_8]
  frame_out
  idx_vars y
  have h := pointL m c t (grid0.coords t 0) rfl (⟨y1 / 1024, by omega⟩ : Fin 8) (⟨y1 % 1024 / 8, by omega⟩ : Fin 128) (⟨y1 % 8, by omega⟩ : Fin 8) y2
  rw [show (⟨1024 * (⟨y1 / 1024, by omega⟩ : Fin 8) + 8 * (⟨y1 % 1024 / 8, by omega⟩ : Fin 128) + (⟨y1 % 8, by omega⟩ : Fin 8),
    by dsimp only; omega⟩ : Fin 8192) = y1 from Fin.ext (by dsimp only; omega)] at h
  refine h.trans ?_
  blk_ext [idx t]

end Cert.FfnIdeal.Fold
end
-- ==== Proof.FfnClaims.lean ====
/- The feed-forward layer's claims, from its run and its values. -/
module

public import proofs.«01_k».proof.Proof.FfnArray
public import proofs.«01_k».proof.Proof.Gen.Ffn.Frame
public import proofs.«01_k».proof.Defs
public import Idealize.ShloMosaic.Adequacy

@[expose] public section

set_option maxRecDepth 65536

noncomputable section

namespace Cert.Proof

open Idealize.ShloMosaic Idealize.SL.Sem

/-- The idealized kernel runs and leaves its arguments alone. -/
theorem frame_ffnIdeal : Cert.quiescent_FfnIdeal := fun m ρ _ => Cert.FfnIdeal.Fold.frame (F := Ideal) m ρ

/-- The kernel's body table is the idealized kernel's: the two programs have the same text. -/
theorem ffn_table : Cert.Ffn.defs₀ (F := Bits) = Cert.FfnIdeal.defs₀ (F := Bits) := by
  unfold Cert.Ffn.defs₀ Cert.FfnIdeal.defs₀
  refine congrArg Defs.onTc ?_
  funext a b
  match a, b with
  | 0, (t, s) => rfl
  | ⟨_ + 1, h⟩, _ => exact absurd h (Nat.not_lt.2 (Nat.le_add_left _ _))

/-- So are its bodies and pipelines. -/
theorem ffn_defs : Cert.Ffn.defs (F := Bits) = Cert.FfnIdeal.defs (F := Bits) := congrArg (Pipeline.defs Cert.FfnIdeal.pcfgs) ffn_table

/-- The kernel's run is the same run, at the machine's numbers. -/
theorem frame_ffn : Cert.quiescent_Ffn := fun m ρ _ => by
  rw [ffn_defs]
  exact Cert.FfnIdeal.Fold.frame (F := Bits) m ρ

/-- The reference runs and leaves its arguments alone. -/
theorem frame_ffnRef : Cert.quiescent_FfnRefIdeal := fun m ρ _ =>
  (θ_run Cert.FfnRefIdeal.defs _ _).mono (fun r h => ⟨fun c => (h c).2.2, sem_eq_zero_of_no_sems (by decide) r.2⟩)
    (Cert.FfnRefIdeal.Value.run (F := Ideal) m ρ)

/-- The kernel and the reference end with the same two arrays. -/
theorem algebraic_ffn : Cert.algebraic_FfnIdeal_FfnRefIdeal := by
  pair_intro
  · run_from Cert.FfnIdeal.Fold.run_main m g
  · run_from Cert.FfnRefIdeal.Stage.run m' g'
    · exact (Cert.FfnIdeal.Fold.finalC m c).symm
    · exact (Cert.FfnIdeal.Fold.finalL m c).symm

end Cert.Proof
end
-- ==== Proof.RowNorm.lean ====
/- The root mean square factor the projections divide by. -/
module

public import Idealize.ShloMosaic.Lib.Pipeline.ValueKit

@[expose] public section

noncomputable section

namespace Cert.RowNorm

open Idealize.ShloMosaic

/-- The factor that divides by a root mean square, from the sum of squares `s` over the count of entries whose bits are `n`. -/
def inv (n : BitVec 32) (s : EReal) : EReal := Ideal.rsqrt (Ideal.div s (Ideal.ofBits .f32 n) + Ideal.ofBits .f32 0x358637BD#32)

end Cert.RowNorm
end
-- ==== Proof.QkvFold.lean ====
/- What one point of the context projection leaves in its five result blocks, read at an entry. -/
module

public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.RowNorm
public import Idealize.ShloMosaic.Lib.Pipeline.ValueKit

@[expose] public section

set_option maxRecDepth 65536

noncomputable section

namespace Cert.QkvIdeal.Fold

open Idealize.ShloMosaic Idealize.ShloMosaic.TcCoe Idealize.SL.Sem
open Cert.RowNorm
open Cert.QkvIdeal Cert.QkvIdeal.Gen

/-- The product of the modulated rows and the weight at an entry. -/
theorem prod_at (md : Vec Ideal S1x1x6x1024 .f32) (x : Vec Ideal S1024x1024 .f32) (n : Vec Ideal S1x1024 .f32) (w : Vec Ideal S1024x1536 .bf16)
    (r : Fin 1024) (j : Fin 1536) :
    k0_pay9 md x n w (ix2 r j) = ∑ k : Fin 1024, (x (ix2 r k) * inv 0x44800000#32 (∑ l : Fin 1024, x (ix2 r l) * x (ix2 r l))
      * (n (ix2 0 k) * (1 + md (ix4 0 0 1 k))) + md (ix4 0 0 0 k)) * w (ix2 k j) := by
  pointwise [k0_pay9]
  rfl

/-- The weight's rounded copy at an entry. -/
theorem word_at (w : Vec Ideal S1024x1536 .f32) (k : Fin 1024) (j : Fin 1536) : k0_pay8 w (ix2 k j) = w (ix2 k j) := by
  pointwise [k0_pay8]

/-- The head of a product at columns `o` to `o + 127`, normalised, at an entry. -/
def head (T : FVec Ideal S1024x1536 .f32) (g : Vec Ideal S1x128 .f32) (o : ℕ) (ho : o + 128 ≤ 1536) (r : Fin 1024) (d : Fin 128) : EReal :=
  T (ix2 r ⟨o + d, by omega⟩) * inv 0x43000000#32 (∑ l : Fin 128, T (ix2 r ⟨o + l, by omega⟩) * T (ix2 r ⟨o + l, by omega⟩)) * g (ix2 0 d)

/-- The stores of the queries' heads, each the normalised head at its columns: the first, -/
theorem q0_at (md : Vec Ideal S1x1x6x1024 .f32) (x : Vec Ideal S1024x1024 .f32) (n : Vec Ideal S1x1024 .f32) (w : Vec Ideal S1024x1536 .bf16)
    (g : Vec Ideal S1x128 .f32) (r : Fin 1024) (d : Fin 128) :
    k0_pay13 (k0_pay10 md x n w) (k0_pay11 g) (k0_pay12 md x n w) (Ideal.ofBits .f32 0x43000000#32) (ix2 r d) = head (k0_pay9 md x n w) g 0 (by decide) r d := by
  generalize hT : k0_pay9 md x n w = T
  have h : k0_pay10 md x n w = extractStridedSlice S1024x128 ![0, 0] T slices_S1024x1536_o0_0_S1024x128 := by rw [← hT]; rfl
  unfold k0_pay12
  rw [h]
  unfold head
  pointwise [k0_pay13, k0_pay11]
  rfl

/-- the one at column 128, -/
theorem q1_at (T : FVec Ideal S1024x1536 .f32) (g : Vec Ideal S1x128 .f32) (r : Fin 1024) (d : Fin 128) :
    k0_pay14 T g (ix2 r d) = head T g 128 (by decide) r d := by
  unfold head
  pointwise [k0_pay14]
  rfl

/-- the one at column 256, -/
theorem q2_at (T : FVec Ideal S1024x1536 .f32) (g : Vec Ideal S1x128 .f32) (r : Fin 1024) (d : Fin 128) :
    k0_pay16 (k0_pay15 T g) (ix2 r d) = head T g 256 (by decide) r d := by
  unfold head
  pointwise [k0_pay15, k0_pay16]
  rfl

/-- the one at column 384, -/
theorem q3_at (T : FVec Ideal S1024x1536 .f32) (g : Vec Ideal S1x128 .f32) (r : Fin 1024) (d : Fin 128) :
    k0_pay17 T g (ix2 r d) = head T g 384 (by decide) r d := by
  unfold head
  pointwise [k0_pay17]
  rfl

/-- the one at column 512, -/
theorem q4_at (T : FVec Ideal S1024x1536 .f32) (g : Vec Ideal S1x128 .f32) (r : Fin 1024) (d : Fin 128) :
    k0_pay18 T g (ix2 r d) = head T g 512 (by decide) r d := by
  unfold head
  pointwise [k0_pay18]
  rfl

/-- the one at column 640, -/
theorem q5_at (T : FVec Ideal S1024x1536 .f32) (g : Vec Ideal S1x128 .f32) (r : Fin 1024) (d : Fin 128) :
    k0_pay21 (k0_pay19 T) (k0_pay20 g) (ix2 r d) = head T g 640 (by decide) r d := by
  unfold head
  pointwise [k0_pay19, k0_pay20, k0_pay21]
  rfl

/-- the one at column 768, -/
theorem q6_at (T : FVec Ideal S1024x1536 .f32) (g : Vec Ideal S1x128 .f32) (r : Fin 1024) (d : Fin 128) :
    k0_pay22 T g (ix2 r d) = head T g 768 (by decide) r d := by
  unfold head
  pointwise [k0_pay22]
  rfl

/-- the one at column 896, -/
theorem q7_at (T : FVec Ideal S1024x1536 .f32) (g : Vec Ideal S1x128 .f32) (r : Fin 1024) (d : Fin 128) :
    k0_pay26 (k0_pay23 T) (k0_pay24 g) (k0_pay25 T) (ix2 r d) = head T g 896 (by decide) r d := by
  unfold head
  pointwise [k0_pay23, k0_pay24, k0_pay25, k0_pay26]
  rfl

/-- the keys' at column 1024, -/
theorem k0_at (T : FVec Ideal S1024x1536 .f32) (g : Vec Ideal S1x128 .f32) (r : Fin 1024) (d : Fin 128) :
    k0_pay29 T g (ix2 r d) = head T g 1024 (by decide) r d := by
  unfold head
  pointwise [k0_pay27, k0_pay29]
  rfl

/-- the keys' at column 1152, -/
theorem k1_at (T : FVec Ideal S1024x1536 .f32) (g : Vec Ideal S1x128 .f32) (r : Fin 1024) (d : Fin 128) :
    k0_pay3 (k0_pay30 g) (k0_pay31 T) (ix2 r d) = head T g 1152 (by decide) r d := by
  unfold head
  pointwise [k0_pay1, k0_pay3, k0_pay30, k0_pay31]
  rfl

/-- the cache's keys' at column 1024. -/
theorem c0_at (T : FVec Ideal S1024x1536 .f32) (g : Vec Ideal S1x128 .f32) (r : Fin 1024) (d : Fin 128) :
    k0_pay28 T g (ix3 r 0 d) = head T g 1024 (by decide) r d := by
  unfold head
  pointwise [k0_pay27, k0_pay28]
  rfl

/-- the cache's keys' at column 1152. -/
theorem c1_at (T : FVec Ideal S1024x1536 .f32) (g : Vec Ideal S1x128 .f32) (r : Fin 1024) (d : Fin 128) :
    k0_pay2 (k0_pay30 g) (k0_pay31 T) (ix3 r 0 d) = head T g 1152 (by decide) r d := by
  unfold head
  pointwise [k0_pay1, k0_pay2, k0_pay30, k0_pay31]
  rfl

/-- An entry of a stored head, from the head at its own columns. -/
theorem of_piece (P : Vec Ideal S1024x128 .bf16) (T : FVec Ideal S1024x1536 .f32) (g : Vec Ideal S1x128 .f32) (o o' : ℕ) (ho : o + 128 ≤ 1536) (ho' : o' + 128 ≤ 1536)
    (hP : ∀ (r : Fin 1024) (d : Fin 128), P (ix2 r d) = head T g o ho r d) (r : Fin 1024) (d : Fin 128) (y : S1024x128.Idx)
    (hr : r.val = (y 0).val) (hd : o' + d.val = o + (y 1).val) (hy : (y 1).val < 128) (hm : o % 128 = 0) (hm' : o' % 128 = 0) :
    P y = head T g o' ho' r d := by
  have h : o = o' := by omega
  subst h
  rw [← hP r d]
  exact congrArg P (funext fun a => by
    match a with
    | 0 => exact Fin.ext hr.symm
    | 1 => exact Fin.ext (by show (y 1).val = d.val; omega))

/-- The same of a head stored for the cache. -/
theorem of_cache (P : Vec Ideal S1024x1x128 .f32) (T : FVec Ideal S1024x1536 .f32) (g : Vec Ideal S1x128 .f32) (o o' : ℕ) (ho : o + 128 ≤ 1536) (ho' : o' + 128 ≤ 1536)
    (hP : ∀ (r : Fin 1024) (d : Fin 128), P (ix3 r 0 d) = head T g o ho r d) (r : Fin 1024) (d : Fin 128) (y : S1024x1x128.Idx)
    (hr : r.val = (y 0).val) (hd : d.val = (y 2).val) (h : o = o') :
    P y = head T g o' ho' r d := by
  subst h
  rw [← hP r d]
  exact congrArg P (funext fun a => by
    match a with
    | 0 => exact Fin.ext hr.symm
    | 1 => exact Fin.ext (by have h : (y 1).val < 1 := (y 1).isLt; show (y 1).val = 0; omega)
    | 2 => exact Fin.ext hd.symm)

/-- The block of queries. -/
def outQ (md : Vec Ideal S1x1x6x1024 .f32) (x : Vec Ideal S1024x1024 .f32) (n : Vec Ideal S1x1024 .f32) (w : Vec Ideal S1024x1536 .bf16)
    (g : Vec Ideal S1x128 .f32) : Vec Ideal S1024x1024 .bf16 :=
  View.canon [⟨Rect.unit ![0, 896] ![1024, 128] inb_S1024x1024_S1024x128_0_896, k0_pay26 (k0_pay23 (k0_pay9 md x n w)) (k0_pay24 g) (k0_pay25 (k0_pay9 md x n w))⟩,
    ⟨Rect.unit ![0, 768] ![1024, 128] inb_S1024x1024_S1024x128_0_768, k0_pay22 (k0_pay9 md x n w) g⟩,
    ⟨Rect.unit ![0, 640] ![1024, 128] inb_S1024x1024_S1024x128_0_640, k0_pay21 (k0_pay19 (k0_pay9 md x n w)) (k0_pay20 g)⟩,
    ⟨Rect.unit ![0, 512] ![1024, 128] inb_S1024x1024_S1024x128_0_512, k0_pay18 (k0_pay9 md x n w) g⟩,
    ⟨Rect.unit ![0, 384] ![1024, 128] inb_S1024x1024_S1024x128_0_384, k0_pay17 (k0_pay9 md x n w) g⟩,
    ⟨Rect.unit ![0, 256] ![1024, 128] inb_S1024x1024_S1024x128_0_256, k0_pay16 (k0_pay15 (k0_pay9 md x n w) g)⟩,
    ⟨Rect.unit ![0, 128] ![1024, 128] inb_S1024x1024_S1024x128_0_128, k0_pay14 (k0_pay9 md x n w) g⟩,
    ⟨Rect.unit ![0, 0] ![1024, 128] inb_S1024x1024_S1024x128_0_0, k0_pay13 (k0_pay10 md x n w) (k0_pay11 g) (k0_pay12 md x n w) (Scalar.ofBits .f32 0x43000000#32)⟩]

/-- The block of queries at an entry. -/
theorem outQ_at (md : Vec Ideal S1x1x6x1024 .f32) (x : Vec Ideal S1024x1024 .f32) (n : Vec Ideal S1x1024 .f32) (w : Vec Ideal S1024x1536 .bf16)
    (g : Vec Ideal S1x128 .f32) (r : Fin 1024) (h : Fin 8) (d : Fin 128) :
    outQ md x n w g (ix2 r (⟨128 * h + d, by omega⟩ : Fin 1024)) = head (k0_pay9 md x n w) g (128 * h) (by omega) r d := by
  unfold outQ
  canon_tiles y e
  case piece0 => exact of_piece _ _ g 896 _ (by decide) (by omega) (q7_at _ g) r d y e0 (by have := e1; simp only [] at this; exact this) y1_lt (by decide) (by omega)
  case piece1 => exact of_piece _ _ g 768 _ (by decide) (by omega) (q6_at _ g) r d y e0 (by have := e1; simp only [] at this; exact this) y1_lt (by decide) (by omega)
  case piece2 => exact of_piece _ _ g 640 _ (by decide) (by omega) (q5_at _ g) r d y e0 (by have := e1; simp only [] at this; exact this) y1_lt (by decide) (by omega)
  case piece3 => exact of_piece _ _ g 512 _ (by decide) (by omega) (q4_at _ g) r d y e0 (by have := e1; simp only [] at this; exact this) y1_lt (by decide) (by omega)
  case piece4 => exact of_piece _ _ g 384 _ (by decide) (by omega) (q3_at _ g) r d y e0 (by have := e1; simp only [] at this; exact this) y1_lt (by decide) (by omega)
  case piece5 => exact of_piece _ _ g 256 _ (by decide) (by omega) (q2_at _ g) r d y e0 (by have := e1; simp only [] at this; exact this) y1_lt (by decide) (by omega)
  case piece6 => exact of_piece _ _ g 128 _ (by decide) (by omega) (q1_at _ g) r d y e0 (by have := e1; simp only [] at this; exact this) y1_lt (by decide) (by omega)
  case piece7 => exact of_piece _ _ g 0 _ (by decide) (by omega) (q0_at md x n w g) r d y e0 (by have := e1; simp only [] at this; exact this.trans (Nat.zero_add _).symm) y1_lt (by decide) (by omega)

/-- The block of keys. -/
def outK (T : FVec Ideal S1024x1536 .f32) (g : Vec Ideal S1x128 .f32) : Vec Ideal S1024x256 .bf16 :=
  View.canon [⟨Rect.unit ![0, 128] ![1024, 128] inb_S1024x256_S1024x128_0_128, k0_pay3 (k0_pay30 g) (k0_pay31 T)⟩,
    ⟨Rect.unit ![0, 0] ![1024, 128] inb_S1024x256_S1024x128_0_0, k0_pay29 T g⟩]

/-- The block of keys at an entry. -/
theorem outK_at (T : FVec Ideal S1024x1536 .f32) (g : Vec Ideal S1x128 .f32) (r : Fin 1024) (h : Fin 2) (d : Fin 128) :
    outK T g (ix2 r (⟨128 * h + d, by omega⟩ : Fin 256)) = head T g (1024 + 128 * h) (by omega) r d := by
  unfold outK
  canon_tiles y e
  case piece0 => exact of_piece _ _ g 1152 _ (by decide) (by omega) (k1_at _ g) r d y e0 (by have h' : 128 * h.val + d.val = 128 + (y 1).val := e1; omega) y1_lt (by decide) (by omega)
  case piece1 => exact of_piece _ _ g 1024 _ (by decide) (by omega) (k0_at _ g) r d y e0 (by have h' : 128 * h.val + d.val = (y 1).val := e1; omega) y1_lt (by decide) (by omega)

/-- The block of the cache's keys. -/
def outC (T : FVec Ideal S1024x1536 .f32) (g : Vec Ideal S1x128 .f32) : Vec Ideal S1024x2x128 .f32 :=
  View.canon [⟨Rect.unit ![0, 1, 0] ![1024, 1, 128] inb_S1024x2x128_S1024x1x128_0_1_0, k0_pay2 (k0_pay30 g) (k0_pay31 T)⟩,
    ⟨Rect.unit ![0, 0, 0] ![1024, 1, 128] inb_S1024x2x128_S1024x1x128_0_0_0, k0_pay28 T g⟩]

/-- The block of the cache's keys at an entry. -/
theorem outC_at (T : FVec Ideal S1024x1536 .f32) (g : Vec Ideal S1x128 .f32) (r : Fin 1024) (h : Fin 2) (d : Fin 128) :
    outC T g (ix3 r h d) = head T g (1024 + 128 * h) (by omega) r d := by
  unfold outC
  canon_tiles y e
  case piece0 => exact of_cache _ _ g 1152 _ (by decide) (by omega) (c1_at _ g) r d y e0 e2 (by have h' : h.val = 1 + (y 1).val := e1; omega)
  case piece1 => exact of_cache _ _ g 1024 _ (by decide) (by omega) (c0_at _ g) r d y e0 e2 (by have h' : h.val = (y 1).val := e1; omega)

/-- The block of values at an entry. -/
theorem outV_at (T : FVec Ideal S1024x1536 .f32) (r : Fin 1024) (j : Fin 256) :
    k0_pay5 T (ix2 r j) = T (ix2 r ⟨1280 + j, by omega⟩) := by
  pointwise [k0_pay5, k0_pay4]

/-- The block of the cache's values. -/
def outW (T : FVec Ideal S1024x1536 .f32) : Vec Ideal S1024x2x128 .f32 :=
  View.canon [⟨Rect.unit ![0, 1, 0] ![1024, 1, 128] inb_S1024x2x128_S1024x1x128_0_1_0, k0_pay7 T⟩,
    ⟨Rect.unit ![0, 0, 0] ![1024, 1, 128] inb_S1024x2x128_S1024x1x128_0_0_0, k0_pay6 T⟩]

/-- The block of the cache's values at an entry. -/
theorem outW_at (T : FVec Ideal S1024x1536 .f32) (r : Fin 1024) (h : Fin 2) (d : Fin 128) :
    outW T (ix3 r h d) = T (ix2 r (⟨1280 + 128 * h + d, by omega⟩ : Fin 1536)) := by
  unfold outW
  canon_tiles y e
  all_goals
    idx_vars y
    pointwise [k0_pay6, k0_pay7, k0_pay4]
    blk_point []

end Cert.QkvIdeal.Fold
end
-- ==== Proof.QkvRef.lean ====
/- The context projection reference's five results in named stages, each read at an index. -/
module

public import proofs.«01_k».proof.Proof.Gen.QkvRefIdeal.Run
public import proofs.«01_k».proof.Proof.RowNorm

@[expose] public section

set_option maxRecDepth 65536

noncomputable section

namespace Cert.QkvRefIdeal.Stage

open Idealize.ShloMosaic Idealize.ShloMosaic.TcCoe Idealize.SL.Sem
open Cert.RowNorm
open Cert.QkvRefIdeal Cert.QkvRefIdeal.Gen Cert.QkvRefIdeal.Value

/-- The normalised and modulated rows. -/
def hid (x : FVec Ideal S16x256x1024 .f32) (md : FVec Ideal S2x8x6x1024 .f32) (n : FVec Ideal S2x1024 .f32) : FVec Ideal S16x256x1024 .f32 :=
  addf (mulf (mulf (mulf x (broadcastInDim S16x256x1024 ![0, 1, 2] bcast_S16x256x1_S16x256x1024_0_1_2
    (Host.rsqrt (addf (Host.divf (broadcastInDim S16x256x1 ![0, 1] bcast_S16x256_S16x256x1_0_1
      (Host.reduceAdd (mulf x x) (constant S_ .f32 0x00000000#32) reducesTo_S16x256x1024_S16x256_d2 h_S_))
        (broadcastInDim S16x256x1 ![] bcast_S_S16x256x1 (constant S_ .f32 0x44800000#32)))
      (broadcastInDim S16x256x1 ![] bcast_S_S16x256x1 (constant S_ .f32 0x358637BD#32))))))
    (broadcastInDim S16x256x1024 ![0, 1, 2] bcast_S1x1x1024_S16x256x1024_0_1_2 (broadcastInDim S1x1x1024 ![2] bcast_S1024_S1x1x1024_2
      (shapeCast _ (extractStridedSlice S1x1024 ![0, 0] n slices_S2x1024_S1x1024_0_0) shapeCasts_S1x1024_S1024))))
    (broadcastInDim S16x256x1024 ![0, 1, 2] bcast_S1x1x1024_S16x256x1024_0_1_2 (broadcastInDim S1x1x1024 ![2] bcast_S1024_S1x1x1024_2
      (addf (broadcastInDim S1024 ![] bcast_S_S1024 (constant S_ .f32 0x3F800000#32))
        (shapeCast _ (extractStridedSlice S1x1x1x1024 ![0, 0, 1, 0] md slices_S2x8x6x1024_S1x1x1x1024_0_0_1_0) shapeCasts_S1x1x1x1024_S1024)))))
    (broadcastInDim S16x256x1024 ![0, 1, 2] bcast_S1x1x1024_S16x256x1024_0_1_2 (broadcastInDim S1x1x1024 ![2] bcast_S1024_S1x1x1024_2
      (shapeCast _ (extractStridedSlice S1x1x1x1024 ![0, 0, 0, 0] md slices_S2x8x6x1024_S1x1x1x1024_0_0_0_0) shapeCasts_S1x1x1x1024_S1024)))

/-- The rows times the weight. -/
def proj (h : FVec Ideal S16x256x1024 .f32) (w : FVec Ideal S1x1024x1536 .f32) : FVec Ideal S16x256x1536 .f32 :=
  Host.dotGeneral dot_S16x256x1024_S1024x1536_S16x256x1536_2_0_01_1_n_n none h (shapeCast _ w shapeCasts_S1x1024x1536_S1024x1536)

/-- The queries' heads before normalisation. -/
def rawQ (p : FVec Ideal S16x256x1536 .f32) : FVec Ideal S16x256x8x128 .f32 :=
  shapeCast _ (extractStridedSlice S16x256x1024 ![0, 0, 0] p slices_S16x256x1536_S16x256x1024_0_0_0) shapeCasts_S16x256x1024_S16x256x8x128

/-- The keys' heads before normalisation. -/
def rawK (p : FVec Ideal S16x256x1536 .f32) : FVec Ideal S16x256x2x128 .f32 :=
  shapeCast _ (extractStridedSlice S16x256x256 ![0, 0, 1024] p slices_S16x256x1536_S16x256x256_0_0_1024) shapeCasts_S16x256x256_S16x256x2x128

/-- The values' heads. -/
def rawV (p : FVec Ideal S16x256x1536 .f32) : FVec Ideal S16x256x2x128 .f32 :=
  shapeCast _ (extractStridedSlice S16x256x256 ![0, 0, 1280] p slices_S16x256x1536_S16x256x256_0_0_1280) shapeCasts_S16x256x256_S16x256x2x128

/-- Eight heads normalised. -/
def normQ (q : FVec Ideal S16x256x8x128 .f32) (g : FVec Ideal S1x128 .f32) : FVec Ideal S16x256x8x128 .f32 :=
  mulf (mulf q (broadcastInDim S16x256x8x128 ![0, 1, 2, 3] bcast_S16x256x8x1_S16x256x8x128_0_1_2_3
    (Host.rsqrt (addf (Host.divf (broadcastInDim S16x256x8x1 ![0, 1, 2] bcast_S16x256x8_S16x256x8x1_0_1_2
      (Host.reduceAdd (mulf q q) (constant S_ .f32 0x00000000#32) reducesTo_S16x256x8x128_S16x256x8_d3 h_S_))
        (broadcastInDim S16x256x8x1 ![] bcast_S_S16x256x8x1 (constant S_ .f32 0x43000000#32)))
      (broadcastInDim S16x256x8x1 ![] bcast_S_S16x256x8x1 (constant S_ .f32 0x358637BD#32))))))
    (broadcastInDim S16x256x8x128 ![0, 1, 2, 3] bcast_S1x1x1x128_S16x256x8x128_0_1_2_3 (broadcastInDim S1x1x1x128 ![3] bcast_S128_S1x1x1x128_3
      (shapeCast _ g shapeCasts_S1x128_S128)))

/-- Two heads normalised. -/
def normK (q : FVec Ideal S16x256x2x128 .f32) (g : FVec Ideal S1x128 .f32) : FVec Ideal S16x256x2x128 .f32 :=
  mulf (mulf q (broadcastInDim S16x256x2x128 ![0, 1, 2, 3] bcast_S16x256x2x1_S16x256x2x128_0_1_2_3
    (Host.rsqrt (addf (Host.divf (broadcastInDim S16x256x2x1 ![0, 1, 2] bcast_S16x256x2_S16x256x2x1_0_1_2
      (Host.reduceAdd (mulf q q) (constant S_ .f32 0x00000000#32) reducesTo_S16x256x2x128_S16x256x2_d3 h_S_))
        (broadcastInDim S16x256x2x1 ![] bcast_S_S16x256x2x1 (constant S_ .f32 0x43000000#32)))
      (broadcastInDim S16x256x2x1 ![] bcast_S_S16x256x2x1 (constant S_ .f32 0x358637BD#32))))))
    (broadcastInDim S16x256x2x128 ![0, 1, 2, 3] bcast_S1x1x1x128_S16x256x2x128_0_1_2_3 (broadcastInDim S1x1x1x128 ![3] bcast_S128_S1x1x1x128_3
      (shapeCast _ g shapeCasts_S1x128_S128)))

/-- The queries as rows, -/
def resQ (x : FVec Ideal S16x256x1024 .f32) (md : FVec Ideal S2x8x6x1024 .f32) (n : FVec Ideal S2x1024 .f32) (w : FVec Ideal S1x1024x1536 .f32)
    (g : FVec Ideal S1x128 .f32) : FVec Ideal S4096x1024 .bf16 :=
  truncf .bf16 (shapeCast _ (normQ (rawQ (proj (hid x md n) w)) g) shapeCasts_S16x256x8x128_S4096x1024) bitsLt_bf16_f32

/-- the keys, -/
def resK (x : FVec Ideal S16x256x1024 .f32) (md : FVec Ideal S2x8x6x1024 .f32) (n : FVec Ideal S2x1024 .f32) (w : FVec Ideal S1x1024x1536 .f32)
    (g : FVec Ideal S1x128 .f32) : FVec Ideal S4096x256 .bf16 :=
  truncf .bf16 (shapeCast _ (normK (rawK (proj (hid x md n) w)) g) shapeCasts_S16x256x2x128_S4096x256) bitsLt_bf16_f32

/-- the values, -/
def resV (x : FVec Ideal S16x256x1024 .f32) (md : FVec Ideal S2x8x6x1024 .f32) (n : FVec Ideal S2x1024 .f32) (w : FVec Ideal S1x1024x1536 .f32) :
    FVec Ideal S4096x256 .bf16 :=
  truncf .bf16 (shapeCast _ (rawV (proj (hid x md n) w)) shapeCasts_S16x256x2x128_S4096x256) bitsLt_bf16_f32

/-- the cache's keys -/
def newK (x : FVec Ideal S16x256x1024 .f32) (md : FVec Ideal S2x8x6x1024 .f32) (n : FVec Ideal S2x1024 .f32) (w : FVec Ideal S1x1024x1536 .f32)
    (g : FVec Ideal S1x128 .f32) : FVec Ideal S16x1x256x2x128 .f32 :=
  broadcastInDim S16x1x256x2x128 ![0, 2, 3, 4] bcast_S16x256x2x128_S16x1x256x2x128_0_2_3_4 (normK (rawK (proj (hid x md n) w)) g)

/-- and the cache's values. -/
def newV (x : FVec Ideal S16x256x1024 .f32) (md : FVec Ideal S2x8x6x1024 .f32) (n : FVec Ideal S2x1024 .f32) (w : FVec Ideal S1x1024x1536 .f32) :
    FVec Ideal S16x1x256x2x128 .f32 :=
  broadcastInDim S16x1x256x2x128 ![0, 2, 3, 4] bcast_S16x256x2x128_S16x1x256x2x128_0_2_3_4 (rawV (proj (hid x md n) w))

/-- The modulated rows at an entry. -/
theorem hid_at (x : FVec Ideal S16x256x1024 .f32) (md : FVec Ideal S2x8x6x1024 .f32) (n : FVec Ideal S2x1024 .f32) (b : Fin 16) (r : Fin 256) (k : Fin 1024) :
    hid x md n (ix3 b r k) = x (ix3 b r k) * inv 0x44800000#32 (∑ l : Fin 1024, x (ix3 b r l) * x (ix3 b r l)) * n (ix2 0 k)
      * (1 + md (ix4 0 0 1 k)) + md (ix4 0 0 0 k) := by
  pointwise [hid]
  rfl

/-- The product at an entry. -/
theorem proj_at (h : FVec Ideal S16x256x1024 .f32) (w : FVec Ideal S1x1024x1536 .f32) (b : Fin 16) (r : Fin 256) (j : Fin 1536) :
    proj h w (ix3 b r j) = ∑ k : Fin 1024, h (ix3 b r k) * w (ix3 0 k j) := by
  pointwise [proj]

/-- The queries' heads at an entry, -/
theorem rawQ_at (p : FVec Ideal S16x256x1536 .f32) (b : Fin 16) (r : Fin 256) (h : Fin 8) (d : Fin 128) :
    rawQ p (ix4 b r h d) = p (ix3 b r ⟨128 * h + d, by omega⟩) := by
  pointwise [rawQ]
  exact congrArg (fun a => p (ix3 b r a)) (Fin.ext (by dsimp only; omega))

/-- the keys' -/
theorem rawK_at (p : FVec Ideal S16x256x1536 .f32) (b : Fin 16) (r : Fin 256) (h : Fin 2) (d : Fin 128) :
    rawK p (ix4 b r h d) = p (ix3 b r ⟨1024 + 128 * h + d, by omega⟩) := by
  pointwise [rawK]
  exact congrArg (fun a => p (ix3 b r a)) (Fin.ext (by dsimp only; omega))

/-- and the values'. -/
theorem rawV_at (p : FVec Ideal S16x256x1536 .f32) (b : Fin 16) (r : Fin 256) (h : Fin 2) (d : Fin 128) :
    rawV p (ix4 b r h d) = p (ix3 b r ⟨1280 + 128 * h + d, by omega⟩) := by
  pointwise [rawV]
  exact congrArg (fun a => p (ix3 b r a)) (Fin.ext (by dsimp only; omega))

/-- A normalised query at an entry, -/
theorem normQ_at (q : FVec Ideal S16x256x8x128 .f32) (g : FVec Ideal S1x128 .f32) (b : Fin 16) (r : Fin 256) (h : Fin 8) (d : Fin 128) :
    normQ q g (ix4 b r h d) = q (ix4 b r h d) * inv 0x43000000#32 (∑ e : Fin 128, q (ix4 b r h e) * q (ix4 b r h e)) * g (ix2 0 d) := by
  pointwise [normQ]
  rfl

/-- and a normalised key. -/
theorem normK_at (q : FVec Ideal S16x256x2x128 .f32) (g : FVec Ideal S1x128 .f32) (b : Fin 16) (r : Fin 256) (h : Fin 2) (d : Fin 128) :
    normK q g (ix4 b r h d) = q (ix4 b r h d) * inv 0x43000000#32 (∑ e : Fin 128, q (ix4 b r h e) * q (ix4 b r h e)) * g (ix2 0 d) := by
  pointwise [normK]
  rfl

/-- A row's number is 256 times its request's, plus its place in it. -/
theorem resQ_at (x : FVec Ideal S16x256x1024 .f32) (md : FVec Ideal S2x8x6x1024 .f32) (n : FVec Ideal S2x1024 .f32) (w : FVec Ideal S1x1024x1536 .f32)
    (g : FVec Ideal S1x128 .f32) (b : Fin 16) (r : Fin 256) (h : Fin 8) (d : Fin 128) :
    resQ x md n w g (ix2 (⟨256 * b + r, by omega⟩ : Fin 4096) (⟨128 * h + d, by omega⟩ : Fin 1024)) = normQ (rawQ (proj (hid x md n) w)) g (ix4 b r h d) := by
  pointwise [resQ]

/-- The keys' rows, -/
theorem resK_at (x : FVec Ideal S16x256x1024 .f32) (md : FVec Ideal S2x8x6x1024 .f32) (n : FVec Ideal S2x1024 .f32) (w : FVec Ideal S1x1024x1536 .f32)
    (g : FVec Ideal S1x128 .f32) (b : Fin 16) (r : Fin 256) (h : Fin 2) (d : Fin 128) :
    resK x md n w g (ix2 (⟨256 * b + r, by omega⟩ : Fin 4096) (⟨128 * h + d, by omega⟩ : Fin 256)) = normK (rawK (proj (hid x md n) w)) g (ix4 b r h d) := by
  pointwise [resK]

/-- the values' rows, -/
theorem resV_at (x : FVec Ideal S16x256x1024 .f32) (md : FVec Ideal S2x8x6x1024 .f32) (n : FVec Ideal S2x1024 .f32) (w : FVec Ideal S1x1024x1536 .f32)
    (b : Fin 16) (r : Fin 256) (h : Fin 2) (d : Fin 128) :
    resV x md n w (ix2 (⟨256 * b + r, by omega⟩ : Fin 4096) (⟨128 * h + d, by omega⟩ : Fin 256)) = rawV (proj (hid x md n) w) (ix4 b r h d) := by
  pointwise [resV]

/-- the cache's keys -/
theorem newK_at (x : FVec Ideal S16x256x1024 .f32) (md : FVec Ideal S2x8x6x1024 .f32) (n : FVec Ideal S2x1024 .f32) (w : FVec Ideal S1x1024x1536 .f32)
    (g : FVec Ideal S1x128 .f32) (b : Fin 16) (r : Fin 256) (h : Fin 2) (d : Fin 128) :
    newK x md n w g (ix5 b 0 r h d) = normK (rawK (proj (hid x md n) w)) g (ix4 b r h d) := by
  pointwise [newK]

/-- and its values. -/
theorem newV_at (x : FVec Ideal S16x256x1024 .f32) (md : FVec Ideal S2x8x6x1024 .f32) (n : FVec Ideal S2x1024 .f32) (w : FVec Ideal S1x1024x1536 .f32)
    (b : Fin 16) (r : Fin 256) (h : Fin 2) (d : Fin 128) :
    newV x md n w (ix5 b 0 r h d) = rawV (proj (hid x md n) w) (ix4 b r h d) := by
  pointwise [newV]

open Cert.QkvRefIdeal.Gen in
/-- **The run**, its results at the named terms. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = resQ (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v66) = resK (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg5))
      ∧ r.2.mem ((c.tc : Thread nD τ).loc main_v68) = resV (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v69) = newK (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg5))
      ∧ r.2.mem ((c.tc : Thread nD τ).loc main_v70) = newV (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans rfl, (h c).2.1.trans rfl, (h c).2.2.1.trans rfl, (h c).2.2.2.1.trans rfl,
    (h c).2.2.2.2.1.trans rfl, (h c).2.2.2.2.2⟩) (Value.run (F := Ideal) m ρ)

end Cert.QkvRefIdeal.Stage
end
-- ==== Proof.QkvArray.lean ====
/- The context projection's five result arrays: each point's blocks read off the arguments, and every entry the reference's. -/
module

public import proofs.«01_k».proof.Proof.QkvFold
public import proofs.«01_k».proof.Proof.QkvRef

@[expose] public section

set_option maxRecDepth 65536

noncomputable section

namespace Cert.QkvIdeal.Fold

open Idealize.ShloMosaic Idealize.ShloMosaic.TcCoe Idealize.SL.Sem
open Cert.RowNorm
open Cert.QkvIdeal Cert.QkvIdeal.Gen
open Cert.QkvRefIdeal

variable (m : (ℓ : Loc nD τ sig) → Buf (Elt Ideal) ℓ)

/-- The windows' blocks by the grid's point, a band of 1024 rows. -/
theorem idx : ∀ t : Fin cfg0.N, win0_0.index t = ![t.val, 0]
    ∧ win0_1.index t = ![0, 0, 0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0, 0]
    ∧ win0_10.index t = ![t.val, 0, 0] :=
  (by decide +kernel : ∀ t : Fin grid0.N, _)

/-- Device `c`'s six argument arrays. -/
abbrev argX (c : Dev nD) : FVec Ideal S16x256x1024 .f32 := m ((c : Thread nD τ).loc main_arg0)
abbrev argM (c : Dev nD) : FVec Ideal S2x8x6x1024 .f32 := m ((c : Thread nD τ).loc main_arg1)
abbrev argN (c : Dev nD) : FVec Ideal S2x1024 .f32 := m ((c : Thread nD τ).loc main_arg2)
abbrev argW (c : Dev nD) : FVec Ideal S1x1024x1536 .f32 := m ((c : Thread nD τ).loc main_arg3)
abbrev argQ (c : Dev nD) : FVec Ideal S1x128 .f32 := m ((c : Thread nD τ).loc main_arg4)
abbrev argK (c : Dev nD) : FVec Ideal S1x128 .f32 := m ((c : Thread nD τ).loc main_arg5)

/-- The staged rows are the argument's, one below another. -/
theorem V_x (c : Dev nD) (b : Fin 16) (r : Fin 256) (k : Fin 1024) :
    (V m c main_v0 : FVec Ideal S4096x1024 .f32) (ix2 (⟨256 * b + r, by omega⟩ : Fin 4096) k) = argX m c (ix3 b r k) := by
  unfold V V0
  simp only [List.flatten_cons, List.flatten_nil, List.append_nil]
  after_results
  pointwise

/-- The staged gain is the argument's first row. -/
theorem V_n (c : Dev nD) (k : Fin 1024) : (V m c main_v3 : FVec Ideal S1x1024 .f32) (ix2 0 k) = argN m c (ix2 0 k) := by
  unfold V V0
  simp only [List.flatten_cons, List.flatten_nil, List.append_nil]
  after_results
  pointwise

/-- The staged weight is the argument's, -/
theorem V_w (c : Dev nD) (k : Fin 1024) (j : Fin 1536) : (V m c main_v4 : FVec Ideal S1024x1536 .f32) (ix2 k j) = argW m c (ix3 0 k j) := by
  unfold V V0
  simp only [List.flatten_cons, List.flatten_nil, List.append_nil]
  after_results
  pointwise

/-- the queries' staged gain -/
theorem V_qn (c : Dev nD) (d : Fin 128) : (V m c main_v6 : FVec Ideal S1x128 .f32) (ix2 0 d) = argQ m c (ix2 0 d) := by
  unfold V V0
  simp only [List.flatten_cons, List.flatten_nil, List.append_nil]
  after_results
  pointwise

/-- and the keys'. -/
theorem V_kn (c : Dev nD) (d : Fin 128) : (V m c main_v8 : FVec Ideal S1x128 .f32) (ix2 0 d) = argK m c (ix2 0 d) := by
  unfold V V0
  simp only [List.flatten_cons, List.flatten_nil, List.append_nil]
  after_results
  pointwise

/-- The rows' block at a point. -/
theorem blk_0 (c : Dev nD) (t : Fin cfg0.N) (r : Fin 1024) (k : Fin 1024) (b : Fin 16) (r' : Fin 256) (h : 1024 * t.val + r = 256 * b + r') :
    (iblk m c 0 t : Vec Ideal S1024x1024 .f32) (ix2 r k) = argX m c (ix3 b r' k) := by
  refine Eq.trans ?_ (V_x m c b r' k)
  blk_ext [iblk, idx t]

/-- The modulations' block holds the context's rows. -/
theorem blk_1 (c : Dev nD) (t : Fin cfg0.N) (a : Fin 6) (k : Fin 1024) :
    (iblk m c 1 t : Vec Ideal S1x1x6x1024 .f32) (ix4 0 0 a k) = argM m c (ix4 0 0 a k) := by
  blk_ext [iblk, V, idx t]

/-- The norm's gain. -/
theorem blk_2 (c : Dev nD) (t : Fin cfg0.N) (k : Fin 1024) :
    (iblk m c 2 t : Vec Ideal S1x1024 .f32) (ix2 0 k) = argN m c (ix2 0 k) := by
  refine Eq.trans ?_ (V_n m c k)
  blk_ext [iblk, idx t]

/-- The weight. -/
theorem blk_3 (c : Dev nD) (t : Fin cfg0.N) (k : Fin 1024) (j : Fin 1536) :
    (iblk m c 3 t : Vec Ideal S1024x1536 .f32) (ix2 k j) = argW m c (ix3 0 k j) := by
  refine Eq.trans ?_ (V_w m c k j)
  blk_ext [iblk, idx t]

/-- The queries' gain. -/
theorem blk_4 (c : Dev nD) (t : Fin cfg0.N) (d : Fin 128) :
    (iblk m c 4 t : Vec Ideal S1x128 .f32) (ix2 0 d) = argQ m c (ix2 0 d) := by
  refine Eq.trans ?_ (V_qn m c d)
  blk_ext [iblk, idx t]

/-- The keys' gain. -/
theorem blk_5 (c : Dev nD) (t : Fin cfg0.N) (d : Fin 128) :
    (iblk m c 5 t : Vec Ideal S1x128 .f32) (ix2 0 d) = argK m c (ix2 0 d) := by
  refine Eq.trans ?_ (V_kn m c d)
  blk_ext [iblk, idx t]

/-- The rounded weight, carried from point to point, is the first point's copy of the argument. -/
theorem word_eq (c : Dev nD) : ∀ (n : ℕ) (hn : n < cfg0.N) (k : Fin 1024) (j : Fin 1536),
    ((outsAt0 m c n hn).2.2.2.2.2 : Vec Ideal S1024x1536 .bf16) (ix2 k j) = argW m c (ix3 0 k j)
  | 0, hn, k, j => by
    rw [outsAt0_A m c ⟨0, hn⟩ rfl]
    dsimp only
    frame_out
    rw [word_at]
    exact blk_3 m c _ k j
  | n + 1, hn, k, j => by
    have hN : cfg0.N = 4 := by decide
    rw [outsAt0_B m c ⟨n + 1, hn⟩ (by dsimp only; omega)]
    dsimp only
    exact word_eq c n (by omega) k j

/-- The product a point works with. -/
def mid (c : Dev nD) (t : Fin cfg0.N) (w : Vec Ideal S1024x1536 .bf16) : FVec Ideal S1024x1536 .f32 :=
  k0_pay9 (iblk m c 1 t) (iblk m c 0 t) (iblk m c 2 t) w

/-- It is the reference's product, at the rows' places. -/
theorem mid_eq (c : Dev nD) (t : Fin cfg0.N) (w : Vec Ideal S1024x1536 .bf16) (hw : ∀ k j, w (ix2 k j) = argW m c (ix3 0 k j))
    (r : Fin 1024) (j : Fin 1536) (b : Fin 16) (r' : Fin 256) (h : 1024 * t.val + r = 256 * b + r') :
    mid m c t w (ix2 r j) = Stage.proj (Stage.hid (argX m c) (argM m c) (argN m c)) (argW m c) (ix3 b r' j) := by
  unfold mid
  rw [prod_at, Stage.proj_at]
  refine Finset.sum_congr rfl fun (k : Fin 1024) _ => congrArg₂ (fun y z : EReal => y * z) ?_ (hw k j)
  rw [Stage.hid_at, blk_0 m c t r k b r' h, blk_1, blk_1, blk_2, ← mul_assoc]
  refine congrArg (fun z : EReal => argX m c (ix3 b r' k) * inv 0x44800000#32 z * _ * _ + _) ?_
  exact Finset.sum_congr rfl fun (l : Fin 1024) _ => congrArg₂ (fun y z : EReal => y * z) (blk_0 m c t r l b r' h) (blk_0 m c t r l b r' h)

/-- The five blocks a point leaves, at a weight that is the argument's. -/
theorem outs_eq (c : Dev nD) (t : Fin cfg0.N) : ∃ w : Vec Ideal S1024x1536 .bf16, (∀ k j, w (ix2 k j) = argW m c (ix3 0 k j))
    ∧ (outsAt0 m c t.val t.isLt).1 = outQ (iblk m c 1 t) (iblk m c 0 t) (iblk m c 2 t) w (iblk m c 4 t)
    ∧ (outsAt0 m c t.val t.isLt).2.1 = outK (mid m c t w) (iblk m c 5 t)
    ∧ (outsAt0 m c t.val t.isLt).2.2.1 = k0_pay5 (mid m c t w)
    ∧ (outsAt0 m c t.val t.isLt).2.2.2.1 = outC (mid m c t w) (iblk m c 5 t)
    ∧ (outsAt0 m c t.val t.isLt).2.2.2.2.1 = outW (mid m c t w) := by
  by_cases h : t.val % 4 = 0
  · refine ⟨k0_pay8 (iblk m c 3 t), fun k j => (word_at _ k j).trans (blk_3 m c t k j), ?_, ?_, ?_, ?_, ?_⟩
    all_goals
      rw [outsAt0_A m c t h]
      dsimp only
      frame_out <;> rfl
  · have e := (Memref.isWhole_whole cc0_scratch0).read_unread (Val := Elt Ideal)
      (outsAt0 m c (t.val - 1) (Nat.lt_of_le_of_lt (Nat.sub_le _ _) t.isLt)).2.2.2.2.2
    refine ⟨View.read (Elt Ideal) (Memref.whole cc0_scratch0).view ((Memref.isWhole_whole cc0_scratch0).unread
      (outsAt0 m c (t.val - 1) (Nat.lt_of_le_of_lt (Nat.sub_le _ _) t.isLt)).2.2.2.2.2), fun k j => (congrFun e (ix2 k j)).trans (word_eq m c _ _ k j), ?_, ?_, ?_, ?_, ?_⟩
    all_goals
      rw [outsAt0_B m c t h]
      dsimp only
      frame_out <;> rfl

/-- A head of the point's product, normalised, is the reference's. -/
theorem headQ_eq (c : Dev nD) (t : Fin cfg0.N) (w : Vec Ideal S1024x1536 .bf16) (hw : ∀ k j, w (ix2 k j) = argW m c (ix3 0 k j))
    (r : Fin 1024) (h : Fin 8) (d : Fin 128) (b : Fin 16) (r' : Fin 256) (hr : 1024 * t.val + r = 256 * b + r') :
    head (mid m c t w) (iblk m c 4 t) (128 * h) (by omega) r d
      = Stage.normQ (Stage.rawQ (Stage.proj (Stage.hid (argX m c) (argM m c) (argN m c)) (argW m c))) (argQ m c) (ix4 b r' h d) := by
  unfold head
  rw [Stage.normQ_at, Stage.rawQ_at, mid_eq m c t w hw r _ b r' hr, blk_4]
  refine congrArg (fun z : EReal => _ * inv 0x43000000#32 z * _) ?_
  exact Finset.sum_congr rfl fun (l : Fin 128) _ => by rw [mid_eq m c t w hw r _ b r' hr, Stage.rawQ_at]

/-- So are the keys' heads. -/
theorem headK_eq (c : Dev nD) (t : Fin cfg0.N) (w : Vec Ideal S1024x1536 .bf16) (hw : ∀ k j, w (ix2 k j) = argW m c (ix3 0 k j))
    (r : Fin 1024) (h : Fin 2) (d : Fin 128) (b : Fin 16) (r' : Fin 256) (hr : 1024 * t.val + r = 256 * b + r') :
    head (mid m c t w) (iblk m c 5 t) (1024 + 128 * h) (by omega) r d
      = Stage.normK (Stage.rawK (Stage.proj (Stage.hid (argX m c) (argM m c) (argN m c)) (argW m c))) (argK m c) (ix4 b r' h d) := by
  unfold head
  rw [Stage.normK_at, Stage.rawK_at, mid_eq m c t w hw r _ b r' hr, blk_5]
  refine congrArg (fun z : EReal => _ * inv 0x43000000#32 z * _) ?_
  exact Finset.sum_congr rfl fun (l : Fin 128) _ => by rw [mid_eq m c t w hw r _ b r' hr, Stage.rawK_at]

/-- The reference's terms over the kernel's arguments. -/
abbrev REFQ (c : Dev nD) : FVec Ideal S4096x1024 .bf16 := Stage.resQ (argX m c) (argM m c) (argN m c) (argW m c) (argQ m c)
abbrev REFK (c : Dev nD) : FVec Ideal S4096x256 .bf16 := Stage.resK (argX m c) (argM m c) (argN m c) (argW m c) (argK m c)
abbrev REFV (c : Dev nD) : FVec Ideal S4096x256 .bf16 := Stage.resV (argX m c) (argM m c) (argN m c) (argW m c)

abbrev REFC (c : Dev nD) : FVec Ideal S16x1x256x2x128 .f32 := Stage.newK (argX m c) (argM m c) (argN m c) (argW m c) (argK m c)
abbrev REFW (c : Dev nD) : FVec Ideal S16x1x256x2x128 .f32 := Stage.newV (argX m c) (argM m c) (argN m c) (argW m c)

/-- **The queries** are the reference's. -/
theorem finalQ (c : Dev nD) : (dats m 0 c).arrAt 6 (cfgs 0).N = REFQ m c := by
  refine (dats m 0 c).arrAt_eq_of_covers 6 _ (by decide +kernel) fun t _ y => ?_
  blk_simp
  rw [after0_6]
  obtain ⟨w, hw, hQ, -⟩ := outs_eq m c t
  rw [hQ]
  idx_vars y
  have ht : t.val < 4 := lt_of_lt_of_eq t.isLt (by decide)
  have h := (outQ_at (iblk m c 1 t) (iblk m c 0 t) (iblk m c 2 t) w (iblk m c 4 t) y0 (⟨y1 / 128, by omega⟩ : Fin 8) (⟨y1 % 128, by omega⟩ : Fin 128)).trans
    ((headQ_eq m c t w hw y0 (⟨y1 / 128, by omega⟩ : Fin 8) (⟨y1 % 128, by omega⟩ : Fin 128) (⟨(1024 * t.val + y0) / 256, by omega⟩ : Fin 16)
      (⟨(1024 * t.val + y0) % 256, by omega⟩ : Fin 256) (by dsimp only; omega)).trans (Stage.resQ_at _ _ _ _ _ _ _ _ _).symm)
  rw [show (⟨128 * (⟨y1 / 128, by omega⟩ : Fin 8) + (⟨y1 % 128, by omega⟩ : Fin 128), by dsimp only; omega⟩ : Fin 1024) = y1 from
    Fin.ext (by dsimp only; omega)] at h
  refine h.trans ?_
  blk_ext [idx t]

/-- **The keys** are the reference's. -/
theorem finalK (c : Dev nD) : (dats m 0 c).arrAt 7 (cfgs 0).N = REFK m c := by
  refine (dats m 0 c).arrAt_eq_of_covers 7 _ (by decide +kernel) fun t _ y => ?_
  blk_simp
  rw [after0_7]
  obtain ⟨w, hw, -, hK, -⟩ := outs_eq m c t
  rw [hK]
  idx_vars y
  have ht : t.val < 4 := lt_of_lt_of_eq t.isLt (by decide)
  have h := (outK_at (mid m c t w) (iblk m c 5 t) y0 (⟨y1 / 128, by omega⟩ : Fin 2) (⟨y1 % 128, by omega⟩ : Fin 128)).trans
    ((headK_eq m c t w hw y0 (⟨y1 / 128, by omega⟩ : Fin 2) (⟨y1 % 128, by omega⟩ : Fin 128) (⟨(1024 * t.val + y0) / 256, by omega⟩ : Fin 16)
      (⟨(1024 * t.val + y0) % 256, by omega⟩ : Fin 256) (by dsimp only; omega)).trans (Stage.resK_at _ _ _ _ _ _ _ _ _).symm)
  rw [show (⟨128 * (⟨y1 / 128, by omega⟩ : Fin 2) + (⟨y1 % 128, by omega⟩ : Fin 128), by dsimp only; omega⟩ : Fin 256) = y1 from
    Fin.ext (by dsimp only; omega)] at h
  refine h.trans ?_
  blk_ext [idx t]

/-- **The values** are the reference's. -/
theorem finalV (c : Dev nD) : (dats m 0 c).arrAt 8 (cfgs 0).N = REFV m c := by
  refine (dats m 0 c).arrAt_eq_of_covers 8 _ (by decide +kernel) fun t _ y => ?_
  blk_simp
  rw [after0_8]
  obtain ⟨w, hw, -, -, hV, -⟩ := outs_eq m c t
  rw [hV]
  idx_vars y
  have ht : t.val < 4 := lt_of_lt_of_eq t.isLt (by decide)
  have h := (Stage.resV_at (argX m c) (argM m c) (argN m c) (argW m c) (⟨(1024 * t.val + y0) / 256, by omega⟩ : Fin 16)
    (⟨(1024 * t.val + y0) % 256, by omega⟩ : Fin 256) (⟨y1 / 128, by omega⟩ : Fin 2) (⟨y1 % 128, by omega⟩ : Fin 128)).trans (Stage.rawV_at _ _ _ _ _)
  rw [show (⟨1280 + 128 * (⟨y1 / 128, by omega⟩ : Fin 2) + (⟨y1 % 128, by omega⟩ : Fin 128), by dsimp only; omega⟩ : Fin 1536) = ⟨1280 + y1, by omega⟩ from
    Fin.ext (by dsimp only; omega)] at h
  refine ((outV_at (mid m c t w) y0 y1).trans ((mid_eq m c t w hw y0 _ _ _ (by dsimp only; omega)).trans h.symm)).trans ?_
  blk_ext [idx t]

/-- The cache's keys before their last reshape. -/
def flatC (c : Dev nD) : FVec Ideal S4096x2x128 .f32 := fun i =>
  REFC m c (ix5 (⟨(i 0).val / 256, by have h : (i 0).val < 4096 := (i 0).isLt; omega⟩ : Fin 16) 0 (⟨(i 0).val % 256, by omega⟩ : Fin 256) (i 1) (i 2))

/-- The cache's values before theirs. -/
def flatW (c : Dev nD) : FVec Ideal S4096x2x128 .f32 := fun i =>
  REFW m c (ix5 (⟨(i 0).val / 256, by have h : (i 0).val < 4096 := (i 0).isLt; omega⟩ : Fin 16) 0 (⟨(i 0).val % 256, by omega⟩ : Fin 256) (i 1) (i 2))

/-- The cache's keys at an entry. -/
theorem flatC_at (c : Dev nD) (b : Fin 16) (r : Fin 256) (h : Fin 2) (d : Fin 128) (i : Fin 4096) (hi : i.val = 256 * b + r) :
    flatC m c (ix3 i h d) = REFC m c (ix5 b 0 r h d) :=
  congrArg₂ (fun (b' : Fin 16) (r' : Fin 256) => REFC m c (ix5 b' 0 r' h d)) (Fin.ext (by show i.val / 256 = b.val; omega)) (Fin.ext (by show i.val % 256 = r.val; omega))

/-- The cache's values at an entry. -/
theorem flatW_at (c : Dev nD) (b : Fin 16) (r : Fin 256) (h : Fin 2) (d : Fin 128) (i : Fin 4096) (hi : i.val = 256 * b + r) :
    flatW m c (ix3 i h d) = REFW m c (ix5 b 0 r h d) :=
  congrArg₂ (fun (b' : Fin 16) (r' : Fin 256) => REFW m c (ix5 b' 0 r' h d)) (Fin.ext (by show i.val / 256 = b.val; omega)) (Fin.ext (by show i.val % 256 = r.val; omega))

/-- **The cache's keys**, row by row, are the reference's. -/
theorem finalC (c : Dev nD) : (dats m 0 c).arrAt 9 (cfgs 0).N = flatC m c := by
  refine (dats m 0 c).arrAt_eq_of_covers 9 _ (by decide +kernel) fun t _ y => ?_
  blk_simp
  rw [after0_9]
  obtain ⟨w, hw, -, -, -, hC, -⟩ := outs_eq m c t
  rw [hC]
  idx_vars y
  have ht : t.val < 4 := lt_of_lt_of_eq t.isLt (by decide)
  have h := (outC_at (mid m c t w) (iblk m c 5 t) y0 y1 y2).trans
    ((headK_eq m c t w hw y0 y1 y2 (⟨(1024 * t.val + y0) / 256, by omega⟩ : Fin 16)
      (⟨(1024 * t.val + y0) % 256, by omega⟩ : Fin 256) (by dsimp only; omega)).trans ((Stage.newK_at _ _ _ _ _ _ _ _ _).symm.trans
        (flatC_at m c _ _ y1 y2 (⟨1024 * t.val + y0, by omega⟩ : Fin 4096) (by dsimp only; omega)).symm))
  refine h.trans ?_
  blk_ext [idx t]

/-- **The cache's values**, row by row, are the reference's. -/
theorem finalW (c : Dev nD) : (dats m 0 c).arrAt 10 (cfgs 0).N = flatW m c := by
  refine (dats m 0 c).arrAt_eq_of_covers 10 _ (by decide +kernel) fun t _ y => ?_
  blk_simp
  rw [after0_10]
  obtain ⟨w, hw, -, -, -, -, hW⟩ := outs_eq m c t
  rw [hW]
  idx_vars y
  have ht : t.val < 4 := lt_of_lt_of_eq t.isLt (by decide)
  have h := (outW_at (mid m c t w) y0 y1 y2).trans
    ((mid_eq m c t w hw y0 _ (⟨(1024 * t.val + y0) / 256, by omega⟩ : Fin 16) (⟨(1024 * t.val + y0) % 256, by omega⟩ : Fin 256) (by dsimp only; omega)).trans
      (((Stage.newV_at _ _ _ _ _ _ _ _).trans (Stage.rawV_at _ _ _ _ _)).symm.trans
        (flatW_at m c _ _ y1 y2 (⟨1024 * t.val + y0, by omega⟩ : Fin 4096) (by dsimp only; omega)).symm))
  refine h.trans ?_
  blk_ext [idx t]

/-- The reshape after the call gives the cache's keys their five axes. -/
theorem castC (c : Dev nD) : shapeCast S16x1x256x2x128 (flatC m c) shapeCasts_S4096x2x128_S16x1x256x2x128 = REFC m c := by
  funext i
  idx_vars i
  have h : i1 = 0 := Fin.ext (by omega)
  subst h
  refine Eq.trans ?_ (flatC_at m c i0 i2 i3 i4 (⟨i0 * 256 + i2, by omega⟩ : Fin 4096) (by dsimp only; omega))
  pointwise

/-- The reshape after the call gives the cache's values theirs. -/
theorem castW (c : Dev nD) : shapeCast S16x1x256x2x128 (flatW m c) shapeCasts_S4096x2x128_S16x1x256x2x128 = REFW m c := by
  funext i
  idx_vars i
  have h : i1 = 0 := Fin.ext (by omega)
  subst h
  refine Eq.trans ?_ (flatW_at m c i0 i2 i3 i4 (⟨i0 * 256 + i2, by omega⟩ : Fin 4096) (by dsimp only; omega))
  pointwise

/-- The windows' arrays are distinct. -/
theorem arr_inj : Function.Injective (Pipeline.arrRef spec0) := by decide

/-- **The cache's keys** after the last reshape are the reference's. -/
theorem tailC (c : Dev nD) : Pipeline.afterTail₀ cfgs (dats m) 0 (V0 m) [hostOps1] c main_v10 = REFC m c := by
  unfold Pipeline.afterTail₀
  simp only [List.flatten_cons, List.flatten_nil, List.append_nil]
  after_results
  exact (congrArg (fun a => shapeCast S16x1x256x2x128 a shapeCasts_S4096x2x128_S16x1x256x2x128)
    ((Pipeline.withArrays_arr spec0 arr_inj c (V0 m c) (fun w => (dats m 0 c).arrAt w (cfgs 0).N) 9).trans (finalC m c))).trans (castC m c)

/-- **The cache's values** after theirs are the reference's. -/
theorem tailW (c : Dev nD) : Pipeline.afterTail₀ cfgs (dats m) 0 (V0 m) [hostOps1] c main_v11 = REFW m c := by
  unfold Pipeline.afterTail₀
  simp only [List.flatten_cons, List.flatten_nil, List.append_nil]
  after_results
  exact (congrArg (fun a => shapeCast S16x1x256x2x128 a shapeCasts_S4096x2x128_S16x1x256x2x128)
    ((Pipeline.withArrays_arr spec0 arr_inj c (V0 m c) (fun w => (dats m 0 c).arrAt w (cfgs 0).N) 10).trans (finalW m c))).trans (castW m c)

end Cert.QkvIdeal.Fold
end
-- ==== Proof.QkvClaims.lean ====
/- The context projection's claims, from its run and its values. -/
module

public import proofs.«01_k».proof.Proof.QkvArray
public import proofs.«01_k».proof.Defs
public import Idealize.ShloMosaic.Adequacy

@[expose] public section

set_option maxRecDepth 65536

noncomputable section

namespace Cert.Proof

open Idealize.ShloMosaic Idealize.SL.Sem

/-- The reference runs and leaves its arguments alone. -/
theorem frame_qkvRef : Cert.quiescent_QkvRefIdeal := fun m ρ _ =>
  (θ_run Cert.QkvRefIdeal.defs _ _).mono (fun r h => ⟨fun c => (h c).2.2.2.2.2, sem_eq_zero_of_no_sems (by decide) r.2⟩)
    (Cert.QkvRefIdeal.Value.run (F := Ideal) m ρ)

/-- The kernel and the reference end with the same five arrays. -/
theorem algebraic_qkv : Cert.algebraic_QkvIdeal_QkvRefIdeal := by
  pair_intro
  · run_from Cert.QkvIdeal.Gen.run_main m g
    · exact Cert.QkvIdeal.Gen.W_main_arg0 m _ c
    · exact Cert.QkvIdeal.Gen.W_main_arg2 m _ c
    · exact Cert.QkvIdeal.Gen.W_main_arg3 m _ c
    · exact Cert.QkvIdeal.Gen.W_main_arg4 m _ c
    · exact Cert.QkvIdeal.Gen.W_main_arg5 m _ c
  · run_from Cert.QkvRefIdeal.Stage.run m' g'
    · exact (Cert.QkvIdeal.Fold.finalQ m c).symm
    · exact (Cert.QkvIdeal.Fold.finalK m c).symm
    · exact (Cert.QkvIdeal.Fold.finalV m c).symm
    · exact (Cert.QkvIdeal.Fold.tailC m c).symm
    · exact (Cert.QkvIdeal.Fold.tailW m c).symm

end Cert.Proof
end
-- ==== Proof.RopeRef.lean ====
/- The latent projection reference's three results in named stages, each read at an index. -/
module

public import proofs.«01_k».proof.Proof.Gen.RopeRefIdeal.Run
public import proofs.«01_k».proof.Proof.RowNorm

@[expose] public section

set_option maxRecDepth 65536

noncomputable section

namespace Cert.RopeRefIdeal.Stage

open Idealize.ShloMosaic Idealize.ShloMosaic.TcCoe Idealize.SL.Sem
open Cert.RowNorm
open Cert.RopeRefIdeal Cert.RopeRefIdeal.Gen Cert.RopeRefIdeal.Value

/-- The normalised and modulated rows. -/
def hid (x : FVec Ideal S2x4096x1024 .f32) (md : FVec Ideal S2x8x6x1024 .f32) (n : FVec Ideal S2x1024 .f32) : FVec Ideal S2x4096x1024 .f32 :=
  addf (mulf (mulf (mulf x (broadcastInDim S2x4096x1024 ![0, 1, 2] bcast_S2x4096x1_S2x4096x1024_0_1_2
    (Host.rsqrt (addf (Host.divf (broadcastInDim S2x4096x1 ![0, 1] bcast_S2x4096_S2x4096x1_0_1
      (Host.reduceAdd (mulf x x) (constant S_ .f32 0x00000000#32) reducesTo_S2x4096x1024_S2x4096_d2 h_S_))
        (broadcastInDim S2x4096x1 ![] bcast_S_S2x4096x1 (constant S_ .f32 0x44800000#32)))
      (broadcastInDim S2x4096x1 ![] bcast_S_S2x4096x1 (constant S_ .f32 0x358637BD#32))))))
    (broadcastInDim S2x4096x1024 ![0, 1, 2] bcast_S1x1x1024_S2x4096x1024_0_1_2 (broadcastInDim S1x1x1024 ![2] bcast_S1024_S1x1x1024_2
      (shapeCast _ (extractStridedSlice S1x1024 ![0, 0] n slices_S2x1024_S1x1024_0_0) shapeCasts_S1x1024_S1024))))
    (broadcastInDim S2x4096x1024 ![0, 1, 2] bcast_S2x1x1024_S2x4096x1024_0_1_2 (addf (broadcastInDim S2x1x1024 ![] bcast_S_S2x1x1024 (constant S_ .f32 0x3F800000#32))
      (broadcastInDim S2x1x1024 ![0, 2] bcast_S2x1024_S2x1x1024_0_2
        (shapeCast _ (extractStridedSlice S1x2x1x1024 ![0, 1, 1, 0] md slices_S2x8x6x1024_S1x2x1x1024_0_1_1_0) shapeCasts_S1x2x1x1024_S2x1024)))))
    (broadcastInDim S2x4096x1024 ![0, 1, 2] bcast_S2x1x1024_S2x4096x1024_0_1_2 (broadcastInDim S2x1x1024 ![0, 2] bcast_S2x1024_S2x1x1024_0_2
      (shapeCast _ (extractStridedSlice S1x2x1x1024 ![0, 1, 0, 0] md slices_S2x8x6x1024_S1x2x1x1024_0_1_0_0) shapeCasts_S1x2x1x1024_S2x1024)))

/-- The rows times the weight. -/
def proj (h : FVec Ideal S2x4096x1024 .f32) (w : FVec Ideal S1x1024x1536 .f32) : FVec Ideal S2x4096x1536 .f32 :=
  Host.dotGeneral dot_S2x4096x1024_S1024x1536_S2x4096x1536_2_0_01_1_n_n none h (shapeCast _ w shapeCasts_S1x1024x1536_S1024x1536)

/-- The queries' heads before normalisation. -/
def rawQ (p : FVec Ideal S2x4096x1536 .f32) : FVec Ideal S2x4096x8x128 .f32 :=
  shapeCast _ (extractStridedSlice S2x4096x1024 ![0, 0, 0] p slices_S2x4096x1536_S2x4096x1024_0_0_0) shapeCasts_S2x4096x1024_S2x4096x8x128

/-- The keys' heads before normalisation. -/
def rawK (p : FVec Ideal S2x4096x1536 .f32) : FVec Ideal S2x4096x2x128 .f32 :=
  shapeCast _ (extractStridedSlice S2x4096x256 ![0, 0, 1024] p slices_S2x4096x1536_S2x4096x256_0_0_1024) shapeCasts_S2x4096x256_S2x4096x2x128

/-- Eight heads normalised. -/
def normQ (q : FVec Ideal S2x4096x8x128 .f32) (g : FVec Ideal S1x128 .f32) : FVec Ideal S2x4096x8x128 .f32 :=
  mulf (mulf q (broadcastInDim S2x4096x8x128 ![0, 1, 2, 3] bcast_S2x4096x8x1_S2x4096x8x128_0_1_2_3
    (Host.rsqrt (addf (Host.divf (broadcastInDim S2x4096x8x1 ![0, 1, 2] bcast_S2x4096x8_S2x4096x8x1_0_1_2
      (Host.reduceAdd (mulf q q) (constant S_ .f32 0x00000000#32) reducesTo_S2x4096x8x128_S2x4096x8_d3 h_S_))
        (broadcastInDim S2x4096x8x1 ![] bcast_S_S2x4096x8x1 (constant S_ .f32 0x43000000#32)))
      (broadcastInDim S2x4096x8x1 ![] bcast_S_S2x4096x8x1 (constant S_ .f32 0x358637BD#32))))))
    (broadcastInDim S2x4096x8x128 ![0, 1, 2, 3] bcast_S1x1x1x128_S2x4096x8x128_0_1_2_3 (broadcastInDim S1x1x1x128 ![3] bcast_S128_S1x1x1x128_3
      (shapeCast _ g shapeCasts_S1x128_S128)))

/-- Two heads normalised. -/
def normK (q : FVec Ideal S2x4096x2x128 .f32) (g : FVec Ideal S1x128 .f32) : FVec Ideal S2x4096x2x128 .f32 :=
  mulf (mulf q (broadcastInDim S2x4096x2x128 ![0, 1, 2, 3] bcast_S2x4096x2x1_S2x4096x2x128_0_1_2_3
    (Host.rsqrt (addf (Host.divf (broadcastInDim S2x4096x2x1 ![0, 1, 2] bcast_S2x4096x2_S2x4096x2x1_0_1_2
      (Host.reduceAdd (mulf q q) (constant S_ .f32 0x00000000#32) reducesTo_S2x4096x2x128_S2x4096x2_d3 h_S_))
        (broadcastInDim S2x4096x2x1 ![] bcast_S_S2x4096x2x1 (constant S_ .f32 0x43000000#32)))
      (broadcastInDim S2x4096x2x1 ![] bcast_S_S2x4096x2x1 (constant S_ .f32 0x358637BD#32))))))
    (broadcastInDim S2x4096x2x128 ![0, 1, 2, 3] bcast_S1x1x1x128_S2x4096x2x128_0_1_2_3 (broadcastInDim S1x1x1x128 ![3] bcast_S128_S1x1x1x128_3
      (shapeCast _ g shapeCasts_S1x128_S128)))

/-- The frequencies. -/
def freq : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

/-- The angles of a token by its row in the grid of 64 by 64, -/
def angR : FVec Ideal S4096x32 .f32 :=
  mulf (broadcastInDim S4096x32 ![0, 1] bcast_S4096x1_S4096x32_0_1 (broadcastInDim S4096x1 ![0] bcast_S4096_S4096x1_0
    (sitofp .f32 (shapeCast _ (broadcastInDim S64x64 ![0] bcast_S64_S64x64_0 (iotaInDim S64 32 0)) shapeCasts_S64x64_S4096))))
    (broadcastInDim S4096x32 ![0, 1] bcast_S1x32_S4096x32_0_1 (broadcastInDim S1x32 ![1] bcast_S32_S1x32_1 freq))

/-- and by its column. -/
def angC : FVec Ideal S4096x32 .f32 :=
  mulf (broadcastInDim S4096x32 ![0, 1] bcast_S4096x1_S4096x32_0_1 (broadcastInDim S4096x1 ![0] bcast_S4096_S4096x1_0
    (sitofp .f32 (shapeCast _ (broadcastInDim S64x64 ![0, 1] bcast_S1x64_S64x64_0_1 (shapeCast _ (iotaInDim S64 32 0) shapeCasts_S64_S1x64)) shapeCasts_S64x64_S4096))))
    (broadcastInDim S4096x32 ![0, 1] bcast_S1x32_S4096x32_0_1 (broadcastInDim S1x32 ![1] bcast_S32_S1x32_1 freq))

/-- The two halves of eight heads' 64 columns turned by the angles `a`. -/
def turn8 (x : FVec Ideal S2x4096x8x64 .f32) (a : FVec Ideal S4096x32 .f32) : FVec Ideal S2x4096x8x64 .f32 :=
  concatenate S2x4096x8x64 3 [⟨S2x4096x8x32, subf (mulf (extractStridedSlice S2x4096x8x32 ![0, 0, 0, 0] x slices_S2x4096x8x64_S2x4096x8x32_0_0_0_0)
    (broadcastInDim S2x4096x8x32 ![0, 1, 2, 3] bcast_S1x4096x1x32_S2x4096x8x32_0_1_2_3 (broadcastInDim S1x4096x1x32 ![1, 2, 3] bcast_S4096x1x32_S1x4096x1x32_1_2_3
      (broadcastInDim S4096x1x32 ![0, 2] bcast_S4096x32_S4096x1x32_0_2 (Host.cos a)))))
    (mulf (extractStridedSlice S2x4096x8x32 ![0, 0, 0, 32] x slices_S2x4096x8x64_S2x4096x8x32_0_0_0_32)
    (broadcastInDim S2x4096x8x32 ![0, 1, 2, 3] bcast_S1x4096x1x32_S2x4096x8x32_0_1_2_3 (broadcastInDim S1x4096x1x32 ![1, 2, 3] bcast_S4096x1x32_S1x4096x1x32_1_2_3
      (broadcastInDim S4096x1x32 ![0, 2] bcast_S4096x32_S4096x1x32_0_2 (Host.sin a)))))⟩,
    ⟨S2x4096x8x32, addf (mulf (extractStridedSlice S2x4096x8x32 ![0, 0, 0, 0] x slices_S2x4096x8x64_S2x4096x8x32_0_0_0_0)
    (broadcastInDim S2x4096x8x32 ![0, 1, 2, 3] bcast_S1x4096x1x32_S2x4096x8x32_0_1_2_3 (broadcastInDim S1x4096x1x32 ![1, 2, 3] bcast_S4096x1x32_S1x4096x1x32_1_2_3
      (broadcastInDim S4096x1x32 ![0, 2] bcast_S4096x32_S4096x1x32_0_2 (Host.sin a)))))
    (mulf (extractStridedSlice S2x4096x8x32 ![0, 0, 0, 32] x slices_S2x4096x8x64_S2x4096x8x32_0_0_0_32)
    (broadcastInDim S2x4096x8x32 ![0, 1, 2, 3] bcast_S1x4096x1x32_S2x4096x8x32_0_1_2_3 (broadcastInDim S1x4096x1x32 ![1, 2, 3] bcast_S4096x1x32_S1x4096x1x32_1_2_3
      (broadcastInDim S4096x1x32 ![0, 2] bcast_S4096x32_S4096x1x32_0_2 (Host.cos a)))))⟩]
    concatenates_S2x4096x8x32_S2x4096x8x32_S2x4096x8x64_d3

/-- Eight heads turned, their first 64 columns by the rows' angles and the others by the columns'. -/
def axial8 (x : FVec Ideal S2x4096x8x128 .f32) : FVec Ideal S2x4096x8x128 .f32 :=
  concatenate S2x4096x8x128 3 [⟨S2x4096x8x64, turn8 (extractStridedSlice S2x4096x8x64 ![0, 0, 0, 0] x slices_S2x4096x8x128_S2x4096x8x64_0_0_0_0) angR⟩,
    ⟨S2x4096x8x64, turn8 (extractStridedSlice S2x4096x8x64 ![0, 0, 0, 64] x slices_S2x4096x8x128_S2x4096x8x64_0_0_0_64) angC⟩]
    concatenates_S2x4096x8x64_S2x4096x8x64_S2x4096x8x128_d3

/-- The two halves of two heads' 64 columns turned by the angles `a`. -/
def turn2 (x : FVec Ideal S2x4096x2x64 .f32) (a : FVec Ideal S4096x32 .f32) : FVec Ideal S2x4096x2x64 .f32 :=
  concatenate S2x4096x2x64 3 [⟨S2x4096x2x32, subf (mulf (extractStridedSlice S2x4096x2x32 ![0, 0, 0, 0] x slices_S2x4096x2x64_S2x4096x2x32_0_0_0_0)
    (broadcastInDim S2x4096x2x32 ![0, 1, 2, 3] bcast_S1x4096x1x32_S2x4096x2x32_0_1_2_3 (broadcastInDim S1x4096x1x32 ![1, 2, 3] bcast_S4096x1x32_S1x4096x1x32_1_2_3
      (broadcastInDim S4096x1x32 ![0, 2] bcast_S4096x32_S4096x1x32_0_2 (Host.cos a)))))
    (mulf (extractStridedSlice S2x4096x2x32 ![0, 0, 0, 32] x slices_S2x4096x2x64_S2x4096x2x32_0_0_0_32)
    (broadcastInDim S2x4096x2x32 ![0, 1, 2, 3] bcast_S1x4096x1x32_S2x4096x2x32_0_1_2_3 (broadcastInDim S1x4096x1x32 ![1, 2, 3] bcast_S4096x1x32_S1x4096x1x32_1_2_3
      (broadcastInDim S4096x1x32 ![0, 2] bcast_S4096x32_S4096x1x32_0_2 (Host.sin a)))))⟩,
    ⟨S2x4096x2x32, addf (mulf (extractStridedSlice S2x4096x2x32 ![0, 0, 0, 0] x slices_S2x4096x2x64_S2x4096x2x32_0_0_0_0)
    (broadcastInDim S2x4096x2x32 ![0, 1, 2, 3] bcast_S1x4096x1x32_S2x4096x2x32_0_1_2_3 (broadcastInDim S1x4096x1x32 ![1, 2, 3] bcast_S4096x1x32_S1x4096x1x32_1_2_3
      (broadcastInDim S4096x1x32 ![0, 2] bcast_S4096x32_S4096x1x32_0_2 (Host.sin a)))))
    (mulf (extractStridedSlice S2x4096x2x32 ![0, 0, 0, 32] x slices_S2x4096x2x64_S2x4096x2x32_0_0_0_32)
    (broadcastInDim S2x4096x2x32 ![0, 1, 2, 3] bcast_S1x4096x1x32_S2x4096x2x32_0_1_2_3 (broadcastInDim S1x4096x1x32 ![1, 2, 3] bcast_S4096x1x32_S1x4096x1x32_1_2_3
      (broadcastInDim S4096x1x32 ![0, 2] bcast_S4096x32_S4096x1x32_0_2 (Host.cos a)))))⟩]
    concatenates_S2x4096x2x32_S2x4096x2x32_S2x4096x2x64_d3

/-- Two heads turned, their first 64 columns by the rows' angles and the others by the columns'. -/
def axial2 (x : FVec Ideal S2x4096x2x128 .f32) : FVec Ideal S2x4096x2x128 .f32 :=
  concatenate S2x4096x2x128 3 [⟨S2x4096x2x64, turn2 (extractStridedSlice S2x4096x2x64 ![0, 0, 0, 0] x slices_S2x4096x2x128_S2x4096x2x64_0_0_0_0) angR⟩,
    ⟨S2x4096x2x64, turn2 (extractStridedSlice S2x4096x2x64 ![0, 0, 0, 64] x slices_S2x4096x2x128_S2x4096x2x64_0_0_0_64) angC⟩]
    concatenates_S2x4096x2x64_S2x4096x2x64_S2x4096x2x128_d3

/-- The queries as rows, -/
def resQ (x : FVec Ideal S2x4096x1024 .f32) (md : FVec Ideal S2x8x6x1024 .f32) (n : FVec Ideal S2x1024 .f32) (w : FVec Ideal S1x1024x1536 .f32)
    (g : FVec Ideal S1x128 .f32) : FVec Ideal S8192x1024 .bf16 :=
  truncf .bf16 (shapeCast _ (axial8 (normQ (rawQ (proj (hid x md n) w)) g)) shapeCasts_S2x4096x8x128_S8192x1024) bitsLt_bf16_f32

/-- the keys, -/
def resK (x : FVec Ideal S2x4096x1024 .f32) (md : FVec Ideal S2x8x6x1024 .f32) (n : FVec Ideal S2x1024 .f32) (w : FVec Ideal S1x1024x1536 .f32)
    (g : FVec Ideal S1x128 .f32) : FVec Ideal S8192x256 .bf16 :=
  truncf .bf16 (shapeCast _ (axial2 (normK (rawK (proj (hid x md n) w)) g)) shapeCasts_S2x4096x2x128_S8192x256) bitsLt_bf16_f32

/-- and the values. -/
def resV (x : FVec Ideal S2x4096x1024 .f32) (md : FVec Ideal S2x8x6x1024 .f32) (n : FVec Ideal S2x1024 .f32) (w : FVec Ideal S1x1024x1536 .f32) :
    FVec Ideal S8192x256 .bf16 :=
  truncf .bf16 (shapeCast _ (extractStridedSlice S2x4096x256 ![0, 0, 1280] (proj (hid x md n) w) slices_S2x4096x1536_S2x4096x256_0_0_1280) shapeCasts_S2x4096x256_S8192x256) bitsLt_bf16_f32

/-- The modulated rows at an entry. -/
theorem hid_at (x : FVec Ideal S2x4096x1024 .f32) (md : FVec Ideal S2x8x6x1024 .f32) (n : FVec Ideal S2x1024 .f32) (b : Fin 2) (r : Fin 4096) (k : Fin 1024) :
    hid x md n (ix3 b r k) = x (ix3 b r k) * inv 0x44800000#32 (∑ l : Fin 1024, x (ix3 b r l) * x (ix3 b r l)) * n (ix2 0 k)
      * (1 + md (ix4 0 ⟨1 + b, by omega⟩ 1 k)) + md (ix4 0 ⟨1 + b, by omega⟩ 0 k) := by
  pointwise [hid]
  rfl

/-- The product at an entry. -/
theorem proj_at (h : FVec Ideal S2x4096x1024 .f32) (w : FVec Ideal S1x1024x1536 .f32) (b : Fin 2) (r : Fin 4096) (j : Fin 1536) :
    proj h w (ix3 b r j) = ∑ k : Fin 1024, h (ix3 b r k) * w (ix3 0 k j) := by
  pointwise [proj]

/-- The queries' heads at an entry -/
theorem rawQ_at (p : FVec Ideal S2x4096x1536 .f32) (b : Fin 2) (r : Fin 4096) (h : Fin 8) (d : Fin 128) :
    rawQ p (ix4 b r h d) = p (ix3 b r ⟨128 * h + d, by omega⟩) := by
  pointwise [rawQ]
  exact congrArg (fun a => p (ix3 b r a)) (Fin.ext (by dsimp only; omega))

/-- and the keys'. -/
theorem rawK_at (p : FVec Ideal S2x4096x1536 .f32) (b : Fin 2) (r : Fin 4096) (h : Fin 2) (d : Fin 128) :
    rawK p (ix4 b r h d) = p (ix3 b r ⟨1024 + 128 * h + d, by omega⟩) := by
  pointwise [rawK]
  exact congrArg (fun a => p (ix3 b r a)) (Fin.ext (by dsimp only; omega))

/-- A normalised query at an entry, -/
theorem normQ_at (q : FVec Ideal S2x4096x8x128 .f32) (g : FVec Ideal S1x128 .f32) (b : Fin 2) (r : Fin 4096) (h : Fin 8) (d : Fin 128) :
    normQ q g (ix4 b r h d) = q (ix4 b r h d) * inv 0x43000000#32 (∑ e : Fin 128, q (ix4 b r h e) * q (ix4 b r h e)) * g (ix2 0 d) := by
  pointwise [normQ]
  rfl

/-- and a normalised key. -/
theorem normK_at (q : FVec Ideal S2x4096x2x128 .f32) (g : FVec Ideal S1x128 .f32) (b : Fin 2) (r : Fin 4096) (h : Fin 2) (d : Fin 128) :
    normK q g (ix4 b r h d) = q (ix4 b r h d) * inv 0x43000000#32 (∑ e : Fin 128, q (ix4 b r h e) * q (ix4 b r h e)) * g (ix2 0 d) := by
  pointwise [normK]
  rfl

/-- A turned first half at an entry,  -/
theorem turn8_lo (x : FVec Ideal S2x4096x8x64 .f32) (a : FVec Ideal S4096x32 .f32) (b : Fin 2) (s : Fin 4096) (h : Fin 8) (e : Fin 32) :
    turn8 x a (ix4 b s h ⟨e, by omega⟩) = x (ix4 b s h ⟨e, by omega⟩) * Ideal.cos (a (ix2 s e)) - x (ix4 b s h ⟨32 + e, by omega⟩) * Ideal.sin (a (ix2 s e)) := by
  pointwise [turn8]

/-- and second half at an entry. -/
theorem turn8_hi (x : FVec Ideal S2x4096x8x64 .f32) (a : FVec Ideal S4096x32 .f32) (b : Fin 2) (s : Fin 4096) (h : Fin 8) (e : Fin 32) :
    turn8 x a (ix4 b s h ⟨32 + e, by omega⟩) = x (ix4 b s h ⟨e, by omega⟩) * Ideal.sin (a (ix2 s e)) + x (ix4 b s h ⟨32 + e, by omega⟩) * Ideal.cos (a (ix2 s e)) := by
  pointwise [turn8]

/-- A turned first half at an entry,  -/
theorem turn2_lo (x : FVec Ideal S2x4096x2x64 .f32) (a : FVec Ideal S4096x32 .f32) (b : Fin 2) (s : Fin 4096) (h : Fin 2) (e : Fin 32) :
    turn2 x a (ix4 b s h ⟨e, by omega⟩) = x (ix4 b s h ⟨e, by omega⟩) * Ideal.cos (a (ix2 s e)) - x (ix4 b s h ⟨32 + e, by omega⟩) * Ideal.sin (a (ix2 s e)) := by
  pointwise [turn2]

/-- and second half at an entry. -/
theorem turn2_hi (x : FVec Ideal S2x4096x2x64 .f32) (a : FVec Ideal S4096x32 .f32) (b : Fin 2) (s : Fin 4096) (h : Fin 2) (e : Fin 32) :
    turn2 x a (ix4 b s h ⟨32 + e, by omega⟩) = x (ix4 b s h ⟨e, by omega⟩) * Ideal.sin (a (ix2 s e)) + x (ix4 b s h ⟨32 + e, by omega⟩) * Ideal.cos (a (ix2 s e)) := by
  pointwise [turn2]

/-- The angle of column `d` of a head of token `s`. -/
def ang (s : Fin 4096) (d : Fin 128) : EReal :=
  if d.val < 64 then angR (ix2 s ⟨d.val % 32, by omega⟩) else angC (ix2 s ⟨d.val % 32, by omega⟩)

/-- The sine that column `d` takes its partner with: negative in the first half of each turned pair of halves. -/
def sgnSin (s : Fin 4096) (d : Fin 128) : EReal := if d.val % 64 < 32 then -Ideal.sin (ang s d) else Ideal.sin (ang s d)

/-- A column lies in one of four quarters. -/
theorem quarter (d : Fin 128) : (∃ e : Fin 32, d = ⟨e, by omega⟩) ∨ (∃ e : Fin 32, d = ⟨32 + e, by omega⟩)
    ∨ (∃ e : Fin 32, d = ⟨64 + e, by omega⟩) ∨ (∃ e : Fin 32, d = ⟨64 + (32 + e), by omega⟩) := by
  have hd := d.isLt
  rcases (by omega : d.val < 32 ∨ (32 ≤ d.val ∧ d.val < 64) ∨ (64 ≤ d.val ∧ d.val < 96) ∨ 96 ≤ d.val) with hc | hc | hc | hc
  · exact .inl ⟨⟨d.val, hc⟩, rfl⟩
  · exact .inr (.inl ⟨⟨d.val - 32, by omega⟩, Fin.ext (by dsimp only; omega)⟩)
  · exact .inr (.inr (.inl ⟨⟨d.val - 64, by omega⟩, Fin.ext (by dsimp only; omega)⟩))
  · exact .inr (.inr (.inr ⟨⟨d.val - 96, by omega⟩, Fin.ext (by dsimp only; omega)⟩))

/-- The column that column `d` is turned with. -/
def mate (d : Fin 128) : Fin 128 := if h : d.val % 64 < 32 then ⟨d.val + 32, by omega⟩ else ⟨d.val - 32, by omega⟩

/-- A head's first 64 columns are turned by the rows' angles, -/
theorem axial8_row (x : FVec Ideal S2x4096x8x128 .f32) (b : Fin 2) (s : Fin 4096) (h : Fin 8) (e : Fin 64) :
    axial8 x (ix4 b s h ⟨e, by omega⟩) = turn8 (extractStridedSlice S2x4096x8x64 ![0, 0, 0, 0] x slices_S2x4096x8x128_S2x4096x8x64_0_0_0_0) angR (ix4 b s h e) := by
  pointwise [axial8]

/-- the others by the columns'. -/
theorem axial8_col (x : FVec Ideal S2x4096x8x128 .f32) (b : Fin 2) (s : Fin 4096) (h : Fin 8) (e : Fin 64) :
    axial8 x (ix4 b s h ⟨64 + e, by omega⟩) = turn8 (extractStridedSlice S2x4096x8x64 ![0, 0, 0, 64] x slices_S2x4096x8x128_S2x4096x8x64_0_0_0_64) angC (ix4 b s h e) := by
  pointwise [axial8]

/-- A turned head at an entry: the entry by its cosine and its partner by the signed sine. -/
theorem axial8_at (x : FVec Ideal S2x4096x8x128 .f32) (b : Fin 2) (s : Fin 4096) (h : Fin 8) (d : Fin 128) :
    axial8 x (ix4 b s h d) = x (ix4 b s h d) * Ideal.cos (ang s d) + x (ix4 b s h (mate d)) * sgnSin s d := by
  rcases quarter d with ⟨e, rfl⟩ | ⟨e, rfl⟩ | ⟨e, rfl⟩ | ⟨e, rfl⟩
  · have m : mate ⟨e, by omega⟩ = ⟨32 + e, by omega⟩ := (dif_pos (by dsimp only; omega)).trans (Fin.ext (by dsimp only; omega))
    have g : sgnSin s ⟨e, by omega⟩ = -Ideal.sin (ang s ⟨e, by omega⟩) := if_pos (by dsimp only; omega)
    have a : ang s ⟨e, by omega⟩ = angR (ix2 s e) := (if_pos (by dsimp only; omega)).trans (congrArg (fun z => angR (ix2 s z)) (Fin.ext (by dsimp only; omega)))
    refine ((axial8_row x b s h ⟨e, by omega⟩).trans (turn8_lo _ angR b s h e)).trans ?_
    rw [g, m, a, mul_neg, ← sub_eq_add_neg]
    pointwise
  · have m : mate ⟨32 + e, by omega⟩ = ⟨e, by omega⟩ := (dif_neg (by dsimp only; omega)).trans (Fin.ext (by dsimp only; omega))
    have g : sgnSin s ⟨32 + e, by omega⟩ = Ideal.sin (ang s ⟨32 + e, by omega⟩) := if_neg (by dsimp only; omega)
    have a : ang s ⟨32 + e, by omega⟩ = angR (ix2 s e) := (if_pos (by dsimp only; omega)).trans (congrArg (fun z => angR (ix2 s z)) (Fin.ext (by dsimp only; omega)))
    refine ((axial8_row x b s h ⟨32 + e, by omega⟩).trans (turn8_hi _ angR b s h e)).trans ?_
    rw [g, m, a, add_comm]
    pointwise
  · have m : mate ⟨64 + e, by omega⟩ = ⟨64 + (32 + e), by omega⟩ := (dif_pos (by dsimp only; omega)).trans (Fin.ext (by dsimp only; omega))
    have g : sgnSin s ⟨64 + e, by omega⟩ = -Ideal.sin (ang s ⟨64 + e, by omega⟩) := if_pos (by dsimp only; omega)
    have a : ang s ⟨64 + e, by omega⟩ = angC (ix2 s e) := (if_neg (by dsimp only; omega)).trans (congrArg (fun z => angC (ix2 s z)) (Fin.ext (by dsimp only; omega)))
    refine ((axial8_col x b s h ⟨e, by omega⟩).trans (turn8_lo _ angC b s h e)).trans ?_
    rw [g, m, a, mul_neg, ← sub_eq_add_neg]
    pointwise
  · have m : mate ⟨64 + (32 + e), by omega⟩ = ⟨64 + e, by omega⟩ := (dif_neg (by dsimp only; omega)).trans (Fin.ext (by dsimp only; omega))
    have g : sgnSin s ⟨64 + (32 + e), by omega⟩ = Ideal.sin (ang s ⟨64 + (32 + e), by omega⟩) := if_neg (by dsimp only; omega)
    have a : ang s ⟨64 + (32 + e), by omega⟩ = angC (ix2 s e) := (if_neg (by dsimp only; omega)).trans (congrArg (fun z => angC (ix2 s z)) (Fin.ext (by dsimp only; omega)))
    refine ((axial8_col x b s h ⟨32 + e, by omega⟩).trans (turn8_hi _ angC b s h e)).trans ?_
    rw [g, m, a, add_comm]
    pointwise

/-- A head's first 64 columns are turned by the rows' angles, -/
theorem axial2_row (x : FVec Ideal S2x4096x2x128 .f32) (b : Fin 2) (s : Fin 4096) (h : Fin 2) (e : Fin 64) :
    axial2 x (ix4 b s h ⟨e, by omega⟩) = turn2 (extractStridedSlice S2x4096x2x64 ![0, 0, 0, 0] x slices_S2x4096x2x128_S2x4096x2x64_0_0_0_0) angR (ix4 b s h e) := by
  pointwise [axial2]

/-- the others by the columns'. -/
theorem axial2_col (x : FVec Ideal S2x4096x2x128 .f32) (b : Fin 2) (s : Fin 4096) (h : Fin 2) (e : Fin 64) :
    axial2 x (ix4 b s h ⟨64 + e, by omega⟩) = turn2 (extractStridedSlice S2x4096x2x64 ![0, 0, 0, 64] x slices_S2x4096x2x128_S2x4096x2x64_0_0_0_64) angC (ix4 b s h e) := by
  pointwise [axial2]

/-- A turned head at an entry: the entry by its cosine and its partner by the signed sine. -/
theorem axial2_at (x : FVec Ideal S2x4096x2x128 .f32) (b : Fin 2) (s : Fin 4096) (h : Fin 2) (d : Fin 128) :
    axial2 x (ix4 b s h d) = x (ix4 b s h d) * Ideal.cos (ang s d) + x (ix4 b s h (mate d)) * sgnSin s d := by
  rcases quarter d with ⟨e, rfl⟩ | ⟨e, rfl⟩ | ⟨e, rfl⟩ | ⟨e, rfl⟩
  · have m : mate ⟨e, by omega⟩ = ⟨32 + e, by omega⟩ := (dif_pos (by dsimp only; omega)).trans (Fin.ext (by dsimp only; omega))
    have g : sgnSin s ⟨e, by omega⟩ = -Ideal.sin (ang s ⟨e, by omega⟩) := if_pos (by dsimp only; omega)
    have a : ang s ⟨e, by omega⟩ = angR (ix2 s e) := (if_pos (by dsimp only; omega)).trans (congrArg (fun z => angR (ix2 s z)) (Fin.ext (by dsimp only; omega)))
    refine ((axial2_row x b s h ⟨e, by omega⟩).trans (turn2_lo _ angR b s h e)).trans ?_
    rw [g, m, a, mul_neg, ← sub_eq_add_neg]
    pointwise
  · have m : mate ⟨32 + e, by omega⟩ = ⟨e, by omega⟩ := (dif_neg (by dsimp only; omega)).trans (Fin.ext (by dsimp only; omega))
    have g : sgnSin s ⟨32 + e, by omega⟩ = Ideal.sin (ang s ⟨32 + e, by omega⟩) := if_neg (by dsimp only; omega)
    have a : ang s ⟨32 + e, by omega⟩ = angR (ix2 s e) := (if_pos (by dsimp only; omega)).trans (congrArg (fun z => angR (ix2 s z)) (Fin.ext (by dsimp only; omega)))
    refine ((axial2_row x b s h ⟨32 + e, by omega⟩).trans (turn2_hi _ angR b s h e)).trans ?_
    rw [g, m, a, add_comm]
    pointwise
  · have m : mate ⟨64 + e, by omega⟩ = ⟨64 + (32 + e), by omega⟩ := (dif_pos (by dsimp only; omega)).trans (Fin.ext (by dsimp only; omega))
    have g : sgnSin s ⟨64 + e, by omega⟩ = -Ideal.sin (ang s ⟨64 + e, by omega⟩) := if_pos (by dsimp only; omega)
    have a : ang s ⟨64 + e, by omega⟩ = angC (ix2 s e) := (if_neg (by dsimp only; omega)).trans (congrArg (fun z => angC (ix2 s z)) (Fin.ext (by dsimp only; omega)))
    refine ((axial2_col x b s h ⟨e, by omega⟩).trans (turn2_lo _ angC b s h e)).trans ?_
    rw [g, m, a, mul_neg, ← sub_eq_add_neg]
    pointwise
  · have m : mate ⟨64 + (32 + e), by omega⟩ = ⟨64 + e, by omega⟩ := (dif_neg (by dsimp only; omega)).trans (Fin.ext (by dsimp only; omega))
    have g : sgnSin s ⟨64 + (32 + e), by omega⟩ = Ideal.sin (ang s ⟨64 + (32 + e), by omega⟩) := if_neg (by dsimp only; omega)
    have a : ang s ⟨64 + (32 + e), by omega⟩ = angC (ix2 s e) := (if_neg (by dsimp only; omega)).trans (congrArg (fun z => angC (ix2 s z)) (Fin.ext (by dsimp only; omega)))
    refine ((axial2_col x b s h ⟨32 + e, by omega⟩).trans (turn2_hi _ angC b s h e)).trans ?_
    rw [g, m, a, add_comm]
    pointwise

/-- A row's number is 4096 times its request's, plus its place in it. -/
theorem resQ_at (x : FVec Ideal S2x4096x1024 .f32) (md : FVec Ideal S2x8x6x1024 .f32) (n : FVec Ideal S2x1024 .f32) (w : FVec Ideal S1x1024x1536 .f32)
    (g : FVec Ideal S1x128 .f32) (b : Fin 2) (r : Fin 4096) (h : Fin 8) (d : Fin 128) :
    resQ x md n w g (ix2 (⟨4096 * b + r, by omega⟩ : Fin 8192) (⟨128 * h + d, by omega⟩ : Fin 1024)) = axial8 (normQ (rawQ (proj (hid x md n) w)) g) (ix4 b r h d) := by
  pointwise [resQ]

/-- The keys' rows, -/
theorem resK_at (x : FVec Ideal S2x4096x1024 .f32) (md : FVec Ideal S2x8x6x1024 .f32) (n : FVec Ideal S2x1024 .f32) (w : FVec Ideal S1x1024x1536 .f32)
    (g : FVec Ideal S1x128 .f32) (b : Fin 2) (r : Fin 4096) (h : Fin 2) (d : Fin 128) :
    resK x md n w g (ix2 (⟨4096 * b + r, by omega⟩ : Fin 8192) (⟨128 * h + d, by omega⟩ : Fin 256)) = axial2 (normK (rawK (proj (hid x md n) w)) g) (ix4 b r h d) := by
  pointwise [resK]

/-- and the values' rows. -/
theorem resV_at (x : FVec Ideal S2x4096x1024 .f32) (md : FVec Ideal S2x8x6x1024 .f32) (n : FVec Ideal S2x1024 .f32) (w : FVec Ideal S1x1024x1536 .f32)
    (b : Fin 2) (r : Fin 4096) (j : Fin 256) :
    resV x md n w (ix2 (⟨4096 * b + r, by omega⟩ : Fin 8192) j) = proj (hid x md n) w (ix3 b r ⟨1280 + j, by omega⟩) := by
  pointwise [resV]

/-- The queries' printed term is the named one, -/
theorem valQ (V0 : Valuation τ sig (Elt Ideal)) :
    truncf .bf16 (shapeCast _ (axial8 (res_main_v46 V0)) shapeCasts_S2x4096x8x128_S8192x1024) bitsLt_bf16_f32
      = resQ (V0 (Proc.devRef .tc main_arg0)) (V0 (Proc.devRef .tc main_arg1)) (V0 (Proc.devRef .tc main_arg2)) (V0 (Proc.devRef .tc main_arg3)) (V0 (Proc.devRef .tc main_arg4)) := rfl

/-- and so is the keys'. -/
theorem valK (V0 : Valuation τ sig (Elt Ideal)) :
    truncf .bf16 (shapeCast _ (axial2 (res_main_v137 V0)) shapeCasts_S2x4096x2x128_S8192x256) bitsLt_bf16_f32
      = resK (V0 (Proc.devRef .tc main_arg0)) (V0 (Proc.devRef .tc main_arg1)) (V0 (Proc.devRef .tc main_arg2)) (V0 (Proc.devRef .tc main_arg3)) (V0 (Proc.devRef .tc main_arg5)) := rfl

/-- The values' printed term is the named one. -/
theorem valV (V0 : Valuation τ sig (Elt Ideal)) : val4 V0 (Proc.devRef .tc main_v219) = resV (V0 (Proc.devRef .tc main_arg0)) (V0 (Proc.devRef .tc main_arg1)) (V0 (Proc.devRef .tc main_arg2)) (V0 (Proc.devRef .tc main_arg3)) :=
  (val4_main_v219 V0).trans rfl

/-- The first result is the turned queries, -/
theorem rotQ (V0 : Valuation τ sig (Elt Ideal)) : val4 V0 (Proc.devRef .tc main_v215)
    = truncf .bf16 (shapeCast _ (axial8 (res_main_v46 V0)) shapeCasts_S2x4096x8x128_S8192x1024) bitsLt_bf16_f32 :=
  (val4_main_v215 V0).trans rfl

/-- the second the turned keys. -/
theorem rotK (V0 : Valuation τ sig (Elt Ideal)) : val4 V0 (Proc.devRef .tc main_v217)
    = truncf .bf16 (shapeCast _ (axial2 (res_main_v137 V0)) shapeCasts_S2x4096x2x128_S8192x256) bitsLt_bf16_f32 :=
  (val4_main_v217 V0).trans rfl

open Cert.RopeRefIdeal.Gen in
/-- **The run**, its results at the named terms. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v215) = resQ (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v217) = resK (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg5))
      ∧ r.2.mem ((c.tc : Thread nD τ).loc main_v219) = resV (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1.trans (val4_main_v215 _).symm).trans ((rotQ _).trans (valQ _)), ((h c).2.1.trans (val4_main_v217 _).symm).trans ((rotK _).trans (valK _)),
    ((h c).2.2.1.trans (val4_main_v219 _).symm).trans (valV _), (h c).2.2.2⟩) (Value.run (F := Ideal) m ρ)

end Cert.RopeRefIdeal.Stage
end
-- ==== Proof.RopeFold.lean ====
/- What one point of the latent projection leaves in its three result blocks, read at an entry. -/
module

public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.RowNorm
public import proofs.«01_k».proof.Proof.RopeRef
public import Idealize.ShloMosaic.Lib.Pipeline.ValueKit

@[expose] public section

set_option maxRecDepth 65536

noncomputable section

namespace Cert.RopeIdeal.Fold

open Idealize.ShloMosaic Idealize.ShloMosaic.TcCoe Idealize.SL.Sem
open Cert.RowNorm
open Cert.RopeIdeal Cert.RopeIdeal.Gen
open Cert.RopeRefIdeal.Stage (mate)

/-- The product of the modulated rows and the carried weight at an entry. -/
theorem prod_at (md : Vec Ideal S1x1x6x1024 .f32) (x : Vec Ideal S1024x1024 .f32) (n : Vec Ideal S1x1024 .f32) (w : Vec Ideal S1024x2816 .bf16)
    (r : Fin 1024) (j : Fin 2816) :
    k0_pay7 md x n w (ix2 r j) = ∑ k : Fin 1024, (x (ix2 r k) * inv 0x44800000#32 (∑ l : Fin 1024, x (ix2 r l) * x (ix2 r l))
      * (n (ix2 0 k) * (1 + md (ix4 0 0 1 k))) + md (ix4 0 0 0 k)) * w (ix2 k j) := by
  pointwise [k0_pay7]
  rfl

/-- The mask of the first half of each turned pair of halves, by a column's number. -/
theorem mask_eq : ∀ d : Fin 1280, IntOp.cmpi .eq (IntOp.andi (BitVec.ofNat 32 d.val) 32#32) 0#32 = if d.val % 64 < 32 then 1#1 else 0#1 := by
  decide +kernel

/-- What the mask selects. -/
theorem mask_select {α : Type} (d : ℕ) (hd : d < 1280) (a b : α) :
    Scalar.select (IntOp.cmpi .eq (IntOp.andi (BitVec.ofNat 32 d) 32#32) 0#32) a b = if d % 64 < 32 then a else b := by
  rw [mask_eq ⟨d, hd⟩]
  by_cases h : d % 64 < 32
  · rw [if_pos h, if_pos h]
    rfl
  · rw [if_neg h, if_neg h]
    rfl

/-- The weight's rounded copy at an entry. -/
theorem word_at (w : Vec Ideal S1024x1536 .f32) (k : Fin 1024) (j : Fin 1536) : k0_pay5 w (ix2 k j) = w (ix2 k j) := by
  pointwise [k0_pay5, k0_pay4]

/-- The column that a column of the heads is turned with. -/
def swap (j : ℕ) : ℕ := if j % 64 < 32 then j + 32 else j - 32

/-- It lies in the heads' columns. -/
theorem swap_lt (j : Fin 1280) : swap j < 1536 := by
  have h := j.isLt
  unfold swap
  split <;> omega

/-- The columns' partners, rounded, at an entry. -/
theorem pair_at (w : Vec Ideal S1024x1536 .f32) (k : Fin 1024) (j : Fin 1280) : k0_pay6 w (ix2 k j) = w (ix2 k ⟨swap j, swap_lt j⟩) := by
  pointwise [k0_pay6, k0_pay4]
  refine (mask_select j.val j.isLt _ _).trans ?_
  have hj := j.isLt
  by_cases h : j.val % 64 < 32
  · rw [if_pos h]
    exact congrArg (fun z => w (ix2 k z)) (Fin.ext (by dsimp only [swap]; rw [if_pos h]; omega))
  · rw [if_neg h]
    exact congrArg (fun z => w (ix2 k z)) (Fin.ext (by dsimp only [swap]; rw [if_neg h]; omega))

/-- The cosines times the gain at an entry, -/
theorem cosQ_at (g : Vec Ideal S1x128 .f32) (cs : Vec Ideal S1024x128 .f32) (r : Fin 1024) (d : Fin 128) :
    k0_pay10 (k0_pay8 g) cs (ix2 r d) = cs (ix2 r d) * g (ix2 0 d) := by
  pointwise [k0_pay10, k0_pay8]

/-- and the same for the keys. -/
theorem cosK_at (g : Vec Ideal S1x128 .f32) (cs : Vec Ideal S1024x128 .f32) (r : Fin 1024) (d : Fin 128) :
    k0_pay11 (k0_pay9 g) cs (ix2 r d) = cs (ix2 r d) * g (ix2 0 d) := by
  pointwise [k0_pay11, k0_pay9]

/-- The gain of a column's partner. -/
theorem gain_at (g : Vec Ideal S1x128 .f32) (d : Fin 128) :
    Scalar.select (IntOp.cmpi .eq (IntOp.andi (BitVec.ofNat 32 d.val) 32#32) 0#32)
      (g (ix2 0 (⟨(d.val + 128 - 96) % 128, by omega⟩ : Fin 128))) (g (ix2 0 (⟨(d.val + 128 - 32) % 128, by omega⟩ : Fin 128))) = g (ix2 0 (mate d)) := by
  have hd := d.isLt
  refine (mask_select d.val (by omega) _ _).trans ?_
  by_cases h : d.val % 64 < 32
  · rw [if_pos h, show mate d = ⟨d.val + 32, by omega⟩ from dif_pos h]
    exact congrArg (fun z : Fin 128 => g (ix2 0 z)) (Fin.ext (by dsimp only; omega))
  · rw [if_neg h, show mate d = ⟨d.val - 32, by omega⟩ from dif_neg h]
    exact congrArg (fun z : Fin 128 => g (ix2 0 z)) (Fin.ext (by dsimp only; omega))

/-- The signed sines times the partner's gain at an entry, -/
theorem sinQ_at (g : Vec Ideal S1x128 .f32) (sn : Vec Ideal S1024x128 .f32) (r : Fin 1024) (d : Fin 128) :
    k0_pay12 (k0_pay8 g) sn (ix2 r d) = sn (ix2 r d) * g (ix2 0 (mate d)) := by
  pointwise [k0_pay12, k0_pay8]
  refine congrArg (fun z : EReal => sn (ix2 r d) * z) ?_
  exact gain_at g d

/-- and the same for the keys. -/
theorem sinK_at (g : Vec Ideal S1x128 .f32) (sn : Vec Ideal S1024x128 .f32) (r : Fin 1024) (d : Fin 128) :
    k0_pay13 (k0_pay9 g) sn (ix2 r d) = sn (ix2 r d) * g (ix2 0 (mate d)) := by
  pointwise [k0_pay13, k0_pay9]
  refine congrArg (fun z : EReal => sn (ix2 r d) * z) ?_
  exact gain_at g d

/-- The turned head of a product at columns `o` to `o + 127`, normalised, at an entry: `A` the cosines times the gain, `B` the sines times the partner's. -/
def head (T : FVec Ideal S1024x2816 .f32) (A B : FVec Ideal S1024x128 .f32) (o : ℕ) (ho : o + 128 ≤ 1280) (r : Fin 1024) (d : Fin 128) : EReal :=
  (T (ix2 r ⟨o + d, by omega⟩) * A (ix2 r d) + T (ix2 r ⟨1536 + o + d, by omega⟩) * B (ix2 r d))
    * inv 0x43000000#32 (∑ l : Fin 128, T (ix2 r ⟨o + l, by omega⟩) * T (ix2 r ⟨o + l, by omega⟩))

/-- The stores of the queries' heads, each the turned head at its columns: the first, -/
theorem q0_at (T : FVec Ideal S1024x2816 .f32) (g : Vec Ideal S1x128 .f32) (cs : Vec Ideal S1024x128 .f32) (B : FVec Ideal S1024x128 .f32) (r : Fin 1024) (d : Fin 128) :
    k0_pay18 B (k0_pay15 T) (k0_pay16 T (k0_pay8 g) cs) (k0_pay17 T) (ix2 r d) = head T (k0_pay10 (k0_pay8 g) cs) B 0 (by decide) r d := by
  unfold head
  generalize hA : k0_pay10 (k0_pay8 g) cs = A
  unfold k0_pay16
  rw [hA]
  pointwise [k0_pay18, k0_pay15, k0_pay17, k0_pay14]
  rfl

/-- the one at column 128, -/
theorem q1_at (T : FVec Ideal S1024x2816 .f32) (A B : FVec Ideal S1024x128 .f32) (r : Fin 1024) (d : Fin 128) :
    k0_pay19 T A B (ix2 r d) = head T A B 128 (by decide) r d := by
  unfold head
  pointwise [k0_pay19]
  rfl

/-- the one at column 256, -/
theorem q2_at (T : FVec Ideal S1024x2816 .f32) (A B : FVec Ideal S1024x128 .f32) (r : Fin 1024) (d : Fin 128) :
    k0_pay20 T A B (ix2 r d) = head T A B 256 (by decide) r d := by
  unfold head
  pointwise [k0_pay20]
  rfl

/-- the one at column 384, -/
theorem q3_at (T : FVec Ideal S1024x2816 .f32) (A B : FVec Ideal S1024x128 .f32) (r : Fin 1024) (d : Fin 128) :
    k0_pay23 T A B (k0_pay21 T) (k0_pay22 T) (ix2 r d) = head T A B 384 (by decide) r d := by
  unfold head
  pointwise [k0_pay23, k0_pay22, k0_pay21]
  rfl

/-- the one at column 512, -/
theorem q4_at (T : FVec Ideal S1024x2816 .f32) (A B : FVec Ideal S1024x128 .f32) (r : Fin 1024) (d : Fin 128) :
    k0_pay24 T A B (ix2 r d) = head T A B 512 (by decide) r d := by
  unfold head
  pointwise [k0_pay24]
  rfl

/-- the one at column 640, -/
theorem q5_at (T : FVec Ideal S1024x2816 .f32) (A B : FVec Ideal S1024x128 .f32) (r : Fin 1024) (d : Fin 128) :
    k0_pay25 T A B (ix2 r d) = head T A B 640 (by decide) r d := by
  unfold head
  pointwise [k0_pay25]
  rfl

/-- the one at column 768, -/
theorem q6_at (T : FVec Ideal S1024x2816 .f32) (A B : FVec Ideal S1024x128 .f32) (r : Fin 1024) (d : Fin 128) :
    k0_pay26 T A B (ix2 r d) = head T A B 768 (by decide) r d := by
  unfold head
  pointwise [k0_pay26]
  rfl

/-- the one at column 896, -/
theorem q7_at (T : FVec Ideal S1024x2816 .f32) (A B : FVec Ideal S1024x128 .f32) (r : Fin 1024) (d : Fin 128) :
    k0_pay27 T A B (ix2 r d) = head T A B 896 (by decide) r d := by
  unfold head
  pointwise [k0_pay27]
  rfl

/-- the keys' at column 1024 -/
theorem k0_at (T : FVec Ideal S1024x2816 .f32) (A B : FVec Ideal S1024x128 .f32) (r : Fin 1024) (d : Fin 128) :
    k0_pay1 T A B (k0_pay28 T) (k0_pay29 T) (k0_pay30 (F := Ideal)) (ix2 r d) = head T A B 1024 (by decide) r d := by
  unfold head
  pointwise [k0_pay1, k0_pay28, k0_pay29, k0_pay30]
  rfl

/-- and the keys' at column 1152. -/
theorem k1_at (T : FVec Ideal S1024x2816 .f32) (A B : FVec Ideal S1024x128 .f32) (r : Fin 1024) (d : Fin 128) :
    k0_pay2 T A B (ix2 r d) = head T A B 1152 (by decide) r d := by
  unfold head
  pointwise [k0_pay2]
  rfl

/-- An entry of a stored head, from the head at its own columns. -/
theorem of_piece (P : Vec Ideal S1024x128 .bf16) (T : FVec Ideal S1024x2816 .f32) (A B : FVec Ideal S1024x128 .f32) (o o' : ℕ) (ho : o + 128 ≤ 1280) (ho' : o' + 128 ≤ 1280)
    (hP : ∀ (r : Fin 1024) (d : Fin 128), P (ix2 r d) = head T A B o ho r d) (r : Fin 1024) (d : Fin 128) (y : S1024x128.Idx)
    (hr : r.val = (y 0).val) (hd : o' + d.val = o + (y 1).val) (hy : (y 1).val < 128) (hm : o % 128 = 0) (hm' : o' % 128 = 0) :
    P y = head T A B o' ho' r d := by
  have h : o = o' := by omega
  subst h
  rw [← hP r d]
  exact congrArg P (funext fun a => by
    match a with
    | 0 => exact Fin.ext hr.symm
    | 1 => exact Fin.ext (by show (y 1).val = d.val; omega))

/-- The block of queries, of the product `T`, the queries' gain, the cosines and the sines. -/
def outQ (T : FVec Ideal S1024x2816 .f32) (g : Vec Ideal S1x128 .f32) (cs sn : Vec Ideal S1024x128 .f32) : Vec Ideal S1024x1024 .bf16 :=
  View.canon [⟨Rect.unit ![0, 896] ![1024, 128] inb_S1024x1024_S1024x128_0_896, k0_pay27 T (k0_pay10 (k0_pay8 g) cs) (k0_pay12 (k0_pay8 g) sn)⟩,
    ⟨Rect.unit ![0, 768] ![1024, 128] inb_S1024x1024_S1024x128_0_768, k0_pay26 T (k0_pay10 (k0_pay8 g) cs) (k0_pay12 (k0_pay8 g) sn)⟩,
    ⟨Rect.unit ![0, 640] ![1024, 128] inb_S1024x1024_S1024x128_0_640, k0_pay25 T (k0_pay10 (k0_pay8 g) cs) (k0_pay12 (k0_pay8 g) sn)⟩,
    ⟨Rect.unit ![0, 512] ![1024, 128] inb_S1024x1024_S1024x128_0_512, k0_pay24 T (k0_pay10 (k0_pay8 g) cs) (k0_pay12 (k0_pay8 g) sn)⟩,
    ⟨Rect.unit ![0, 384] ![1024, 128] inb_S1024x1024_S1024x128_0_384, k0_pay23 T (k0_pay10 (k0_pay8 g) cs) (k0_pay12 (k0_pay8 g) sn) (k0_pay21 T) (k0_pay22 T)⟩,
    ⟨Rect.unit ![0, 256] ![1024, 128] inb_S1024x1024_S1024x128_0_256, k0_pay20 T (k0_pay10 (k0_pay8 g) cs) (k0_pay12 (k0_pay8 g) sn)⟩,
    ⟨Rect.unit ![0, 128] ![1024, 128] inb_S1024x1024_S1024x128_0_128, k0_pay19 T (k0_pay10 (k0_pay8 g) cs) (k0_pay12 (k0_pay8 g) sn)⟩,
    ⟨Rect.unit ![0, 0] ![1024, 128] inb_S1024x1024_S1024x128_0_0, k0_pay18 (k0_pay12 (k0_pay8 g) sn) (k0_pay15 T) (k0_pay16 T (k0_pay8 g) cs) (k0_pay17 T)⟩]

/-- The block of queries at an entry. -/
theorem outQ_at (T : FVec Ideal S1024x2816 .f32) (g : Vec Ideal S1x128 .f32) (cs sn : Vec Ideal S1024x128 .f32) (r : Fin 1024) (h : Fin 8) (d : Fin 128) :
    outQ T g cs sn (ix2 r (⟨128 * h + d, by omega⟩ : Fin 1024)) = head T (k0_pay10 (k0_pay8 g) cs) (k0_pay12 (k0_pay8 g) sn) (128 * h) (by omega) r d := by
  unfold outQ
  canon_tiles y e
  case piece0 => exact of_piece _ T _ _ 896 _ (by decide) (by omega) (q7_at T _ _) r d y e0 (by have h' : 128 * h.val + d.val = 896 + (y 1).val := e1; omega) y1_lt (by decide) (by omega)
  case piece1 => exact of_piece _ T _ _ 768 _ (by decide) (by omega) (q6_at T _ _) r d y e0 (by have h' : 128 * h.val + d.val = 768 + (y 1).val := e1; omega) y1_lt (by decide) (by omega)
  case piece2 => exact of_piece _ T _ _ 640 _ (by decide) (by omega) (q5_at T _ _) r d y e0 (by have h' : 128 * h.val + d.val = 640 + (y 1).val := e1; omega) y1_lt (by decide) (by omega)
  case piece3 => exact of_piece _ T _ _ 512 _ (by decide) (by omega) (q4_at T _ _) r d y e0 (by have h' : 128 * h.val + d.val = 512 + (y 1).val := e1; omega) y1_lt (by decide) (by omega)
  case piece4 => exact of_piece _ T _ _ 384 _ (by decide) (by omega) (q3_at T _ _) r d y e0 (by have h' : 128 * h.val + d.val = 384 + (y 1).val := e1; omega) y1_lt (by decide) (by omega)
  case piece5 => exact of_piece _ T _ _ 256 _ (by decide) (by omega) (q2_at T _ _) r d y e0 (by have h' : 128 * h.val + d.val = 256 + (y 1).val := e1; omega) y1_lt (by decide) (by omega)
  case piece6 => exact of_piece _ T _ _ 128 _ (by decide) (by omega) (q1_at T _ _) r d y e0 (by have h' : 128 * h.val + d.val = 128 + (y 1).val := e1; omega) y1_lt (by decide) (by omega)
  case piece7 => exact of_piece _ T _ _ 0 _ (by decide) (by omega) (q0_at T _ cs _) r d y e0 (by have h' : 128 * h.val + d.val = (y 1).val := e1; omega) y1_lt (by decide) (by omega)

/-- The block of keys, of the keys' gain. -/
def outK (T : FVec Ideal S1024x2816 .f32) (g : Vec Ideal S1x128 .f32) (cs sn : Vec Ideal S1024x128 .f32) : Vec Ideal S1024x256 .bf16 :=
  View.canon [⟨Rect.unit ![0, 128] ![1024, 128] inb_S1024x256_S1024x128_0_128, k0_pay2 T (k0_pay11 (k0_pay9 g) cs) (k0_pay13 (k0_pay9 g) sn)⟩,
    ⟨Rect.unit ![0, 0] ![1024, 128] inb_S1024x256_S1024x128_0_0, k0_pay1 T (k0_pay11 (k0_pay9 g) cs) (k0_pay13 (k0_pay9 g) sn) (k0_pay28 T) (k0_pay29 T) (k0_pay30 (F := Ideal))⟩]

/-- The block of keys at an entry. -/
theorem outK_at (T : FVec Ideal S1024x2816 .f32) (g : Vec Ideal S1x128 .f32) (cs sn : Vec Ideal S1024x128 .f32) (r : Fin 1024) (h : Fin 2) (d : Fin 128) :
    outK T g cs sn (ix2 r (⟨128 * h + d, by omega⟩ : Fin 256)) = head T (k0_pay11 (k0_pay9 g) cs) (k0_pay13 (k0_pay9 g) sn) (1024 + 128 * h) (by omega) r d := by
  unfold outK
  canon_tiles y e
  case piece0 => exact of_piece _ T _ _ 1152 _ (by decide) (by omega) (k1_at T _ _) r d y e0 (by have h' : 128 * h.val + d.val = 128 + (y 1).val := e1; omega) y1_lt (by decide) (by omega)
  case piece1 => exact of_piece _ T _ _ 1024 _ (by decide) (by omega) (k0_at T _ _) r d y e0 (by have h' : 128 * h.val + d.val = (y 1).val := e1; omega) y1_lt (by decide) (by omega)

/-- The weight's column behind a column of the carried copy. -/
def wcol (j : ℕ) : ℕ := if j < 1536 then j else swap (j - 1536)

/-- It is a column of the weight. -/
theorem wcol_lt (j : Fin 2816) : wcol j < 1536 := by
  have h := j.isLt
  unfold wcol
  split
  · assumption
  · exact swap_lt ⟨j.val - 1536, by omega⟩

/-- The carried copy: the weight and its columns' partners. -/
def wide (w : Vec Ideal S1024x1536 .f32) : Vec Ideal S1024x2816 .bf16 :=
  View.canon [⟨Rect.unit ![0, 1536] ![1024, 1280] inb_S1024x2816_S1024x1280_0_1536, k0_pay6 w⟩,
    ⟨Rect.unit ![0, 0] ![1024, 1536] inb_S1024x2816_S1024x1536_0_0, k0_pay5 w⟩]

/-- The carried copy at an entry. -/
theorem wide_at (w : Vec Ideal S1024x1536 .f32) (k : Fin 1024) (j : Fin 2816) : wide w (ix2 k j) = w (ix2 k ⟨wcol j, wcol_lt j⟩) := by
  unfold wide
  canon_tiles y e using View.cover_of_tiledBy _ ![1024, 256] (by sl_kernel_rfl) _
  case piece0 =>
    idx_vars y
    have h0 : k.val = y0.val := e0
    have h1 : j.val = 1536 + y1.val := e1
    refine (pair_at w y0 y1).trans ?_
    exact congrArg₂ (fun a b => w (ix2 a b)) (Fin.ext h0.symm) (Fin.ext (by dsimp only [wcol]; rw [if_neg (by omega), h1, Nat.add_sub_cancel_left]))
  case piece1 =>
    idx_vars y
    have h0 : k.val = y0.val := e0
    have h1 : j.val = y1.val := e1
    refine (word_at w y0 y1).trans ?_
    exact congrArg₂ (fun a b => w (ix2 a b)) (Fin.ext h0.symm) (Fin.ext (by dsimp only [wcol]; rw [if_pos (by omega), h1]))

/-- The block of values at an entry. -/
theorem outV_at (T : FVec Ideal S1024x2816 .f32) (r : Fin 1024) (j : Fin 256) :
    k0_pay3 T (ix2 r j) = T (ix2 r ⟨1280 + j, by omega⟩) := by
  pointwise [k0_pay3]

end Cert.RopeIdeal.Fold
end
-- ==== Proof.RopeAlg.lean ====
/- A common factor of two products: the root mean square factor of a head is nonnegative and finite, so it multiplies a sum term by term. -/
module

public import proofs.«01_k».proof.Proof.RowNorm

@[expose] public section

noncomputable section

namespace Cert.RowNorm

open Idealize.ShloMosaic

/-- A square is not negative. -/
theorem square_nonneg (t : EReal) : 0 ≤ t * t := by
  induction t with
  | bot => simp
  | coe r => exact_mod_cast mul_self_nonneg r
  | top => simp

/-- The count of a head's entries. -/
theorem count_eq : Ideal.ofBits .f32 0x43000000#32 = ((128 : ℝ) : EReal) := by
  simp [Ideal.ofBits, Ideal.ieee, -EReal.coe_mul]; norm_num

/-- The small number added to the mean is a positive real. -/
theorem small_pos : ∃ e : ℝ, 0 < e ∧ Ideal.ofBits .f32 0x358637BD#32 = (e : EReal) := by
  refine ⟨_, ?_, by simp [Ideal.ofBits, Ideal.ieee, -EReal.coe_mul]; rfl⟩
  norm_num

/-- The factor of a positive number is not negative and finite. -/
theorem rsqrt_range (a : EReal) (ha : 0 < a) : 0 ≤ Ideal.rsqrt a ∧ Ideal.rsqrt a ≠ ⊤ := by
  induction a with
  | bot => simp at ha
  | coe r =>
    have hr : 0 < r := by exact_mod_cast ha
    rw [Ideal.rsqrt_coe, if_neg (not_lt.mpr hr.le), if_neg hr.ne']
    exact ⟨by exact_mod_cast inv_nonneg.mpr (Real.sqrt_nonneg r), EReal.coe_ne_top _⟩
  | top => simp

/-- The factor of a head is not negative and finite. -/
theorem inv_range (f : Fin 128 → EReal) : 0 ≤ inv 0x43000000#32 (∑ l, f l * f l) ∧ inv 0x43000000#32 (∑ l, f l * f l) ≠ ⊤ := by
  obtain ⟨e, he, h⟩ := small_pos
  refine rsqrt_range _ ?_
  rw [h, count_eq, Ideal.div, if_neg (by norm_num)]
  have h0 : (0 : EReal) ≤ (∑ l, f l * f l) * ((128 : ℝ) : EReal)⁻¹ :=
    mul_nonneg (Finset.sum_nonneg fun l _ => square_nonneg (f l)) (EReal.inv_nonneg_of_nonneg (by norm_num))
  have h1 : (0 : EReal) < (e : EReal) := by exact_mod_cast he
  exact lt_of_lt_of_le h1 (le_add_of_nonneg_left h0)

/-- The factor taken into the two products. -/
theorem spread (q p a b g g' i : EReal) (h : 0 ≤ i ∧ i ≠ ⊤) :
    (q * (a * g) + p * (b * g')) * i = q * i * g * a + p * i * g' * b := by
  rw [EReal.right_distrib_of_nonneg_of_ne_top h.1 h.2]
  congr 1 <;> ac_rfl

end Cert.RowNorm
end
-- ==== Proof.RopeArray.lean ====
/- The latent projection's three result arrays: each point's blocks read off the arguments, and every entry the reference's. -/
module

public import proofs.«01_k».proof.Proof.RopeFold
public import proofs.«01_k».proof.Proof.RopeRef
public import proofs.«01_k».proof.Proof.RopeAlg

@[expose] public section

set_option maxRecDepth 65536

noncomputable section

namespace Cert.RopeIdeal.Fold

open Idealize.ShloMosaic Idealize.ShloMosaic.TcCoe Idealize.SL.Sem
open Cert.RowNorm
open Cert.RopeIdeal Cert.RopeIdeal.Gen
open Cert.RopeRefIdeal
open Cert.RopeRefIdeal.Stage (mate ang sgnSin quarter angR angC)

variable (m : (ℓ : Loc nD τ sig) → Buf (Elt Ideal) ℓ)

/-- The windows' blocks by the grid's point, a band of 1024 rows: four points to a request. -/
theorem idx : ∀ t : Fin cfg0.N, win0_0.index t = ![t.val, 0]
    ∧ win0_1.index t = ![0, 1 + t.val / 4, 0, 0]
    ∧ win0_2.index t = ![0, 0]
    ∧ win0_3.index t = ![0, 0]
    ∧ win0_4.index t = ![0, 0]
    ∧ win0_5.index t = ![0, 0]
    ∧ win0_6.index t = ![t.val % 4, 0]
    ∧ win0_7.index t = ![t.val % 4, 0]
    ∧ win0_8.index t = ![t.val, 0]
    ∧ win0_9.index t = ![t.val, 0]
    ∧ win0_10.index t = ![t.val, 0] :=
  (by decide +kernel : ∀ t : Fin grid0.N, _)

/-- Device `c`'s six argument arrays. -/
abbrev argX (c : Dev nD) : FVec Ideal S2x4096x1024 .f32 := m ((c : Thread nD τ).loc main_arg0)
abbrev argM (c : Dev nD) : FVec Ideal S2x8x6x1024 .f32 := m ((c : Thread nD τ).loc main_arg1)
abbrev argN (c : Dev nD) : FVec Ideal S2x1024 .f32 := m ((c : Thread nD τ).loc main_arg2)
abbrev argW (c : Dev nD) : FVec Ideal S1x1024x1536 .f32 := m ((c : Thread nD τ).loc main_arg3)
abbrev argQ (c : Dev nD) : FVec Ideal S1x128 .f32 := m ((c : Thread nD τ).loc main_arg4)
abbrev argK (c : Dev nD) : FVec Ideal S1x128 .f32 := m ((c : Thread nD τ).loc main_arg5)

/-- The staged rows are the argument's, one below another. -/
theorem V_x (c : Dev nD) (b : Fin 2) (r : Fin 4096) (k : Fin 1024) :
    (V m c main_v0 : FVec Ideal S8192x1024 .f32) (ix2 (⟨4096 * b + r, by omega⟩ : Fin 8192) k) = argX m c (ix3 b r k) := by
  unfold V
  after_results
  pointwise

/-- The staged gain is the argument's first row. -/
theorem V_n (c : Dev nD) (k : Fin 1024) : (V m c main_v3 : FVec Ideal S1x1024 .f32) (ix2 0 k) = argN m c (ix2 0 k) := by
  unfold V
  after_results
  pointwise

/-- The staged weight is the argument's, -/
theorem V_w (c : Dev nD) (k : Fin 1024) (j : Fin 1536) : (V m c main_v4 : FVec Ideal S1024x1536 .f32) (ix2 k j) = argW m c (ix3 0 k j) := by
  unfold V
  after_results
  pointwise

/-- the queries' staged gain -/
theorem V_qn (c : Dev nD) (d : Fin 128) : (V m c main_v6 : FVec Ideal S1x128 .f32) (ix2 0 d) = argQ m c (ix2 0 d) := by
  unfold V
  after_results
  pointwise

/-- and the keys'. -/
theorem V_kn (c : Dev nD) (d : Fin 128) : (V m c main_v8 : FVec Ideal S1x128 .f32) (ix2 0 d) = argK m c (ix2 0 d) := by
  unfold V
  after_results
  pointwise

/-- The table of cosines, by the reference's angles. -/
def cosTab : FVec Ideal S4096x128 .f32 :=
  concatenate S4096x128 1 [⟨S4096x32, Host.cos angR⟩, ⟨S4096x32, Host.cos angR⟩, ⟨S4096x32, Host.cos angC⟩, ⟨S4096x32, Host.cos angC⟩]
    concatenates_S4096x32_S4096x32_S4096x32_S4096x32_S4096x128_d1

/-- The table of signed sines, by the reference's angles. -/
def sinTab : FVec Ideal S4096x128 .f32 :=
  concatenate S4096x128 1 [⟨S4096x32, Host.negf (Host.sin angR)⟩, ⟨S4096x32, Host.sin angR⟩, ⟨S4096x32, Host.negf (Host.sin angC)⟩, ⟨S4096x32, Host.sin angC⟩]
    concatenates_S4096x32_S4096x32_S4096x32_S4096x32_S4096x128_d1

/-- The cosines' table at an entry, -/
theorem cosTab_at (s : Fin 4096) (d : Fin 128) : cosTab (ix2 s d) = Ideal.cos (ang s d) := by
  rcases quarter d with ⟨e, rfl⟩ | ⟨e, rfl⟩ | ⟨e, rfl⟩ | ⟨e, rfl⟩
  · have a : ang s ⟨e, by omega⟩ = angR (ix2 s e) := (if_pos (by dsimp only; omega)).trans (congrArg (fun z => angR (ix2 s z)) (Fin.ext (by dsimp only; omega)))
    rw [a]
    pointwise [cosTab]
  · have a : ang s ⟨32 + e, by omega⟩ = angR (ix2 s e) := (if_pos (by dsimp only; omega)).trans (congrArg (fun z => angR (ix2 s z)) (Fin.ext (by dsimp only; omega)))
    rw [a]
    pointwise [cosTab]
  · have a : ang s ⟨64 + e, by omega⟩ = angC (ix2 s e) := (if_neg (by dsimp only; omega)).trans (congrArg (fun z => angC (ix2 s z)) (Fin.ext (by dsimp only; omega)))
    rw [a]
    pointwise [cosTab]
    refine (dif_neg (by omega)).trans ((dif_neg (by omega)).trans ((dif_pos (by omega)).trans ?_))
    exact congrArg (fun z => Ideal.cos (angC (ix2 s z))) (Fin.ext (by dsimp only; omega))
  · have a : ang s ⟨64 + (32 + e), by omega⟩ = angC (ix2 s e) := (if_neg (by dsimp only; omega)).trans (congrArg (fun z => angC (ix2 s z)) (Fin.ext (by dsimp only; omega)))
    rw [a]
    pointwise [cosTab]
    refine (dif_neg (by omega)).trans ((dif_neg (by omega)).trans ((dif_neg (by omega)).trans ?_))
    exact congrArg (fun z => Ideal.cos (angC (ix2 s z))) (Fin.ext (by dsimp only; omega))

/-- and the signed sines'. -/
theorem sinTab_at (s : Fin 4096) (d : Fin 128) : sinTab (ix2 s d) = sgnSin s d := by
  rcases quarter d with ⟨e, rfl⟩ | ⟨e, rfl⟩ | ⟨e, rfl⟩ | ⟨e, rfl⟩
  · have a : ang s ⟨e, by omega⟩ = angR (ix2 s e) := (if_pos (by dsimp only; omega)).trans (congrArg (fun z => angR (ix2 s z)) (Fin.ext (by dsimp only; omega)))
    have g : sgnSin s ⟨e, by omega⟩ = -Ideal.sin (ang s ⟨e, by omega⟩) := if_pos (by dsimp only; omega)
    rw [g, a]
    pointwise [sinTab]
  · have a : ang s ⟨32 + e, by omega⟩ = angR (ix2 s e) := (if_pos (by dsimp only; omega)).trans (congrArg (fun z => angR (ix2 s z)) (Fin.ext (by dsimp only; omega)))
    have g : sgnSin s ⟨32 + e, by omega⟩ = Ideal.sin (ang s ⟨32 + e, by omega⟩) := if_neg (by dsimp only; omega)
    rw [g, a]
    pointwise [sinTab]
  · have a : ang s ⟨64 + e, by omega⟩ = angC (ix2 s e) := (if_neg (by dsimp only; omega)).trans (congrArg (fun z => angC (ix2 s z)) (Fin.ext (by dsimp only; omega)))
    have g : sgnSin s ⟨64 + e, by omega⟩ = -Ideal.sin (ang s ⟨64 + e, by omega⟩) := if_pos (by dsimp only; omega)
    rw [g, a]
    pointwise [sinTab]
    refine (dif_neg (by omega)).trans ((dif_neg (by omega)).trans ((dif_pos (by omega)).trans ?_))
    exact congrArg (fun z => -Ideal.sin (angC (ix2 s z))) (Fin.ext (by dsimp only; omega))
  · have a : ang s ⟨64 + (32 + e), by omega⟩ = angC (ix2 s e) := (if_neg (by dsimp only; omega)).trans (congrArg (fun z => angC (ix2 s z)) (Fin.ext (by dsimp only; omega)))
    have g : sgnSin s ⟨64 + (32 + e), by omega⟩ = Ideal.sin (ang s ⟨64 + (32 + e), by omega⟩) := if_neg (by dsimp only; omega)
    rw [g, a]
    pointwise [sinTab]
    refine (dif_neg (by omega)).trans ((dif_neg (by omega)).trans ((dif_neg (by omega)).trans ?_))
    exact congrArg (fun z => Ideal.sin (angC (ix2 s z))) (Fin.ext (by dsimp only; omega))

/-- The staged cosines are the table, -/
theorem V_cosTab (c : Dev nD) : V m c main_v36 = cosTab := by
  unfold V cosTab
  after_results
  rfl

/-- and the staged sines theirs. -/
theorem V_sinTab (c : Dev nD) : V m c main_v43 = sinTab := by
  unfold V sinTab
  after_results
  rfl

/-- The staged cosines at an entry are those of the reference's angles, -/
theorem V_cos (c : Dev nD) (s : Fin 4096) (d : Fin 128) : (V m c main_v36 : FVec Ideal S4096x128 .f32) (ix2 s d) = Ideal.cos (ang s d) :=
  (congrFun (V_cosTab m c) (ix2 s d)).trans (cosTab_at s d)

/-- and the staged sines those of the signed angles. -/
theorem V_sin (c : Dev nD) (s : Fin 4096) (d : Fin 128) : (V m c main_v43 : FVec Ideal S4096x128 .f32) (ix2 s d) = sgnSin s d :=
  (congrFun (V_sinTab m c) (ix2 s d)).trans (sinTab_at s d)

/-- The rows' block at a point. -/
theorem blk_0 (c : Dev nD) (t : Fin cfg0.N) (r : Fin 1024) (k : Fin 1024) (b : Fin 2) (r' : Fin 4096) (h : 1024 * t.val + r = 4096 * b + r') :
    (iblk m c 0 t : Vec Ideal S1024x1024 .f32) (ix2 r k) = argX m c (ix3 b r' k) := by
  refine Eq.trans ?_ (V_x m c b r' k)
  blk_ext [iblk, idx t]

/-- The modulations' block holds the request's rows. -/
theorem blk_1 (c : Dev nD) (t : Fin cfg0.N) (a : Fin 6) (k : Fin 1024) (b : Fin 2) (h : t.val / 4 = b) :
    (iblk m c 1 t : Vec Ideal S1x1x6x1024 .f32) (ix4 0 0 a k) = argM m c (ix4 0 ⟨1 + b, by omega⟩ a k) := by
  blk_ext [iblk, V, idx t]

/-- The norm's gain. -/
theorem blk_2 (c : Dev nD) (t : Fin cfg0.N) (k : Fin 1024) :
    (iblk m c 2 t : Vec Ideal S1x1024 .f32) (ix2 0 k) = argN m c (ix2 0 k) := by
  refine Eq.trans ?_ (V_n m c k)
  blk_ext [iblk, idx t]

/-- The weight. -/
theorem blk_3 (c : Dev nD) (t : Fin cfg0.N) (k : Fin 1024) (j : Fin 1536) :
    (iblk m c 3 t : Vec Ideal S1024x1536 .f32) (ix2 k j) = argW m c (ix3 0 k j) := by
  refine Eq.trans ?_ (V_w m c k j)
  blk_ext [iblk, idx t]

/-- The queries' gain. -/
theorem blk_4 (c : Dev nD) (t : Fin cfg0.N) (d : Fin 128) :
    (iblk m c 4 t : Vec Ideal S1x128 .f32) (ix2 0 d) = argQ m c (ix2 0 d) := by
  refine Eq.trans ?_ (V_qn m c d)
  blk_ext [iblk, idx t]

/-- The keys' gain. -/
theorem blk_5 (c : Dev nD) (t : Fin cfg0.N) (d : Fin 128) :
    (iblk m c 5 t : Vec Ideal S1x128 .f32) (ix2 0 d) = argK m c (ix2 0 d) := by
  refine Eq.trans ?_ (V_kn m c d)
  blk_ext [iblk, idx t]

/-- The cosines of the rows' places in their request, -/
theorem blk_6 (c : Dev nD) (t : Fin cfg0.N) (r : Fin 1024) (d : Fin 128) (s : Fin 4096) (h : 1024 * (t.val % 4) + r = s) :
    (iblk m c 6 t : Vec Ideal S1024x128 .f32) (ix2 r d) = Ideal.cos (ang s d) := by
  refine Eq.trans ?_ (V_cos m c s d)
  blk_ext [iblk, idx t]

/-- and their signed sines. -/
theorem blk_7 (c : Dev nD) (t : Fin cfg0.N) (r : Fin 1024) (d : Fin 128) (s : Fin 4096) (h : 1024 * (t.val % 4) + r = s) :
    (iblk m c 7 t : Vec Ideal S1024x128 .f32) (ix2 r d) = sgnSin s d := by
  refine Eq.trans ?_ (V_sin m c s d)
  blk_ext [iblk, idx t]

/-- The rounded weight and its columns' partners, carried from point to point, are the first point's copy of the argument's columns. -/
theorem word_eq (c : Dev nD) : ∀ (n : ℕ) (hn : n < cfg0.N) (k : Fin 1024) (j : Fin 2816),
    ((outsAt0 m c n hn).2.2.2 : Vec Ideal S1024x2816 .bf16) (ix2 k j) = argW m c (ix3 0 k ⟨wcol j, wcol_lt j⟩)
  | 0, hn, k, j => by
    rw [outsAt0_A m c ⟨0, hn⟩ rfl]
    dsimp only
    frame_out
    refine Eq.trans ?_ ((wide_at (iblk m c 3 ⟨0, hn⟩) k j).trans (blk_3 m c _ k _))
    rfl
  | n + 1, hn, k, j => by
    have hN : cfg0.N = 8 := by decide
    rw [outsAt0_B m c ⟨n + 1, hn⟩ (by dsimp only; omega)]
    dsimp only
    exact word_eq c n (by omega) k j

/-- The product a point works with. -/
def mid (c : Dev nD) (t : Fin cfg0.N) (w : Vec Ideal S1024x2816 .bf16) : FVec Ideal S1024x2816 .f32 :=
  k0_pay7 (iblk m c 1 t) (iblk m c 0 t) (iblk m c 2 t) w

/-- The reference's product. -/
abbrev PROJ (c : Dev nD) : FVec Ideal S2x4096x1536 .f32 := Stage.proj (Stage.hid (argX m c) (argM m c) (argN m c)) (argW m c)

/-- The point's product holds the reference's columns and their partners, at the rows' places. -/
theorem mid_eq (c : Dev nD) (t : Fin cfg0.N) (w : Vec Ideal S1024x2816 .bf16) (hw : ∀ k j, w (ix2 k j) = argW m c (ix3 0 k ⟨wcol j, wcol_lt j⟩))
    (r : Fin 1024) (j : Fin 2816) (b : Fin 2) (r' : Fin 4096) (h : 1024 * t.val + r = 4096 * b + r') :
    mid m c t w (ix2 r j) = PROJ m c (ix3 b r' ⟨wcol j, wcol_lt j⟩) := by
  have hb : t.val / 4 = b := by omega
  unfold mid
  refine (prod_at _ _ _ _ _ _).trans (Eq.trans ?_ (Stage.proj_at _ _ _ _ _).symm)
  refine Finset.sum_congr rfl fun (k : Fin 1024) _ => congrArg₂ (fun y z : EReal => y * z) ?_ (hw k j)
  rw [Stage.hid_at, blk_0 m c t r k b r' h, blk_1 m c t 1 k b hb, blk_1 m c t 0 k b hb, blk_2, ← mul_assoc]
  refine congrArg (fun z : EReal => argX m c (ix3 b r' k) * inv 0x44800000#32 z * _ * _ + _) ?_
  exact Finset.sum_congr rfl fun (l : Fin 1024) _ => congrArg₂ (fun y z : EReal => y * z) (blk_0 m c t r l b r' h) (blk_0 m c t r l b r' h)

/-- A column of the weight stands at its own place, -/
theorem mid_col (c : Dev nD) (t : Fin cfg0.N) (w : Vec Ideal S1024x2816 .bf16) (hw : ∀ k j, w (ix2 k j) = argW m c (ix3 0 k ⟨wcol j, wcol_lt j⟩))
    (r : Fin 1024) (j : ℕ) (hj : j < 1536) (b : Fin 2) (r' : Fin 4096) (h : 1024 * t.val + r = 4096 * b + r') :
    mid m c t w (ix2 r ⟨j, by omega⟩) = PROJ m c (ix3 b r' ⟨j, hj⟩) :=
  (mid_eq m c t w hw r _ b r' h).trans (congrArg (fun z => PROJ m c (ix3 b r' z)) (Fin.ext (if_pos hj)))

/-- and its partner 1536 columns further. -/
theorem mid_mate (c : Dev nD) (t : Fin cfg0.N) (w : Vec Ideal S1024x2816 .bf16) (hw : ∀ k j, w (ix2 k j) = argW m c (ix3 0 k ⟨wcol j, wcol_lt j⟩))
    (r : Fin 1024) (o : ℕ) (ho : o + 128 ≤ 1280) (h8 : o % 128 = 0) (d : Fin 128) (b : Fin 2) (r' : Fin 4096) (h : 1024 * t.val + r = 4096 * b + r') :
    mid m c t w (ix2 r ⟨1536 + o + d, by omega⟩) = PROJ m c (ix3 b r' ⟨o + mate d, by omega⟩) := by
  refine (mid_eq m c t w hw r _ b r' h).trans (congrArg (fun z => PROJ m c (ix3 b r' z)) (Fin.ext ?_))
  show wcol (1536 + o + d) = o + (mate d).val
  unfold wcol swap
  rw [if_neg (by omega)]
  by_cases hd : d.val % 64 < 32
  · rw [if_pos (by omega), show mate d = ⟨d.val + 32, by omega⟩ from dif_pos hd]
    dsimp only
    omega
  · rw [if_neg (by omega), show mate d = ⟨d.val - 32, by omega⟩ from dif_neg hd]
    dsimp only
    omega

/-- The carried copy as the first point loads it back. -/
def back (w : Vec Ideal S1024x1536 .f32) : Vec Ideal S1024x2816 .bf16 :=
  (View.whole cc0_scratch0).readCov
    [⟨Rect.unit ![0, 1536] ![1024, 1280] inb_S1024x2816_S1024x1280_0_1536, k0_pay6 w⟩,
      ⟨Rect.unit ![0, 0] ![1024, 1536] inb_S1024x2816_S1024x1536_0_0, k0_pay5 w⟩]
    (Rect.unit ![0, 0] ![1024, 2816] inb_S1024x2816_S1024x2816_0_0).toLoadRect

/-- The copy loaded back is the copy. -/
theorem back_at (w : Vec Ideal S1024x1536 .f32) (k : Fin 1024) (j : Fin 2816) : back w (ix2 k j) = w (ix2 k ⟨wcol j, wcol_lt j⟩) := by
  refine Eq.trans ?_ (wide_at w k j)
  exact congrFun ((View.readCov_eq_canon_ld (View.whole cc0_scratch0) _ (Rect.unit ![0, 0] ![1024, 2816] inb_S1024x2816_S1024x2816_0_0)
    (View.cover_of_tiledBy _ ![1024, 256] (by sl_kernel_rfl))).trans
      (View.ld_unit_zero (S := S1024x2816) (funext fun a => by fin_cases a <;> rfl) _ _)) (ix2 k j)

/-- The three blocks a point leaves, at a carried weight that is the argument's. -/
theorem outs_eq (c : Dev nD) (t : Fin cfg0.N) : ∃ w : Vec Ideal S1024x2816 .bf16, (∀ k j, w (ix2 k j) = argW m c (ix3 0 k ⟨wcol j, wcol_lt j⟩))
    ∧ (outsAt0 m c t.val t.isLt).1 = outQ (mid m c t w) (iblk m c 4 t) (iblk m c 6 t) (iblk m c 7 t)
    ∧ (outsAt0 m c t.val t.isLt).2.1 = outK (mid m c t w) (iblk m c 5 t) (iblk m c 6 t) (iblk m c 7 t)
    ∧ (outsAt0 m c t.val t.isLt).2.2.1 = k0_pay3 (mid m c t w) := by
  by_cases h : t.val % 8 = 0
  · refine ⟨back (iblk m c 3 t), fun k j => (back_at _ k j).trans (blk_3 m c t k _), ?_, ?_, ?_⟩
    all_goals
      rw [outsAt0_A m c t h]
      dsimp only
      frame_out <;> rfl
  · have e := (Memref.isWhole_whole cc0_scratch0).read_unread (Val := Elt Ideal)
      (outsAt0 m c (t.val - 1) (Nat.lt_of_le_of_lt (Nat.sub_le _ _) t.isLt)).2.2.2
    refine ⟨View.read (Elt Ideal) (Memref.whole cc0_scratch0).view ((Memref.isWhole_whole cc0_scratch0).unread
      (outsAt0 m c (t.val - 1) (Nat.lt_of_le_of_lt (Nat.sub_le _ _) t.isLt)).2.2.2), fun k j => (congrFun e (ix2 k j)).trans (word_eq m c _ _ k j), ?_, ?_, ?_⟩
    all_goals
      rw [outsAt0_B m c t h]
      dsimp only
      frame_out <;> rfl

/-- A turned head of the point's product: the normalised entry by its cosine and its partner by the signed sine. -/
theorem head_eq (c : Dev nD) (t : Fin cfg0.N) (w : Vec Ideal S1024x2816 .bf16) (hw : ∀ k j, w (ix2 k j) = argW m c (ix3 0 k ⟨wcol j, wcol_lt j⟩))
    (A B : FVec Ideal S1024x128 .f32) (g : FVec Ideal S1x128 .f32) (o : ℕ) (ho : o + 128 ≤ 1280) (h8 : o % 128 = 0) (r : Fin 1024) (d : Fin 128)
    (b : Fin 2) (r' : Fin 4096) (h : 1024 * t.val + r = 4096 * b + r')
    (hA : A (ix2 r d) = Ideal.cos (ang r' d) * g (ix2 0 d)) (hB : B (ix2 r d) = sgnSin r' d * g (ix2 0 (mate d))) :
    head (mid m c t w) A B o ho r d
      = PROJ m c (ix3 b r' ⟨o + d, by omega⟩) * inv 0x43000000#32 (∑ l : Fin 128, PROJ m c (ix3 b r' ⟨o + l, by omega⟩) * PROJ m c (ix3 b r' ⟨o + l, by omega⟩))
          * g (ix2 0 d) * Ideal.cos (ang r' d)
        + PROJ m c (ix3 b r' ⟨o + mate d, by omega⟩) * inv 0x43000000#32 (∑ l : Fin 128, PROJ m c (ix3 b r' ⟨o + l, by omega⟩) * PROJ m c (ix3 b r' ⟨o + l, by omega⟩))
          * g (ix2 0 (mate d)) * sgnSin r' d := by
  unfold head
  rw [hA, hB, mid_col m c t w hw r (o + d) (by omega) b r' h, mid_mate m c t w hw r o ho h8 d b r' h]
  rw [show (∑ l : Fin 128, mid m c t w (ix2 r ⟨o + l, by omega⟩) * mid m c t w (ix2 r ⟨o + l, by omega⟩))
      = ∑ l : Fin 128, PROJ m c (ix3 b r' ⟨o + l, by omega⟩) * PROJ m c (ix3 b r' ⟨o + l, by omega⟩) from
    Finset.sum_congr rfl fun (l : Fin 128) _ => congrArg₂ (fun y z : EReal => y * z)
      (mid_col m c t w hw r (o + l) (by omega) b r' h) (mid_col m c t w hw r (o + l) (by omega) b r' h)]
  exact spread _ _ _ _ _ _ _ (inv_range _)

/-- A query's head, turned, is the reference's. -/
theorem headQ_eq (c : Dev nD) (t : Fin cfg0.N) (w : Vec Ideal S1024x2816 .bf16) (hw : ∀ k j, w (ix2 k j) = argW m c (ix3 0 k ⟨wcol j, wcol_lt j⟩))
    (r : Fin 1024) (h : Fin 8) (d : Fin 128) (b : Fin 2) (r' : Fin 4096) (hr : 1024 * t.val + r = 4096 * b + r') :
    head (mid m c t w) (k0_pay10 (k0_pay8 (iblk m c 4 t)) (iblk m c 6 t)) (k0_pay12 (k0_pay8 (iblk m c 4 t)) (iblk m c 7 t)) (128 * h) (by omega) r d
      = Stage.axial8 (Stage.normQ (Stage.rawQ (PROJ m c)) (argQ m c)) (ix4 b r' h d) := by
  have hs : 1024 * (t.val % 4) + r = r' := by omega
  refine (head_eq m c t w hw _ _ (argQ m c) _ _ (by omega) r d b r' hr ?_ ?_).trans ?_
  · rw [cosQ_at, blk_6 m c t r d r' hs, blk_4]
  · rw [sinQ_at, blk_7 m c t r d r' hs, blk_4]
  · rw [Stage.axial8_at, Stage.normQ_at, Stage.normQ_at, Stage.rawQ_at, Stage.rawQ_at]
    refine congrArg (fun z : EReal => PROJ m c (ix3 b r' ⟨128 * h + d, by omega⟩) * inv 0x43000000#32 z * argQ m c (ix2 0 d) * Ideal.cos (ang r' d)
      + PROJ m c (ix3 b r' ⟨128 * h + mate d, by omega⟩) * inv 0x43000000#32 z * argQ m c (ix2 0 (mate d)) * sgnSin r' d) ?_
    exact Finset.sum_congr rfl fun (l : Fin 128) _ => by rw [Stage.rawQ_at]

/-- A key's head, turned, is the reference's. -/
theorem headK_eq (c : Dev nD) (t : Fin cfg0.N) (w : Vec Ideal S1024x2816 .bf16) (hw : ∀ k j, w (ix2 k j) = argW m c (ix3 0 k ⟨wcol j, wcol_lt j⟩))
    (r : Fin 1024) (h : Fin 2) (d : Fin 128) (b : Fin 2) (r' : Fin 4096) (hr : 1024 * t.val + r = 4096 * b + r') :
    head (mid m c t w) (k0_pay11 (k0_pay9 (iblk m c 5 t)) (iblk m c 6 t)) (k0_pay13 (k0_pay9 (iblk m c 5 t)) (iblk m c 7 t)) (1024 + 128 * h) (by omega) r d
      = Stage.axial2 (Stage.normK (Stage.rawK (PROJ m c)) (argK m c)) (ix4 b r' h d) := by
  have hs : 1024 * (t.val % 4) + r = r' := by omega
  refine (head_eq m c t w hw _ _ (argK m c) _ _ (by omega) r d b r' hr ?_ ?_).trans ?_
  · rw [cosK_at, blk_6 m c t r d r' hs, blk_5]
  · rw [sinK_at, blk_7 m c t r d r' hs, blk_5]
  · rw [Stage.axial2_at, Stage.normK_at, Stage.normK_at, Stage.rawK_at, Stage.rawK_at]
    refine congrArg (fun z : EReal => PROJ m c (ix3 b r' ⟨1024 + 128 * h + d, by omega⟩) * inv 0x43000000#32 z * argK m c (ix2 0 d) * Ideal.cos (ang r' d)
      + PROJ m c (ix3 b r' ⟨1024 + 128 * h + mate d, by omega⟩) * inv 0x43000000#32 z * argK m c (ix2 0 (mate d)) * sgnSin r' d) ?_
    exact Finset.sum_congr rfl fun (l : Fin 128) _ => by rw [Stage.rawK_at]

/-- The reference's terms over the kernel's arguments. -/
abbrev REFQ (c : Dev nD) : FVec Ideal S8192x1024 .bf16 := Stage.resQ (argX m c) (argM m c) (argN m c) (argW m c) (argQ m c)
abbrev REFK (c : Dev nD) : FVec Ideal S8192x256 .bf16 := Stage.resK (argX m c) (argM m c) (argN m c) (argW m c) (argK m c)
abbrev REFV (c : Dev nD) : FVec Ideal S8192x256 .bf16 := Stage.resV (argX m c) (argM m c) (argN m c) (argW m c)

/-- **The queries** are the reference's. -/
theorem finalQ (c : Dev nD) : (dats m 0 c).arrAt 8 (cfgs 0).N = REFQ m c := by
  refine (dats m 0 c).arrAt_eq_of_covers 8 _ (by decide +kernel) fun t _ y => ?_
  blk_simp
  rw [after0_8]
  obtain ⟨w, hw, hQ, -, -⟩ := outs_eq m c t
  rw [hQ]
  idx_vars y
  have ht : t.val < 8 := lt_of_lt_of_eq t.isLt (by decide)
  have h := (outQ_at (mid m c t w) (iblk m c 4 t) (iblk m c 6 t) (iblk m c 7 t) y0 (⟨y1 / 128, by omega⟩ : Fin 8) (⟨y1 % 128, by omega⟩ : Fin 128)).trans
    ((headQ_eq m c t w hw y0 (⟨y1 / 128, by omega⟩ : Fin 8) (⟨y1 % 128, by omega⟩ : Fin 128) (⟨(1024 * t.val + y0) / 4096, by omega⟩ : Fin 2)
      (⟨(1024 * t.val + y0) % 4096, by omega⟩ : Fin 4096) (by dsimp only; omega)).trans (Stage.resQ_at _ _ _ _ _ _ _ _ _).symm)
  rw [show (⟨128 * (⟨y1 / 128, by omega⟩ : Fin 8) + (⟨y1 % 128, by omega⟩ : Fin 128), by dsimp only; omega⟩ : Fin 1024) = y1 from
    Fin.ext (by dsimp only; omega)] at h
  refine h.trans ?_
  blk_ext [idx t]

/-- **The keys** are the reference's. -/
theorem finalK (c : Dev nD) : (dats m 0 c).arrAt 9 (cfgs 0).N = REFK m c := by
  refine (dats m 0 c).arrAt_eq_of_covers 9 _ (by decide +kernel) fun t _ y => ?_
  blk_simp
  rw [after0_9]
  obtain ⟨w, hw, -, hK, -⟩ := outs_eq m c t
  rw [hK]
  idx_vars y
  have ht : t.val < 8 := lt_of_lt_of_eq t.isLt (by decide)
  have h := (outK_at (mid m c t w) (iblk m c 5 t) (iblk m c 6 t) (iblk m c 7 t) y0 (⟨y1 / 128, by omega⟩ : Fin 2) (⟨y1 % 128, by omega⟩ : Fin 128)).trans
    ((headK_eq m c t w hw y0 (⟨y1 / 128, by omega⟩ : Fin 2) (⟨y1 % 128, by omega⟩ : Fin 128) (⟨(1024 * t.val + y0) / 4096, by omega⟩ : Fin 2)
      (⟨(1024 * t.val + y0) % 4096, by omega⟩ : Fin 4096) (by dsimp only; omega)).trans (Stage.resK_at _ _ _ _ _ _ _ _ _).symm)
  rw [show (⟨128 * (⟨y1 / 128, by omega⟩ : Fin 2) + (⟨y1 % 128, by omega⟩ : Fin 128), by dsimp only; omega⟩ : Fin 256) = y1 from
    Fin.ext (by dsimp only; omega)] at h
  refine h.trans ?_
  blk_ext [idx t]

/-- **The values** are the reference's. -/
theorem finalV (c : Dev nD) : (dats m 0 c).arrAt 10 (cfgs 0).N = REFV m c := by
  refine (dats m 0 c).arrAt_eq_of_covers 10 _ (by decide +kernel) fun t _ y => ?_
  blk_simp
  rw [after0_10]
  obtain ⟨w, hw, -, -, hV⟩ := outs_eq m c t
  rw [hV]
  idx_vars y
  have ht : t.val < 8 := lt_of_lt_of_eq t.isLt (by decide)
  have h := (outV_at (mid m c t w) y0 y1).trans ((mid_col m c t w hw y0 (1280 + y1) (by omega) (⟨(1024 * t.val + y0) / 4096, by omega⟩ : Fin 2)
    (⟨(1024 * t.val + y0) % 4096, by omega⟩ : Fin 4096) (by dsimp only; omega)).trans (Stage.resV_at (argX m c) (argM m c) (argN m c) (argW m c) _ _ y1).symm)
  refine h.trans ?_
  blk_ext [idx t]

end Cert.RopeIdeal.Fold
end
-- ==== Proof.RopeClaims.lean ====
/- The latent projection's claims, from its run and its values. -/
module

public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal.Run
public import proofs.«01_k».proof.Proof.RopeArray
public import proofs.«01_k».proof.Defs
public import Idealize.ShloMosaic.Adequacy

@[expose] public section

set_option maxRecDepth 65536

noncomputable section

namespace Cert.Proof

open Idealize.ShloMosaic Idealize.SL.Sem

/-- The reference runs and leaves its arguments alone. -/
theorem frame_ropeRef : Cert.quiescent_RopeRefIdeal := fun m ρ _ =>
  (θ_run Cert.RopeRefIdeal.defs _ _).mono (fun r h => ⟨fun c => (h c).2.2.2, sem_eq_zero_of_no_sems (by decide) r.2⟩)
    (Cert.RopeRefIdeal.Value.run (F := Ideal) m ρ)

set_option maxHeartbeats 1000000 in
/-- The kernel and the reference end with the same three arrays. -/
theorem algebraic_rope : Cert.algebraic_RopeIdeal_RopeRefIdeal := by
  pair_intro
  · run_from Cert.RopeIdeal.Gen.run_main m g
  · refine θ_run_mono (Cert.RopeRefIdeal.Stage.run m' g') fun r hr c => ?_
    have a0 := (hagree c).1
    have a1 := (hagree c).2.1
    have a2 := (hagree c).2.2.1
    have a3 := (hagree c).2.2.2.1
    have a4 := (hagree c).2.2.2.2.1
    have a5 := (hagree c).2.2.2.2.2
    exact ⟨((hr c).1.trans (by rw [a0, a1, a2, a3, a4])).trans (Cert.RopeIdeal.Fold.finalQ m c).symm,
      ((hr c).2.1.trans (by rw [a0, a1, a2, a3, a5])).trans (Cert.RopeIdeal.Fold.finalK m c).symm,
      ((hr c).2.2.1.trans (by rw [a0, a1, a2, a3])).trans (Cert.RopeIdeal.Fold.finalV m c).symm, (hr c).2.2.2⟩

end Cert.Proof
end
-- ==== Proof.lean ====
/- The proof of the certificate's claim: the claims of each pair of programs come from their own module. -/
module

public import proofs.«01_k».proof.Defs
public import proofs.«01_k».proof.Proof.LatClaims
public import proofs.«01_k».proof.Proof.FfnClaims
public import proofs.«01_k».proof.Proof.QkvClaims
public import proofs.«01_k».proof.Proof.RopeClaims
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame

@[expose] public section

noncomputable section

namespace Cert.Proof

open Idealize.ShloMosaic Idealize.SL.Sem

/-- Every claim of the certificate. -/
theorem claim : Cert.Claim := ⟨Cert.Lat.Gen.facts, Cert.LatIdeal.Gen.facts, Cert.LatRefIdeal.Gen.facts, Cert.Ffn.Gen.facts,
  Cert.FfnIdeal.Gen.facts, Cert.FfnRefIdeal.Gen.facts,
  Cert.Qkv.Gen.facts, Cert.QkvIdeal.Gen.facts, Cert.QkvRefIdeal.Gen.facts,
  Cert.Rope.Gen.facts, Cert.RopeIdeal.Gen.facts, Cert.RopeRefIdeal.Gen.facts, Cert.Pre_finite.Gen.facts,
  fun m ρ _ => Cert.Lat.Gen.frame m ρ,
  fun m ρ _ => Cert.LatIdeal.Gen.frame m ρ,
  fun m ρ _ => Cert.LatIdeal.Gen.frame m ρ,
  frame_latRef,
  fun m ρ _ => frame_latRef m ρ trivial,
  frame_ffn,
  frame_ffnIdeal,
  frame_ffnRef,
  fun m ρ _ => Cert.Qkv.Gen.frame m ρ,
  fun m ρ _ => Cert.QkvIdeal.Gen.frame m ρ,
  frame_qkvRef,
  fun m ρ _ => Cert.Rope.Gen.frame m ρ,
  fun m ρ _ => Cert.RopeIdeal.Gen.frame m ρ,
  frame_ropeRef,
  trivial,
  algebraic_lat,
  trivial,
  algebraic_ffn,
  trivial,
  algebraic_qkv,
  trivial,
  algebraic_rope⟩

end Cert.Proof

end
